-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v40) = v2 c
          ∧ r.2.mem ((c.tc : Thread Cert.Reference3Ideal.nD Cert.Reference3Ideal.τ).loc Cert.Reference3Ideal.main_v41) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)) (v3 : (c : Dev Cert.Kernel5Ideal.nD) → Buf (Elt Ideal) ((c.tc : Thread Cert.Kernel5Ideal.nD Cert.Kernel5Ideal.τ).loc Cert.Kernel5Ideal.main_v2_3)) (v4 : (c : Dev Cert.Kernel5Ideal.nD) → Buf (Elt Ideal) ((c.tc : Thread Cert.Kernel5Ideal.nD Cert.Kernel5Ideal.τ).loc Cert.Kernel5Ideal.main_v2_4)) (v5 : (c : Dev Cert.Kernel5Ideal.nD) → Buf (Elt Ideal) ((c.tc : Thread Cert.Kernel5Ideal.nD Cert.Kernel5Ideal.τ).loc Cert.Kernel5Ideal.main_v2_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_v2_3) = v3 c
          ∧ r.2.mem ((c.tc : Thread Cert.Kernel5Ideal.nD Cert.Kernel5Ideal.τ).loc Cert.Kernel5Ideal.main_v2_4) = v4 c
          ∧ r.2.mem ((c.tc : Thread Cert.Kernel5Ideal.nD Cert.Kernel5Ideal.τ).loc Cert.Kernel5Ideal.main_v2_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_v16) = v2 c
          ∧ r.2.mem ((c.tc : Thread Cert.Reference5Ideal.nD Cert.Reference5Ideal.τ).loc Cert.Reference5Ideal.main_v17) = v3 c
          ∧ r.2.mem ((c.tc : Thread Cert.Reference5Ideal.nD Cert.Reference5Ideal.τ).loc Cert.Reference5Ideal.main_v18) = v4 c
          ∧ r.2.mem ((c.tc : Thread Cert.Reference5Ideal.nD Cert.Reference5Ideal.τ).loc Cert.Reference5Ideal.main_v14) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8x2048x2048 : Shape := ⟨3, ![8, 2048, 2048]⟩
abbrev S2048x5632 : Shape := ⟨2, ![2048, 5632]⟩
abbrev S5632x2048 : Shape := ⟨2, ![5632, 2048]⟩
abbrev S3x5632 : Shape := ⟨2, ![3, 5632]⟩
abbrev S5632 : Shape := ⟨1, ![5632]⟩
abbrev S2048 : Shape := ⟨1, ![2048]⟩
abbrev S1x5632 : Shape := ⟨2, ![1, 5632]⟩
abbrev S1x2048 : Shape := ⟨2, ![1, 2048]⟩
abbrev S1x512x2048 : Shape := ⟨3, ![1, 512, 2048]⟩
abbrev S1x16x2048 : Shape := ⟨3, ![1, 16, 2048]⟩
abbrev S2048x1024 : Shape := ⟨2, ![2048, 1024]⟩
abbrev S1024x2048 : Shape := ⟨2, ![1024, 2048]⟩
abbrev S3x1024 : Shape := ⟨2, ![3, 1024]⟩
abbrev S1x1024 : Shape := ⟨2, ![1, 1024]⟩
abbrev S528x2048 : Shape := ⟨2, ![528, 2048]⟩
abbrev S512x2048 : Shape := ⟨2, ![512, 2048]⟩
abbrev S16x2048 : Shape := ⟨2, ![16, 2048]⟩
abbrev S528x1024 : Shape := ⟨2, ![528, 1024]⟩
abbrev S512x1024 : Shape := ⟨2, ![512, 1024]⟩
abbrev S2048x512 : Shape := ⟨2, ![2048, 512]⟩
abbrev S528x512 : Shape := ⟨2, ![528, 512]⟩
abbrev S3x512 : Shape := ⟨2, ![3, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S8x2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S3x5632, .f32⟩
  | .hbm, ⟨5, _⟩ => ⟨S5632, .f32⟩
  | .hbm, ⟨6, _⟩ => ⟨S2048, .f32⟩
  | .hbm, ⟨7, _⟩ => ⟨S2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x5632, .f32⟩
  | .hbm, ⟨12, _⟩ => ⟨S1x2048, .f32⟩
  | .hbm, ⟨13, _⟩ => ⟨S1x2048, .f32⟩
  | .hbm, ⟨14, _⟩ => ⟨S8x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x16x2048, .f32⟩
  | .local _ .vmem, ⟨3, _⟩ => ⟨S1x16x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x2048, .bf16⟩
  | .local _ .vmem, ⟨9, _⟩ => ⟨S1024x2048, .bf16⟩
  | .local _ .vmem, ⟨10, _⟩ => ⟨S3x1024, .f32⟩
  | .local _ .vmem, ⟨11, _⟩ => ⟨S3x1024, .f32⟩
  | .local _ .vmem, ⟨12, _⟩ => ⟨S1x1024, .f32⟩
  | .local _ .vmem, ⟨13, _⟩ => ⟨S1x1024, .f32⟩
  | .local _ .vmem, ⟨14, _⟩ => ⟨S1x2048, .f32⟩
  | .local _ .vmem, ⟨15, _⟩ => ⟨S1x2048, .f32⟩
  | .local _ .vmem, ⟨16, _⟩ => ⟨S1x512x2048, .f32⟩
  | .local _ .vmem, ⟨17, _⟩ => ⟨S1x512x2048, .f32⟩
  | .local _ .vmem, ⟨18, _⟩ => ⟨S528x2048, .bf16⟩
  | .local _ .vmem, ⟨19, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![8, 4, 6], ![false, false, false]⟩

def k0_cond4 (i : grid0.Coords) : BitVec 1 :=
  let arg2 : BitVec 32 := BitVec.ofNat 32 (i 2).val
  let c5_i32 : BitVec 32 := 5#32
  let v3 : BitVec 1 := Scalar.cmpi .eq arg2 c5_i32
  let v9 : BitVec 32 := Scalar.extui v3
  let c0_i32_3 : BitVec 32 := 0#32
  let v10 : BitVec 1 := Scalar.cmpi .ne v9 c0_i32_3
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S8x2048x2048 : Shape := ⟨3, ![8, 2048, 2048]⟩
abbrev S2048x5632 : Shape := ⟨2, ![2048, 5632]⟩
abbrev S5632x2048 : Shape := ⟨2, ![5632, 2048]⟩
abbrev S3x5632 : Shape := ⟨2, ![3, 5632]⟩
abbrev S5632 : Shape := ⟨1, ![5632]⟩
abbrev S2048 : Shape := ⟨1, ![2048]⟩
abbrev S8x2048x5632 : Shape := ⟨3, ![8, 2048, 5632]⟩
abbrev S_ : Shape := ⟨0, ![]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S3x5632, .f32⟩
  | .hbm, ⟨5, _⟩ => ⟨S5632, .f32⟩
  | .hbm, ⟨6, _⟩ => ⟨S2048, .f32⟩
  | .hbm, ⟨7, _⟩ => ⟨S2048, .f32⟩
  | .hbm, ⟨8, _⟩ => ⟨S8x2048x5632, .f32⟩
  | .hbm, ⟨9, _⟩ => ⟨S_, .i32⟩
  | .hbm, ⟨10, _⟩ => ⟨S_, .f32⟩
  | .hbm, ⟨11, _⟩ => ⟨S8x2050x5632, .f32⟩
  | .hbm, ⟨12, _⟩ => ⟨S1x5632, .f32⟩
  | .hbm, ⟨13, _⟩ => ⟨S5632, .f32⟩
  | .hbm, ⟨14, _⟩ => ⟨S8x2048x5632, .f32⟩
  | .hbm, ⟨15, _⟩ => ⟨S1x1x5632, .f32⟩
  | .hbm, ⟨16, _⟩ => ⟨S8x2048x5632, .f32⟩
  | .hbm, ⟨17, _⟩ => ⟨S8x2048x5632, .f32⟩
  | .hbm, ⟨18, _⟩ => ⟨S_, .f32⟩
  | .hbm, ⟨19, _⟩ => ⟨S8x2048x5632, .f32⟩
  | .hbm, ⟨20, _⟩ => ⟨S8x2048x5632, .f32⟩
  | .hbm, ⟨21, _⟩ => ⟨S1x5632, .f32⟩
  | .hbm, ⟨22, _⟩ => ⟨S5632, .f32⟩
  | .hbm, ⟨23, _⟩ => ⟨S8x2048x5632, .f32⟩
  | .hbm, ⟨24, _⟩ => ⟨S1x1x5632, .f32⟩
  | .hbm, ⟨25, _⟩ => ⟨S8x2048x5632, .f32⟩
  | .hbm, ⟨26, _⟩ => ⟨S8x2048x5632, .f32⟩
  | .hbm, ⟨27, _⟩ => ⟨S8x2048x5632, .f32⟩
  | .hbm, ⟨28, _⟩ => ⟨S1x5632, .f32⟩
  | .hbm, ⟨29, _⟩ => ⟨S5632, .f32⟩
  | .hbm, ⟨30, _⟩ => ⟨S8x2048x5632, .f32⟩
  | .hbm, ⟨31, _⟩ => ⟨S1x1x5632, .f32⟩
  | .hbm, ⟨32, _⟩ => ⟨S8x2048x5632, .f32⟩
  | .hbm, ⟨33, _⟩ => ⟨S8x2048x5632, .f32⟩
  | .hbm, ⟨34, _⟩ => ⟨S8x2048x5632, .f32⟩
  | .hbm, ⟨35, _⟩ => ⟨S1x1x5632, .f32⟩
  | .hbm, ⟨36, _⟩ => ⟨S8x2048x5632, .f32⟩
  | .hbm, ⟨37, _⟩ => ⟨S8x2048x5632, .f32⟩
  | .hbm, ⟨38, _⟩ => ⟨S_, .f32⟩
  | .hbm, ⟨39, _⟩ => ⟨S8x2048x5632, .f32⟩
  | .hbm, ⟨40, _⟩ => ⟨S8x2048x5632, .f32⟩
  | .hbm, ⟨41, _⟩ => ⟨S8x2048x5632, .f32⟩
  | .hbm, ⟨42, _⟩ => ⟨S_, .f32⟩
  | .hbm, ⟨43, _⟩ => ⟨S8x2048x5632, .f32⟩
  | .hbm, ⟨44, _⟩ => ⟨S8x2048x5632, .f32⟩
  | .hbm, ⟨45, _⟩ => ⟨S8x2048x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S8x2048x2048, .f32⟩
  | .hbm, ⟨74, _⟩ => ⟨S8x2048x2048, .f32⟩
  | .hbm, ⟨75, _⟩ => ⟨S1x1x2048, .f32⟩
  | .hbm, ⟨76, _⟩ => ⟨S8x2048x2048, .f32⟩
  | .hbm, ⟨77, _⟩ => ⟨S8x2048x2048, .f32⟩
  | .hbm, ⟨78, _⟩ => ⟨S1x1x2048, .f32⟩
  | .hbm, ⟨79, _⟩ => ⟨S8x2048x2048, .f32⟩
  | .hbm, ⟨80, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_0 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_5 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x2048 : Shape := ⟨3, ![8, 2048, 2048]⟩
abbrev S2048x2048 : Shape := ⟨2, ![2048, 2048]⟩
abbrev S2048 : Shape := ⟨1, ![2048]⟩
abbrev S16384x1024 : Shape := ⟨2, ![16384, 1024]⟩
abbrev S16384x2048 : Shape := ⟨2, ![16384, 2048]⟩
abbrev S1x2048 : Shape := ⟨2, ![1, 2048]⟩
abbrev S512x1024 : Shape := ⟨2, ![512, 1024]⟩
abbrev S512x2048 : Shape := ⟨2, ![512, 2048]⟩
abbrev S128x1024 : Shape := ⟨2, ![128, 1024]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S16384x1024, .bf16⟩
  | .hbm, ⟨7, _⟩ => ⟨S16384x1024, .bf16⟩
  | .hbm, ⟨8, _⟩ => ⟨S16384x2048, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x1024 : Shape := ⟨3, ![8, 2048, 1024]⟩
abbrev S8x2048x2048 : Shape := ⟨3, ![8, 2048, 2048]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S8x2048x1024, .f32⟩
  | .hbm, ⟨7, _⟩ => ⟨S8x2048x1024, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S1x1x2048, .f32⟩
  | .hbm, ⟨36, _⟩ => ⟨S8x2048x2048, .f32⟩
  | .hbm, ⟨37, _⟩ => ⟨S8x2048x2048, .f32⟩
  | .hbm, ⟨38, _⟩ => ⟨S1x1x2048, .f32⟩
  | .hbm, ⟨39, _⟩ => ⟨S8x2048x2048, .f32⟩
  | .hbm, ⟨40, _⟩ => ⟨S8x2048x2048, .f32⟩
  | .hbm, ⟨41, _⟩ => ⟨S16384x2048, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel3.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1x64 : Shape := ⟨3, ![64, 1, 64]⟩
abbrev S64x1x1 : Shape := ⟨3, ![64, 1, 1]⟩

abbrev nBuf : Space → Nat
  | .hbm => 14
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S64x1x64, .f32⟩
  | .hbm, ⟨8, _⟩ => ⟨S64x1x64, .f32⟩
  | .hbm, ⟨9, _⟩ => ⟨S64x1x1, .f32⟩
  | .hbm, ⟨10, _⟩ => ⟨S64x1x64, .f32⟩
  | .hbm, ⟨11, _⟩ => ⟨S64x1x64, .f32⟩
  | .hbm, ⟨12, _⟩ => ⟨S64x16x64, .f32⟩
  | .hbm, ⟨13, _⟩ => ⟨S64x16x64, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x1x64, .f32⟩
  | .local _ .vmem, ⟨6, _⟩ => ⟨S64x1x64, .f32⟩
  | .local _ .vmem, ⟨7, _⟩ => ⟨S64x16x64, .f32⟩
  | .local _ .vmem, ⟨8, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference3Ideal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x1x64 : Shape := ⟨3, ![64, 1, 64]⟩
abbrev S64x16x64 : Shape := ⟨3, ![64, 16, 64]⟩

abbrev nBuf : Space → Nat
  | .hbm => 48
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64x1, .f32⟩
  | .hbm, ⟨31, _⟩ => ⟨S64x64x16, .f32⟩
  | .hbm, ⟨32, _⟩ => ⟨S64x64x16, .f32⟩
  | .hbm, ⟨33, _⟩ => ⟨S64x64x1, .f32⟩
  | .hbm, ⟨34, _⟩ => ⟨S64x64x16, .f32⟩
  | .hbm, ⟨35, _⟩ => ⟨S64x64x16, .f32⟩
  | .hbm, ⟨36, _⟩ => ⟨S64x64x16, .f32⟩
  | .hbm, ⟨37, _⟩ => ⟨S64x64x1, .f32⟩
  | .hbm, ⟨38, _⟩ => ⟨S64x64x16, .f32⟩
  | .hbm, ⟨39, _⟩ => ⟨S64x64x16, .f32⟩
  | .hbm, ⟨40, _⟩ => ⟨S64x64x1, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x1x64, .f32⟩
  | .hbm, ⟨45, _⟩ => ⟨S64x1x64, .f32⟩
  | .hbm, ⟨46, _⟩ => ⟨S64x16x64, .f32⟩
  | .hbm, ⟨47, _⟩ => ⟨S64x16x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Kernel4.lean ====
abbrev S8x16384x128 : Shape := ⟨3, ![8, 16384, 128]⟩
abbrev S1024x1024 : Shape := ⟨2, ![1024, 1024]⟩
abbrev S1024 : Shape := ⟨1, ![1024]⟩
abbrev S1x1024 : Shape := ⟨2, ![1, 1024]⟩
abbrev S8x2048x1024 : Shape := ⟨3, ![8, 2048, 1024]⟩
abbrev S8x2048x128 : Shape := ⟨3, ![8, 2048, 128]⟩
abbrev S8x256x1024 : Shape := ⟨3, ![8, 256, 1024]⟩
abbrev S1x256x128 : Shape := ⟨3, ![1, 256, 128]⟩
abbrev S256x128 : Shape := ⟨2, ![256, 128]⟩
abbrev S256x1024 : Shape := ⟨2, ![256, 1024]⟩
abbrev S1x256x1024 : Shape := ⟨3, ![1, 256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8x16384x128, .f32⟩
  | .hbm, ⟨1, _⟩ => ⟨S1024x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S8x2048x1024, .bf16⟩
  | .local _ .vmem, ⟨0, _⟩ => ⟨S8x2048x128, .f32⟩
  | .local _ .vmem, ⟨1, _⟩ => ⟨S8x2048x128, .f32⟩
  | .local _ .vmem, ⟨2, _⟩ => ⟨S1024x1024, .bf16⟩
  | .local _ .vmem, ⟨3, _⟩ => ⟨S1x1024, .f32⟩
  | .local _ .vmem, ⟨4, _⟩ => ⟨S8x256x1024, .bf16⟩
  | .local _ .vmem, ⟨5, _⟩ => ⟨S8x256x1024, .bf16⟩
  | _, _ => ⟨S8x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x16384x128 : Shape := ⟨3, ![8, 16384, 128]⟩
abbrev S1024x1024 : Shape := ⟨2, ![1024, 1024]⟩
abbrev S1024 : Shape := ⟨1, ![1024]⟩
abbrev S8x2048x8x128 : Shape := ⟨4, ![8, 2048, 8, 128]⟩
abbrev S8x2048x1024 : Shape := ⟨3, ![8, 2048, 1024]⟩
abbrev S1x1x1024 : Shape := ⟨3, ![1, 1, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x16384x128, .f32⟩
  | .hbm, ⟨1, _⟩ => ⟨S1024x1024, .f32⟩
  | .hbm, ⟨2, _⟩ => ⟨S1024, .f32⟩
  | .hbm, ⟨3, _⟩ => ⟨S8x2048x8x128, .f32⟩
  | .hbm, ⟨4, _⟩ => ⟨S8x2048x8x128, .f32⟩
  | .hbm, ⟨5, _⟩ => ⟨S8x2048x1024, .f32⟩
  | .hbm, ⟨6, _⟩ => ⟨S8x2048x1024, .f32⟩
  | .hbm, ⟨7, _⟩ => ⟨S1x1x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S8x2048x1024, .bf16⟩
  | _, _ => ⟨S8x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S8x2048x2048 : Shape := ⟨3, ![8, 2048, 2048]⟩
abbrev S2048x3664 : Shape := ⟨2, ![2048, 3664]⟩
abbrev S3664x2048 : Shape := ⟨2, ![3664, 2048]⟩
abbrev S8x16384x128 : Shape := ⟨3, ![8, 16384, 128]⟩
abbrev S8x2048x1024 : Shape := ⟨3, ![8, 2048, 1024]⟩
abbrev S8x2048x256 : Shape := ⟨3, ![8, 2048, 256]⟩
abbrev S8x8x256x256 : Shape := ⟨4, ![8, 8, 256, 256]⟩
abbrev S8x2048x128 : Shape := ⟨3, ![8, 2048, 128]⟩
abbrev S1x256x2048 : Shape := ⟨3, ![1, 256, 2048]⟩
abbrev S1x256x1024 : Shape := ⟨3, ![1, 256, 1024]⟩
abbrev S1x256x256 : Shape := ⟨3, ![1, 256, 256]⟩
abbrev S1x1x256x256 : Shape := ⟨4, ![1, 1, 256, 256]⟩
abbrev S1x256x128 : Shape := ⟨3, ![1, 256, 128]⟩
abbrev S256x2048 : Shape := ⟨2, ![256, 2048]⟩
abbrev S1024x2048 : Shape := ⟨2, ![1024, 2048]⟩
abbrev S256x1024 : Shape := ⟨2, ![256, 1024]⟩
abbrev S256x128 : Shape := ⟨2, ![256, 128]⟩
abbrev S256x256 : Shape := ⟨2, ![256, 256]⟩
abbrev S80x2048 : Shape := ⟨2, ![80, 2048]⟩
abbrev S256x80 : Shape := ⟨2, ![256, 80]⟩
abbrev S1x256x80 : Shape := ⟨3, ![1, 256, 80]⟩
abbrev S256x48 : Shape := ⟨2, ![256, 48]⟩
abbrev S1x256x48 : Shape := ⟨3, ![1, 256, 48]⟩

abbrev nBuf : Space → Nat
  | .hbm => 10
  | .vmem => 15
  | .smem => 0
  | _ => 0

abbrev bufTy : (tb : Table) → Fin (tcTables nBuf tb) → BufTy
  | .hbm, ⟨0, _⟩ => ⟨S8x2048x2048, .f32⟩
  | .hbm, ⟨1, _⟩ => ⟨S2048x3664, .f32⟩
  | .hbm, ⟨2, _⟩ => ⟨S3664x2048, .f32⟩
  | .hbm, ⟨3, _⟩ => ⟨S3664x2048, .bf16⟩
  | .hbm, ⟨4, _⟩ => ⟨S8x16384x128, .f32⟩
  | .hbm, ⟨5, _⟩ => ⟨S8x2048x1024, .bf16⟩
  | .hbm, ⟨6, _⟩ => ⟨S8x2048x256, .bf16⟩
  | .hbm, ⟨7, _⟩ => ⟨S8x8x256x256, .bf16⟩
  | .hbm, ⟨8, _⟩ => ⟨S8x2048x1024, .bf16⟩
  | .hbm, ⟨9, _⟩ => ⟨S8x2048x128, .f32⟩
  | .local _ .vmem, ⟨0, _⟩ => ⟨S1x256x2048, .f32⟩
  | .local _ .vmem, ⟨1, _⟩ => ⟨S1x256x2048, .f32⟩
  | .local _ .vmem, ⟨2, _⟩ => ⟨S3664x2048, .bf16⟩
  | .local _ .vmem, ⟨3, _⟩ => ⟨S8x2048x128, .f32⟩
  | .local _ .vmem, ⟨4, _⟩ => ⟨S8x2048x128, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x256, .bf16⟩
  | .local _ .vmem, ⟨8, _⟩ => ⟨S1x256x256, .bf16⟩
  | .local _ .vmem, ⟨9, _⟩ => ⟨S1x1x256x256, .bf16⟩
  | .local _ .vmem, ⟨10, _⟩ => ⟨S1x1x256x256, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x128, .f32⟩
  | .local _ .vmem, ⟨14, _⟩ => ⟨S1x256x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let c0_4 : Index := 0#32
  let arg1 : BitVec 32 := BitVec.ofNat 32 (i 1).val
  let v7 : Index := Scalar.indexCast arg1
  let c0_5 : Index := 0#32
  ![0, v7.toNat, 0]
def k0_off2 (i : grid0.Coords) : Fin 3 → Nat :=
  let c1 : Index := 1#32
  let arg1 : BitVec 32 := BitVec.ofNat 32 (i 1).val
  let v12 : Index := Scalar.indexCast arg1
  let c0_6 : Index := 0#32
  ![1, v12.toNat, 0]
def k0_off3 (i : grid0.Coords) : Fin 3 → Nat :=
  let c2 : Index := 2#32
  let arg1 : BitVec 32 := BitVec.ofNat 32 (i 1).val
  let v17 : Index := Scalar.indexCast arg1
  let c0_7 : Index := 0#32
  ![2, v17.toNat, 0]
def k0_off4 (i : grid0.Coords) : Fin 3 → Nat :=
  let c3 : Index := 3#32
  let arg1 : BitVec 32 := BitVec.ofNat 32 (i 1).val
  let v22 : Index := Scalar.indexCast arg1
  let c0_8 : Index := 0#32
  ![3, v22.toNat, 0]
def k0_off5 (i : grid0.Coords) : Fin 3 → Nat :=
  let c4 : Index := 4#32
  let arg1 : BitVec 32 := BitVec.ofNat 32 (i 1).val
  let v27 : Index := Scalar.indexCast arg1
  let c0_9 : Index := 0#32
  ![4, v27.toNat, 0]
def k0_off6 (i : grid0.Coords) : Fin 3 → Nat :=
  let c5 : Index := 5#32
  let arg1 : BitVec 32 := BitVec.ofNat 32 (i 1).val
  let v32 : Index := Scalar.indexCast arg1
  let c0_10 : Index := 0#32
  ![5, v32.toNat, 0]
def k0_off7 (i : grid0.Coords) : Fin 3 → Nat :=
  let c6 : Index := 6#32
  let arg1 : BitVec 32 := BitVec.ofNat 32 (i 1).val
  let v37 : Index := Scalar.indexCast arg1
  let c0_11 : Index := 0#32
  ![6, v37.toNat, 0]
def k0_off8 (i : grid0.Coords) : Fin 3 → Nat :=
  let c7 : Index := 7#32
  let arg1 : BitVec 32 := BitVec.ofNat 32 (i 1).val
  let v42 : Index := Scalar.indexCast arg1
  let c0_12 : Index := 0#32
  ![7, v42.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3664x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8x2048x2048 : Shape := ⟨3, ![8, 2048, 2048]⟩
abbrev S2048x3664 : Shape := ⟨2, ![2048, 3664]⟩
abbrev S8x2048x3664 : Shape := ⟨3, ![8, 2048, 3664]⟩
abbrev S8x2048x1024 : Shape := ⟨3, ![8, 2048, 1024]⟩
abbrev S8x2048x256 : Shape := ⟨3, ![8, 2048, 256]⟩
abbrev S8x2048x64 : Shape := ⟨3, ![8, 2048, 64]⟩
abbrev S8x2048x16 : Shape := ⟨3, ![8, 2048, 16]⟩
abbrev S8x2048x8x128 : Shape := ⟨4, ![8, 2048, 8, 128]⟩
abbrev S8x16384x128 : Shape := ⟨3, ![8, 16384, 128]⟩
abbrev S8x8x256x256 : Shape := ⟨4, ![8, 8, 256, 256]⟩
abbrev S8x2048x80 : Shape := ⟨3, ![8, 2048, 80]⟩
abbrev S_ : Shape := ⟨0, ![]⟩
abbrev S8x2048x128 : Shape := ⟨3, ![8, 2048, 128]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x3664, .f32⟩
  | .hbm, ⟨2, _⟩ => ⟨S8x2048x3664, .f32⟩
  | .hbm, ⟨3, _⟩ => ⟨S8x2048x1024, .f32⟩
  | .hbm, ⟨4, _⟩ => ⟨S8x2048x1024, .f32⟩
  | .hbm, ⟨5, _⟩ => ⟨S8x2048x256, .f32⟩
  | .hbm, ⟨6, _⟩ => ⟨S8x2048x256, .f32⟩
  | .hbm, ⟨7, _⟩ => ⟨S8x2048x1024, .f32⟩
  | .hbm, ⟨8, _⟩ => ⟨S8x2048x64, .f32⟩
  | .hbm, ⟨9, _⟩ => ⟨S8x2048x16, .f32⟩
  | .hbm, ⟨10, _⟩ => ⟨S8x2048x8x128, .f32⟩
  | .hbm, ⟨11, _⟩ => ⟨S8x2048x8x128, .f32⟩
  | .hbm, ⟨12, _⟩ => ⟨S8x16384x128, .f32⟩
  | .hbm, ⟨13, _⟩ => ⟨S8x8x256x256, .f32⟩
  | .hbm, ⟨14, _⟩ => ⟨S8x8x256x256, .f32⟩
  | .hbm, ⟨15, _⟩ => ⟨S8x2048x80, .f32⟩
  | .hbm, ⟨16, _⟩ => ⟨S_, .i32⟩
  | .hbm, ⟨17, _⟩ => ⟨S_, .f32⟩
  | .hbm, ⟨18, _⟩ => ⟨S8x2048x128, .f32⟩
  | .hbm, ⟨19, _⟩ => ⟨S8x2048x1024, .bf16⟩
  | .hbm, ⟨20, _⟩ => ⟨S8x2048x256, .bf16⟩
  | .hbm, ⟨21, _⟩ => ⟨S8x8x256x256, .bf16⟩
  | .hbm, ⟨22, _⟩ => ⟨S8x2048x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Proof.Ffn.Body.lean ====
/- The feed-forward kernel's body at one grid point, as three triples over whole staging memrefs: the first chunk of a
   row tile (the scratch is set up, then a full chunk is added), an inner chunk (a full chunk is added), and the last
   chunk (a half chunk is added, then the normalised row tile is stored). What each leaves is stated as a plain function
   of the blocks' contents. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.WholeRead
public import Idealize.ShloMosaic.Lib.VecWindow
public import Idealize.ShloMosaic.Lib.Pipeline.FrameBody

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body leaves -/

/-- Rows 0‥15 of the widened row tile: the halo block's rectangle. -/
abbrev rHalo : Rect S528x2048 := Rect.unit (s := S528x2048) ![0, 0] S16x2048.size inb_S528x2048_S16x2048_0_0
/-- Rows 16‥527 of it: the row tile's own rectangle. -/
abbrev rTile : Rect S528x2048 := Rect.unit (s := S528x2048) ![16, 0] S512x2048.size inb_S528x2048_S512x2048_16_0

/-- The widened row tile, narrowed: the halo's sixteen rows (zeroed at the sequence's start), then the tile's. -/
def hbOf (i : grid0.Coords) (x0 : Vec F S1x512x2048 .f32) (x1 : Vec F S1x16x2048 .f32) : Vec F S528x2048 .bf16 :=
  View.canon [⟨rTile, k0_pay2 x0⟩, ⟨rHalo, k0_pay1 i x1⟩]

/-- The columns 0‥511 of the weight, tap and bias blocks, and the rows 0‥511 of the down projection's. -/
abbrev half2 (x : Vec F S2048x1024 .bf16) : Vec F S2048x512 .bf16 :=
  View.ld x (Rect.unit (s := S2048x1024) ![0, 0] S2048x512.size inb_S2048x1024_S2048x512_0_0)
abbrev half5 (x : Vec F S3x1024 .f32) : Vec F S3x512 .f32 :=
  View.ld x (Rect.unit (s := S3x1024) ![0, 0] S3x512.size inb_S3x1024_S3x512_0_0)
abbrev half6 (x : Vec F S1x1024 .f32) : Vec F S1x512 .f32 :=
  View.ld x (Rect.unit (s := S1x1024) ![0, 0] S1x512.size inb_S1x1024_S1x512_0_0)
abbrev half4 (x : Vec F S1024x2048 .bf16) : Vec F S512x2048 .bf16 :=
  View.ld x (Rect.unit (s := S1024x2048) ![0, 0] S512x2048.size inb_S1024x2048_S512x2048_0_0)

/-- The accumulator after a full chunk. -/
def accFull (hb : Vec F S528x2048 .bf16) (x2 x3 : Vec F S2048x1024 .bf16) (x4 : Vec F S1024x2048 .bf16)
    (x5 : Vec F S3x1024 .f32) (x6 : Vec F S1x1024 .f32) (acc : Vec F S512x2048 .f32) : Vec F S512x2048 .f32 :=
  k0_pay4 (k0_pay7 hb x2 x5 x6 (View.ld hb rTile) x3) acc x4

/-- The accumulator after the last, half-width chunk. -/
def accHalf (hb : Vec F S528x2048 .bf16) (x2 x3 : Vec F S2048x1024 .bf16) (x4 : Vec F S1024x2048 .bf16)
    (x5 : Vec F S3x1024 .f32) (x6 : Vec F S1x1024 .f32) (acc : Vec F S512x2048 .f32) : Vec F S512x2048 .f32 :=
  k0_pay5 (k0_pay8 hb (half2 x2) (half5 x5) (half6 x6) (View.ld hb rTile) (half2 x3)) acc (half4 x4)

/-! ## Whole-buffer loads and stores -/

theorem readAt_whole {s : Shape} {e : EltTy} {m : Memref sig .tc .vmem s e} (h : m.IsWhole) (X : s.Idx → Elt F e)
    {off : Fin s.rank → ℕ} (ho : off = fun _ => 0) (hb) :
    View.readAt (Elt F) m.view (Rect.unit (s := s) off s.size hb).toLoadRect (h.unread X) = X := by
  subst ho
  funext x
  rw [h.readAt_unread]
  congr 1
  funext a; apply Fin.ext; show 0 + 1 * (x a).val = (x a).val; omega

theorem readCov_ld {s : Shape} {e : EltTy} (v : View sig .tc .vmem s e) (L : List (View.Piece (Elt F) s e)) (r : Rect s) :
    v.readCov L r.toLoadRect = View.ld (View.canon L) r := View.readCov_eq_canon' v L _

theorem ld_whole {s : Shape} {e : EltTy} (X : s.Idx → Elt F e) {off : Fin s.rank → ℕ} (ho : off = fun _ => 0) (hb) :
    View.ld X (Rect.unit (s := s) off s.size hb) = X := by
  subst ho
  funext x
  show X _ = X x
  congr 1
  funext a; apply Fin.ext; show 0 + 1 * (x a).val = (x a).val; omega

theorem congr6 {α₁ α₂ α₃ α₄ α₅ α₆ β : Type} (f : α₁ → α₂ → α₃ → α₄ → α₅ → α₆ → β) {a₁ b₁ a₂ b₂ a₃ b₃ a₄ b₄ a₅ b₅ a₆ b₆}
    (h₁ : a₁ = b₁) (h₂ : a₂ = b₂) (h₃ : a₃ = b₃) (h₄ : a₄ = b₄) (h₅ : a₅ = b₅) (h₆ : a₆ = b₆) :
    f a₁ a₂ a₃ a₄ a₅ a₆ = f b₁ b₂ b₃ b₄ b₅ b₆ := by
  subst h₁ h₂ h₃ h₄ h₅ h₆; rfl

theorem congr3 {α₁ α₂ α₃ β : Type} (f : α₁ → α₂ → α₃ → β) {a₁ b₁ a₂ b₂ a₃ b₃}
    (h₁ : a₁ = b₁) (h₂ : a₂ = b₂) (h₃ : a₃ = b₃) : f a₁ a₂ a₃ = f b₁ b₂ b₃ := by
  subst h₁ h₂ h₃; rfl

theorem congr4 {α₁ α₂ α₃ α₄ β : Type} (f : α₁ → α₂ → α₃ → α₄ → β) {a₁ b₁ a₂ b₂ a₃ b₃ a₄ b₄}
    (h₁ : a₁ = b₁) (h₂ : a₂ = b₂) (h₃ : a₃ = b₃) (h₄ : a₄ = b₄) : f a₁ a₂ a₃ a₄ = f b₁ b₂ b₃ b₄ := by
  subst h₁ h₂ h₃ h₄; rfl

theorem z2 : (![0, 0] : Fin 2 → ℕ) = fun _ => 0 := funext fun a => by fin_cases a <;> rfl
theorem z3 : (![0, 0, 0] : Fin 3 → ℕ) = fun _ => 0 := funext fun a => by fin_cases a <;> rfl

/-! ## The branch conditions -/

abbrev c1 (i : grid0.Coords) : Prop := (Scalar.cmpi .ne (Scalar.extui (Scalar.cmpi .eq (BitVec.ofNat 32 (i 2).val) 0#32)) 0#32) = 1#1
abbrev c2 (i : grid0.Coords) : Prop := (Scalar.cmpi .ne (Scalar.extui (Scalar.xori (Scalar.cmpi .eq (BitVec.ofNat 32 (i 2).val) 5#32) 1#1)) 0#32) = 1#1
abbrev c3 (i : grid0.Coords) : Prop := (Scalar.cmpi .ne (Scalar.extui (Scalar.cmpi .eq (BitVec.ofNat 32 (i 2).val) 5#32)) 0#32) = 1#1
abbrev c4 (i : grid0.Coords) : Prop := k0_cond4 i = 1#1

theorem hb_cover (w1 : Vec F S16x2048 .bf16) (w2 : Vec F S512x2048 .bf16) :
    ∀ y : S528x2048.Idx, ∃ p ∈ ([⟨rTile, w2⟩, ⟨rHalo, w1⟩] : List (View.Piece (Elt F) S528x2048 .bf16)), y ∈ p.1.set :=
  fun y => View.cover_of_tiledBy ([⟨rTile, w2⟩, ⟨rHalo, w1⟩] : List (View.Piece (Elt F) S528x2048 .bf16)) ![16, 2048] (by sl_kernel_rfl) y

variable (c : Dev nD) (i : grid0.Coords)
  (arg3 : Memref sig .tc .vmem S1x512x2048 .f32) (harg3 : arg3.IsWhole) (arg4 : Memref sig .tc .vmem S1x16x2048 .f32) (harg4 : arg4.IsWhole)
  (arg5 : Memref sig .tc .vmem S2048x1024 .bf16) (harg5 : arg5.IsWhole) (arg6 : Memref sig .tc .vmem S2048x1024 .bf16) (harg6 : arg6.IsWhole)
  (arg7 : Memref sig .tc .vmem S1024x2048 .bf16) (harg7 : arg7.IsWhole) (arg8 : Memref sig .tc .vmem S3x1024 .f32) (harg8 : arg8.IsWhole)
  (arg9 : Memref sig .tc .vmem S1x1024 .f32) (harg9 : arg9.IsWhole) (arg10 : Memref sig .tc .vmem S1x2048 .f32) (harg10 : arg10.IsWhole)
  (arg11 : Memref sig .tc .vmem S1x2048 .f32) (harg11 : arg11.IsWhole) (arg12 : Memref sig .tc .vmem S1x512x2048 .f32) (harg12 : arg12.IsWhole)
  (arg13 : Memref sig .tc .vmem S528x2048 .bf16) (harg13 : arg13.IsWhole) (arg14 : Memref sig .tc .vmem S512x2048 .f32) (harg14 : arg14.IsWhole)
  (x0 : Vec F S1x512x2048 .f32) (x1 : Vec F S1x16x2048 .f32) (x2 x3 : Vec F S2048x1024 .bf16) (x4 : Vec F S1024x2048 .bf16)
  (x5 : Vec F S3x1024 .f32) (x6 : Vec F S1x1024 .f32) (x7 x8 : Vec F S1x2048 .f32)

/-- The nine input memrefs at their contents. -/
def ins : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5
    ∗ owns (c : Thread nD τ) arg9 fullShare x6 ∗ owns (c : Thread nD τ) arg10 fullShare x7 ∗ owns (c : Thread nD τ) arg11 fullShare x8)

/-- A whole memref owned at contents `X` holds, raw, the contents that read `X`; and back. -/
theorem owns_unread {s : Shape} {e : EltTy} {m : Memref sig .tc .vmem s e} (h : m.IsWhole) (X : s.Idx → Elt F e) :
    (m.view.loc (c : Thread nD τ) ↦[m.view.set]{fullShare} h.unread X : sProp 𝕄) ⊢ iprop(∃ f, ⌜View.read (Elt F) m.view f = X⌝ ∗ m.view.loc (c : Thread nD τ) ↦[m.view.set]{fullShare} f) := by
  iintro H
  iexists _; isplitr
  · ipureintro; exact h.read_unread _
  iexact H

set_option maxHeartbeats 1600000 in
/-- An inner chunk: the accumulator takes a full chunk; nothing else changes. -/
theorem run_inner (h1 : ¬c1 i) (h2 : c2 i) (h3 : ¬c3 i) (h4 : ¬c4 i)
    (y : Vec F S1x512x2048 .f32) (hb : Vec F S528x2048 .bf16) (acc : Vec F S512x2048 .f32) (E : Set ℕ) (K : PUnit → sProp 𝕄) :
    iprop(ins c arg3 arg4 arg5 arg6 arg7 arg8 arg9 arg10 arg11 x0 x1 x2 x3 x4 x5 x6 x7 x8
        ∗ owns (c : Thread nD τ) arg12 fullShare y ∗ owns (c : Thread nD τ) arg13 fullShare hb ∗ owns (c : Thread nD τ) arg14 fullShare acc
        ∗ (iprop(ins c arg3 arg4 arg5 arg6 arg7 arg8 arg9 arg10 arg11 x0 x1 x2 x3 x4 x5 x6 x7 x8
            ∗ owns (c : Thread nD τ) arg12 fullShare y ∗ owns (c : Thread nD τ) arg13 fullShare hb
            ∗ owns (c : Thread nD τ) arg14 fullShare (accFull hb x2 x3 x4 x5 x6 acc)) -∗ K ⟨⟩))
      ⊢ wp frame (wpE (defs₀ (F := F)) Variants.none c none) E
          (cc0_ffn_ln2 i arg3 harg3 arg4 harg4 arg5 harg5 arg6 harg6 arg7 harg7 arg8 harg8 arg9 harg9 arg10 harg10 arg11 harg11 arg12 harg12 arg13 harg13 arg14 harg14) K := by
  simp only [cc0_ffn_ln2_eq_skeleton]; unfold cc0_ffn_ln2_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9; obtain rfl := harg13.eq_unread hfs0; obtain rfl := harg14.eq_unread hfs1
  sl_exec (disch := first | sl_exact h1 | sl_exact h2 | sl_exact h3 | sl_exact h4)
  sl_step
  iapply Hk
  isplitl [H0 H1 H2 H3 H4 H5 H6 H7 H8]
  · isplitl [H0]
    · iapply owns_unread; iexact H0
    isplitl [H1]
    · iapply owns_unread; iexact H1
    isplitl [H2]
    · iapply owns_unread; iexact H2
    isplitl [H3]
    · iapply owns_unread; iexact H3
    isplitl [H4]
    · iapply owns_unread; iexact H4
    isplitl [H5]
    · iapply owns_unread; iexact H5
    isplitl [H6]
    · iapply owns_unread; iexact H6
    isplitl [H7]
    · iapply owns_unread; iexact H7
    iapply owns_unread; iexact H8
  isplitl [H9]
  · iapply owns_unread; iexact H9
  isplitl [HS0]
  · iapply owns_unread; iexact HS0
  iexists _; isplitr; swap
  · iexact HS1
  ipureintro
  refine (View.read_writes_full _ _ _ _ _).trans ?_
  exact congr3 k0_pay4 (congr6 k0_pay7 (readAt_whole harg13 hb z2 _) (readAt_whole harg5 x2 z2 _)
    (readAt_whole harg8 x5 z2 _) (readAt_whole harg9 x6 z2 _) (funext fun x => harg13.readAt_unread hb rTile.toLoadRect x) (readAt_whole harg6 x3 z2 _))
    (readAt_whole harg14 acc z2 _) (readAt_whole harg7 x4 z2 _)

set_option maxHeartbeats 1600000 in
/-- The last chunk: the accumulator takes a half chunk, and the normalised row tile is stored. -/
theorem run_last (h1 : ¬c1 i) (h2 : ¬c2 i) (h3 : c3 i) (h4 : c4 i)
    (hb : Vec F S528x2048 .bf16) (acc : Vec F S512x2048 .f32) (E : Set ℕ) (K : PUnit → sProp 𝕄) :
    iprop(ins c arg3 arg4 arg5 arg6 arg7 arg8 arg9 arg10 arg11 x0 x1 x2 x3 x4 x5 x6 x7 x8
        ∗ (∃ d, owns (c : Thread nD τ) arg12 fullShare d) ∗ owns (c : Thread nD τ) arg13 fullShare hb ∗ owns (c : Thread nD τ) arg14 fullShare acc
        ∗ (iprop(ins c arg3 arg4 arg5 arg6 arg7 arg8 arg9 arg10 arg11 x0 x1 x2 x3 x4 x5 x6 x7 x8
            ∗ owns (c : Thread nD τ) arg12 fullShare (k0_pay6 x0 (accHalf hb x2 x3 x4 x5 x6 acc) x7 x8) ∗ owns (c : Thread nD τ) arg13 fullShare hb
            ∗ owns (c : Thread nD τ) arg14 fullShare (accHalf hb x2 x3 x4 x5 x6 acc)) -∗ K ⟨⟩))
      ⊢ wp frame (wpE (defs₀ (F := F)) Variants.none c none) E
          (cc0_ffn_ln2 i arg3 harg3 arg4 harg4 arg5 harg5 arg6 harg6 arg7 harg7 arg8 harg8 arg9 harg9 arg10 harg10 arg11 harg11 arg12 harg12 arg13 harg13 arg14 harg14) K := by
  simp only [cc0_ffn_ln2_eq_skeleton]; unfold cc0_ffn_ln2_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%y, %f9, %hf9, H9⟩, ⟨%fs0, %hfs0, HS0⟩, ⟨%fs1, %hfs1, HS1⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9; obtain rfl := harg13.eq_unread hfs0; obtain rfl := harg14.eq_unread hfs1
  sl_exec (disch := first | sl_exact h1 | sl_exact h2 | sl_exact h3 | sl_exact h4)
  sl_step
  iapply Hk
  isplitl [H0 H1 H2 H3 H4 H5 H6 H7 H8]
  · isplitl [H0]
    · iapply owns_unread; iexact H0
    isplitl [H1]
    · iapply owns_unread; iexact H1
    isplitl [H2]
    · iapply owns_unread; iexact H2
    isplitl [H3]
    · iapply owns_unread; iexact H3
    isplitl [H4]
    · iapply owns_unread; iexact H4
    isplitl [H5]
    · iapply owns_unread; iexact H5
    isplitl [H6]
    · iapply owns_unread; iexact H6
    isplitl [H7]
    · iapply owns_unread; iexact H7
    iapply owns_unread; iexact H8
  isplitl [H9]
  · iexists _; isplitr; swap
    · iexact H9
    ipureintro
    refine (View.read_writes_full _ _ _ _ _).trans ?_
    exact congr4 k0_pay6 (readAt_whole harg3 x0 z3 _) ((View.readCov_full _ _ _ _ _).trans (congr3 k0_pay5 (congr6 k0_pay8 (readAt_whole harg13 hb z2 _)
      (funext fun x => harg5.readAt_unread x2 _ x) (funext fun x => harg8.readAt_unread x5 _ x) (funext fun x => harg9.readAt_unread x6 _ x)
      (funext fun x => harg13.readAt_unread hb rTile.toLoadRect x) (funext fun x => harg6.readAt_unread x3 _ x))
      (readAt_whole harg14 acc z2 _) (funext fun x => harg7.readAt_unread x4 _ x))) (readAt_whole harg10 x7 z2 _) (readAt_whole harg11 x8 z2 _)
  isplitl [HS0]
  · iapply owns_unread; iexact HS0
  iexists _; isplitr; swap
  · iexact HS1
  ipureintro
  refine (View.read_writes_full _ _ _ _ _).trans ?_
  exact congr3 k0_pay5 (congr6 k0_pay8 (readAt_whole harg13 hb z2 _)
      (funext fun x => harg5.readAt_unread x2 _ x) (funext fun x => harg8.readAt_unread x5 _ x) (funext fun x => harg9.readAt_unread x6 _ x)
      (funext fun x => harg13.readAt_unread hb rTile.toLoadRect x) (funext fun x => harg6.readAt_unread x3 _ x))
      (readAt_whole harg14 acc z2 _) (funext fun x => harg7.readAt_unread x4 _ x)

end Cert.Ffn

end
-- ==== Proof.Ffn.First.lean ====
/- The feed-forward kernel's body at the first chunk of a row tile. -/
module

public import proofs.«01_k».proof.Proof.Ffn.Body

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg3 : Memref sig .tc .vmem S1x512x2048 .f32) (harg3 : arg3.IsWhole) (arg4 : Memref sig .tc .vmem S1x16x2048 .f32) (harg4 : arg4.IsWhole)
  (arg5 : Memref sig .tc .vmem S2048x1024 .bf16) (harg5 : arg5.IsWhole) (arg6 : Memref sig .tc .vmem S2048x1024 .bf16) (harg6 : arg6.IsWhole)
  (arg7 : Memref sig .tc .vmem S1024x2048 .bf16) (harg7 : arg7.IsWhole) (arg8 : Memref sig .tc .vmem S3x1024 .f32) (harg8 : arg8.IsWhole)
  (arg9 : Memref sig .tc .vmem S1x1024 .f32) (harg9 : arg9.IsWhole) (arg10 : Memref sig .tc .vmem S1x2048 .f32) (harg10 : arg10.IsWhole)
  (arg11 : Memref sig .tc .vmem S1x2048 .f32) (harg11 : arg11.IsWhole) (arg12 : Memref sig .tc .vmem S1x512x2048 .f32) (harg12 : arg12.IsWhole)
  (arg13 : Memref sig .tc .vmem S528x2048 .bf16) (harg13 : arg13.IsWhole) (arg14 : Memref sig .tc .vmem S512x2048 .f32) (harg14 : arg14.IsWhole)
  (x0 : Vec F S1x512x2048 .f32) (x1 : Vec F S1x16x2048 .f32) (x2 x3 : Vec F S2048x1024 .bf16) (x4 : Vec F S1024x2048 .bf16)
  (x5 : Vec F S3x1024 .f32) (x6 : Vec F S1x1024 .f32) (x7 x8 : Vec F S1x2048 .f32)

section
variable {i} {arg13} {x0} {x1}
/-- The widened tile's two stores over any contents leave it; a load of it whole, or of its own rows, reads it. -/
theorem pieces_read (v : View sig .tc .vmem S528x2048 .bf16) (f : v.ty.Contents (Elt F)) {z0 : Vec F S1x512x2048 .f32} {z1 : Vec F S1x16x2048 .f32}
    (e0 : z0 = x0) (e1 : z1 = x1) :
    v.read (Elt F) (v.writes (Elt F) f [⟨rTile, k0_pay2 z0⟩, ⟨rHalo, k0_pay1 i z1⟩]) = hbOf i x0 x1 := by
  subst e0 e1
  exact View.read_writes_eq_canon v f _ (hb_cover _ _)

theorem pieces_cov (v : View sig .tc .vmem S528x2048 .bf16) {z0 : Vec F S1x512x2048 .f32} {z1 : Vec F S1x16x2048 .f32}
    (e0 : z0 = x0) (e1 : z1 = x1) (hb) :
    v.readCov [⟨rTile, k0_pay2 z0⟩, ⟨rHalo, k0_pay1 i z1⟩] (Rect.unit (s := S528x2048) ![0, 0] S528x2048.size hb).toLoadRect = hbOf i x0 x1 := by
  subst e0 e1
  exact (readCov_ld v _ _).trans (ld_whole _ z2 hb)

theorem pieces_tile (v : View sig .tc .vmem S528x2048 .bf16) {z0 : Vec F S1x512x2048 .f32} {z1 : Vec F S1x16x2048 .f32}
    (e0 : z0 = x0) (e1 : z1 = x1) :
    v.readCov [⟨rTile, k0_pay2 z0⟩, ⟨rHalo, k0_pay1 i z1⟩] rTile.toLoadRect = View.ld (hbOf i x0 x1) rTile := by
  subst e0 e1
  exact readCov_ld v _ _
end

set_option maxHeartbeats 1600000 in
/-- The first chunk of a row tile: the scratch is set up, then the accumulator takes a full chunk. -/
theorem run_first (h1 : c1 i) (h2 : c2 i) (h3 : ¬c3 i) (h4 : ¬c4 i)
    (y : Vec F S1x512x2048 .f32) (E : Set ℕ) (K : PUnit → sProp 𝕄) :
    iprop(ins c arg3 arg4 arg5 arg6 arg7 arg8 arg9 arg10 arg11 x0 x1 x2 x3 x4 x5 x6 x7 x8
        ∗ owns (c : Thread nD τ) arg12 fullShare y ∗ (∃ d, owns (c : Thread nD τ) arg13 fullShare d) ∗ (∃ d, owns (c : Thread nD τ) arg14 fullShare d)
        ∗ (iprop(ins c arg3 arg4 arg5 arg6 arg7 arg8 arg9 arg10 arg11 x0 x1 x2 x3 x4 x5 x6 x7 x8
            ∗ owns (c : Thread nD τ) arg12 fullShare y ∗ owns (c : Thread nD τ) arg13 fullShare (hbOf i x0 x1)
            ∗ owns (c : Thread nD τ) arg14 fullShare (accFull (hbOf i x0 x1) x2 x3 x4 x5 x6 k0_pay3)) -∗ K ⟨⟩))
      ⊢ wp frame (wpE (defs₀ (F := F)) Variants.none c none) E
          (cc0_ffn_ln2 i arg3 harg3 arg4 harg4 arg5 harg5 arg6 harg6 arg7 harg7 arg8 harg8 arg9 harg9 arg10 harg10 arg11 harg11 arg12 harg12 arg13 harg13 arg14 harg14) K := by
  simp only [cc0_ffn_ln2_eq_skeleton]; unfold cc0_ffn_ln2_skel
  simp only [k0_part1_eq_skeleton, k0_part2_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%hb0, %fs0, %hfs0, HS0⟩, ⟨%acc0, %fs1, %hfs1, HS1⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hf6; obtain rfl := harg10.eq_unread hf7; obtain rfl := harg11.eq_unread hf8
  obtain rfl := harg12.eq_unread hf9; obtain rfl := harg13.eq_unread hfs0; obtain rfl := harg14.eq_unread hfs1
  sl_exec (disch := first | sl_exact h1 | sl_exact h2 | sl_exact h3 | sl_exact h4)
  sl_step
  iapply Hk
  isplitl [H0 H1 H2 H3 H4 H5 H6 H7 H8]
  · isplitl [H0]
    · iapply owns_unread; iexact H0
    isplitl [H1]
    · iapply owns_unread; iexact H1
    isplitl [H2]
    · iapply owns_unread; iexact H2
    isplitl [H3]
    · iapply owns_unread; iexact H3
    isplitl [H4]
    · iapply owns_unread; iexact H4
    isplitl [H5]
    · iapply owns_unread; iexact H5
    isplitl [H6]
    · iapply owns_unread; iexact H6
    isplitl [H7]
    · iapply owns_unread; iexact H7
    iapply owns_unread; iexact H8
  isplitl [H9]
  · iapply owns_unread; iexact H9
  isplitl [HS0]
  · iexists _; isplitr; swap
    · iexact HS0
    ipureintro
    unfold run_first.sl.HS0_2
    exact pieces_read _ _ (readAt_whole harg3 x0 z3 _) (readAt_whole harg4 x1 z3 _)
  iexists _; isplitr; swap
  · iexact HS1
  ipureintro
  unfold run_first.sl.r run_first.sl.r_1 run_first.sl.HS1_1 run_first.sl.v11 run_first.sl.v34 run_first.sl.HS0_2
  refine (View.read_writes_full _ _ _ _ _).trans ?_
  exact congr3 k0_pay4 (congr6 k0_pay7
    (pieces_cov _ (readAt_whole harg3 x0 z3 _) (readAt_whole harg4 x1 z3 _) _)
    (readAt_whole harg5 x2 z2 _) (readAt_whole harg8 x5 z2 _) (readAt_whole harg9 x6 z2 _)
    (pieces_tile _ (readAt_whole harg3 x0 z3 _) (readAt_whole harg4 x1 z3 _))
    (readAt_whole harg6 x3 z2 _))
    (View.readCov_full _ _ _ _ _) (readAt_whole harg7 x4 z2 _)

end Cert.Ffn

end
-- ==== Proof.Ffn.Win.lean ====
/- The feed-forward kernel's five weight windows, whose last block overhangs the array: what a buffer fetched into holds on
   the part a chunk reads does not depend on what it held before. -/
module

public import proofs.«01_k».proof.Proof.Ffn.Body

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]

/-- An index inside the moved part reads what was fetched. -/
theorem fill_val {G : Pipeline.Grid} (w : Window sig G) {α : Type} (i : G.Coords) (d : w.block.Idx → α) (g : (w.xblock i).Idx → α)
    (x : w.block.Idx) (h : ∀ a, (x a).val < w.xsize i a) : w.fill i d g x = g fun a => ⟨(x a).val, h a⟩ := by
  unfold Window.fill
  rw [dif_pos ((w.moved_iff i x).mpr h)]

theorem toNat6 (k : Fin 6) : (BitVec.ofNat 32 k.val).toNat = k.val := by revert k; decide

theorem tr2 (i : grid0.Coords) : cc0_transform_2 i = ![0, (i 2).val] := by
  funext a; fin_cases a
  · rfl
  · exact toNat6 (i 2)
theorem tr3 (i : grid0.Coords) : cc0_transform_3 i = ![0, (i 2).val] := by
  funext a; fin_cases a
  · rfl
  · exact toNat6 (i 2)
theorem tr4 (i : grid0.Coords) : cc0_transform_4 i = ![(i 2).val, 0] := by
  funext a; fin_cases a
  · exact toNat6 (i 2)
  · rfl
theorem tr5 (i : grid0.Coords) : cc0_transform_5 i = ![0, (i 2).val] := by
  funext a; fin_cases a
  · rfl
  · exact toNat6 (i 2)
theorem tr6 (i : grid0.Coords) : cc0_transform_6 i = ![0, (i 2).val] := by
  funext a; fin_cases a
  · rfl
  · exact toNat6 (i 2)

/-- The cut of a 1024-wide block of a 5632-wide axis: the whole block but for the last, whose first 512 are inside. -/
theorem ext_chunk (k : Fin 6) : (Pipeline.Clip.of k.val 1024 5632).extent 1024 = if k.val = 5 then 512 else 1024 := by
  revert k; decide

theorem xs2 (i : grid0.Coords) : win0_2.xsize i 0 = 2048 ∧ win0_2.xsize i 1 = if (i 2).val = 5 then 512 else 1024 := by
  constructor
  · show (Pipeline.Clip.of (cc0_transform_2 i 0) 2048 2048).extent 2048 = _
    rw [tr2]; rfl
  · show (Pipeline.Clip.of (cc0_transform_2 i 1) 1024 5632).extent 1024 = _
    rw [tr2]; exact ext_chunk (i 2)
theorem xs3 (i : grid0.Coords) : win0_3.xsize i 0 = 2048 ∧ win0_3.xsize i 1 = if (i 2).val = 5 then 512 else 1024 := by
  constructor
  · show (Pipeline.Clip.of (cc0_transform_3 i 0) 2048 2048).extent 2048 = _
    rw [tr3]; rfl
  · show (Pipeline.Clip.of (cc0_transform_3 i 1) 1024 5632).extent 1024 = _
    rw [tr3]; exact ext_chunk (i 2)
theorem xs4 (i : grid0.Coords) : (win0_4.xsize i 0 = if (i 2).val = 5 then 512 else 1024) ∧ win0_4.xsize i 1 = 2048 := by
  constructor
  · show (Pipeline.Clip.of (cc0_transform_4 i 0) 1024 5632).extent 1024 = _
    rw [tr4]; exact ext_chunk (i 2)
  · show (Pipeline.Clip.of (cc0_transform_4 i 1) 2048 2048).extent 2048 = _
    rw [tr4]; rfl
theorem xs5 (i : grid0.Coords) : win0_5.xsize i 0 = 3 ∧ win0_5.xsize i 1 = if (i 2).val = 5 then 512 else 1024 := by
  constructor
  · show (Pipeline.Clip.of (cc0_transform_5 i 0) 3 3).extent 3 = _
    rw [tr5]; rfl
  · show (Pipeline.Clip.of (cc0_transform_5 i 1) 1024 5632).extent 1024 = _
    rw [tr5]; exact ext_chunk (i 2)
theorem xs6 (i : grid0.Coords) : win0_6.xsize i 0 = 1 ∧ win0_6.xsize i 1 = if (i 2).val = 5 then 512 else 1024 := by
  constructor
  · show (Pipeline.Clip.of (cc0_transform_6 i 0) 1 1).extent 1 = _
    rw [tr6]; rfl
  · show (Pipeline.Clip.of (cc0_transform_6 i 1) 1024 5632).extent 1024 = _
    rw [tr6]; exact ext_chunk (i 2)

/-- An index of a block is inside the moved part unless it is past 512 on the chunked axis at the last chunk. -/
theorem in2 (i : grid0.Coords) (x : S2048x1024.Idx) (h : (i 2).val = 5 → (x 1).val < 512) : ∀ a, (x a).val < win0_2.xsize i a
  | ⟨0, _⟩ => lt_of_lt_of_eq (x 0).isLt (xs2 i).1.symm
  | ⟨1, _⟩ => lt_of_lt_of_eq (by have := (x 1).isLt; split; exact h (by assumption); exact this) (xs2 i).2.symm
theorem in3 (i : grid0.Coords) (x : S2048x1024.Idx) (h : (i 2).val = 5 → (x 1).val < 512) : ∀ a, (x a).val < win0_3.xsize i a
  | ⟨0, _⟩ => lt_of_lt_of_eq (x 0).isLt (xs3 i).1.symm
  | ⟨1, _⟩ => lt_of_lt_of_eq (by have := (x 1).isLt; split; exact h (by assumption); exact this) (xs3 i).2.symm
theorem in4 (i : grid0.Coords) (x : S1024x2048.Idx) (h : (i 2).val = 5 → (x 0).val < 512) : ∀ a, (x a).val < win0_4.xsize i a
  | ⟨0, _⟩ => lt_of_lt_of_eq (by have := (x 0).isLt; split; exact h (by assumption); exact this) (xs4 i).1.symm
  | ⟨1, _⟩ => lt_of_lt_of_eq (x 1).isLt (xs4 i).2.symm
theorem in5 (i : grid0.Coords) (x : S3x1024.Idx) (h : (i 2).val = 5 → (x 1).val < 512) : ∀ a, (x a).val < win0_5.xsize i a
  | ⟨0, _⟩ => lt_of_lt_of_eq (x 0).isLt (xs5 i).1.symm
  | ⟨1, _⟩ => lt_of_lt_of_eq (by have := (x 1).isLt; split; exact h (by assumption); exact this) (xs5 i).2.symm
theorem in6 (i : grid0.Coords) (x : S1x1024.Idx) (h : (i 2).val = 5 → (x 1).val < 512) : ∀ a, (x a).val < win0_6.xsize i a
  | ⟨0, _⟩ => lt_of_lt_of_eq (x 0).isLt (xs6 i).1.symm
  | ⟨1, _⟩ => lt_of_lt_of_eq (by have := (x 1).isLt; split; exact h (by assumption); exact this) (xs6 i).2.symm

section
variable (i : grid0.Coords)

/-! At a full chunk a fetched buffer is what was fetched, whatever it held before. -/
theorem full2 (h : (i 2).val ≠ 5) (d d' : Vec F S2048x1024 .bf16) (g) : win0_2.fill i d g = win0_2.fill i d' g :=
  funext fun x => (fill_val win0_2 i d g x (in2 i x fun e => absurd e h)).trans (fill_val win0_2 i d' g x _).symm
theorem full3 (h : (i 2).val ≠ 5) (d d' : Vec F S2048x1024 .bf16) (g) : win0_3.fill i d g = win0_3.fill i d' g :=
  funext fun x => (fill_val win0_3 i d g x (in3 i x fun e => absurd e h)).trans (fill_val win0_3 i d' g x _).symm
theorem full4 (h : (i 2).val ≠ 5) (d d' : Vec F S1024x2048 .bf16) (g) : win0_4.fill i d g = win0_4.fill i d' g :=
  funext fun x => (fill_val win0_4 i d g x (in4 i x fun e => absurd e h)).trans (fill_val win0_4 i d' g x _).symm
theorem full5 (h : (i 2).val ≠ 5) (d d' : Vec F S3x1024 .f32) (g) : win0_5.fill i d g = win0_5.fill i d' g :=
  funext fun x => (fill_val win0_5 i d g x (in5 i x fun e => absurd e h)).trans (fill_val win0_5 i d' g x _).symm
theorem full6 (h : (i 2).val ≠ 5) (d d' : Vec F S1x1024 .f32) (g) : win0_6.fill i d g = win0_6.fill i d' g :=
  funext fun x => (fill_val win0_6 i d g x (in6 i x fun e => absurd e h)).trans (fill_val win0_6 i d' g x _).symm

/-! At any chunk the half a last chunk reads is what was fetched. -/
theorem half_2 (d d' : Vec F S2048x1024 .bf16) (g) : half2 (win0_2.fill i d g) = half2 (win0_2.fill i d' g) :=
  funext fun x => (fill_val win0_2 i d g _ (in2 i _ fun _ => by have := (x 1).isLt; show 0 + 1 * (x 1).val < 512; change (x 1).val < 512 at this; omega)).trans (fill_val win0_2 i d' g _ _).symm
theorem half_3 (d d' : Vec F S2048x1024 .bf16) (g) : half2 (win0_3.fill i d g) = half2 (win0_3.fill i d' g) :=
  funext fun x => (fill_val win0_3 i d g _ (in3 i _ fun _ => by have := (x 1).isLt; show 0 + 1 * (x 1).val < 512; change (x 1).val < 512 at this; omega)).trans (fill_val win0_3 i d' g _ _).symm
theorem half_4 (d d' : Vec F S1024x2048 .bf16) (g) : half4 (win0_4.fill i d g) = half4 (win0_4.fill i d' g) :=
  funext fun x => (fill_val win0_4 i d g _ (in4 i _ fun _ => by have := (x 0).isLt; show 0 + 1 * (x 0).val < 512; change (x 0).val < 512 at this; omega)).trans (fill_val win0_4 i d' g _ _).symm
theorem half_5 (d d' : Vec F S3x1024 .f32) (g) : half5 (win0_5.fill i d g) = half5 (win0_5.fill i d' g) :=
  funext fun x => (fill_val win0_5 i d g _ (in5 i _ fun _ => by have := (x 1).isLt; show 0 + 1 * (x 1).val < 512; change (x 1).val < 512 at this; omega)).trans (fill_val win0_5 i d' g _ _).symm
theorem half_6 (d d' : Vec F S1x1024 .f32) (g) : half6 (win0_6.fill i d g) = half6 (win0_6.fill i d' g) :=
  funext fun x => (fill_val win0_6 i d g _ (in6 i _ fun _ => by have := (x 1).isLt; show 0 + 1 * (x 1).val < 512; change (x 1).val < 512 at this; omega)).trans (fill_val win0_6 i d' g _ _).symm
end

/-! ## The branch conditions at a grid point -/

theorem coords2 (t : Fin cfg0.N) : (grid0.coords t 2).val = t.val % 6 := by
  have e2 : (grid0.coords t 2).val = t.val / 1 % 6 := Pipeline.Grid.coords_val t 2 (by decide) rfl
  rw [e2, Nat.div_one]

theorem c1_iff (t : Fin cfg0.N) : c1 (grid0.coords t) ↔ t.val % 6 = 0 := by
  simp only [c1, coords2]
  have hk : ∀ k : Fin 6, (Scalar.cmpi .ne (Scalar.extui (Scalar.cmpi .eq (BitVec.ofNat 32 k.val) 0#32)) 0#32 = 1#1 ↔ k.val = 0) := by decide
  exact hk ⟨t.val % 6, Nat.mod_lt _ (by decide)⟩
theorem c2_iff (t : Fin cfg0.N) : c2 (grid0.coords t) ↔ ¬t.val % 6 = 5 := by
  simp only [c2, coords2]
  have hk : ∀ k : Fin 6, (Scalar.cmpi .ne (Scalar.extui (Scalar.xori (Scalar.cmpi .eq (BitVec.ofNat 32 k.val) 5#32) 1#1)) 0#32 = 1#1 ↔ ¬k.val = 5) := by decide
  exact hk ⟨t.val % 6, Nat.mod_lt _ (by decide)⟩
theorem c3_iff (t : Fin cfg0.N) : c3 (grid0.coords t) ↔ t.val % 6 = 5 := by
  simp only [c3, coords2]
  have hk : ∀ k : Fin 6, (Scalar.cmpi .ne (Scalar.extui (Scalar.cmpi .eq (BitVec.ofNat 32 k.val) 5#32)) 0#32 = 1#1 ↔ k.val = 5) := by decide
  exact hk ⟨t.val % 6, Nat.mod_lt _ (by decide)⟩
theorem c4_iff (t : Fin cfg0.N) : c4 (grid0.coords t) ↔ t.val % 6 = 5 := by
  simp only [c4, k0_cond4, coords2]
  have hk : ∀ k : Fin 6, (Scalar.cmpi .ne (Scalar.extui (Scalar.cmpi .eq (BitVec.ofNat 32 k.val) 5#32)) 0#32 = 1#1 ↔ k.val = 5) := by decide
  exact hk ⟨t.val % 6, Nat.mod_lt _ (by decide)⟩

end Cert.Ffn

end
-- ==== Proof.Ffn.Data.lean ====
/- The feed-forward kernel's run: what each buffer holds after each grid point, the body's obligation at every point, and
   the launch. -/
module

public import proofs.«01_k».proof.Proof.Ffn.First
public import proofs.«01_k».proof.Proof.Ffn.Win
public import proofs.«01_k».proof.Proof.Gen.KernelIdeal.Launch
public import Idealize.ShloMosaic.Lib.Claim

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

section
variable (c : Dev nD) (t : Fin cfg0.N)

/-- The blocks the body finds at point `t`; past the array's end a weight block holds the zero word. -/
abbrev b0 : Vec F S1x512x2048 .f32 := iblk m c 0 t
abbrev b1 : Vec F S1x16x2048 .f32 := iblk m c 1 t
def f2 (d : Vec F S2048x1024 .bf16) : Vec F S2048x1024 .bf16 := win0_2.fill (grid0.coords t) d (iblk m c 2 t)
def b2 : Vec F S2048x1024 .bf16 := f2 m c t (fun _ => Scalar.ofBits .bf16 0#16)
def f3 (d : Vec F S2048x1024 .bf16) : Vec F S2048x1024 .bf16 := win0_3.fill (grid0.coords t) d (iblk m c 3 t)
def b3 : Vec F S2048x1024 .bf16 := f3 m c t (fun _ => Scalar.ofBits .bf16 0#16)
def f4 (d : Vec F S1024x2048 .bf16) : Vec F S1024x2048 .bf16 := win0_4.fill (grid0.coords t) d (iblk m c 4 t)
def b4 : Vec F S1024x2048 .bf16 := f4 m c t (fun _ => Scalar.ofBits .bf16 0#16)
def f5 (d : Vec F S3x1024 .f32) : Vec F S3x1024 .f32 := win0_5.fill (grid0.coords t) d (iblk m c 5 t)
def b5 : Vec F S3x1024 .f32 := f5 m c t (fun _ => Scalar.ofBits .f32 0#32)
def f6 (d : Vec F S1x1024 .f32) : Vec F S1x1024 .f32 := win0_6.fill (grid0.coords t) d (iblk m c 6 t)
def b6 : Vec F S1x1024 .f32 := f6 m c t (fun _ => Scalar.ofBits .f32 0#32)
abbrev b7 : Vec F S1x2048 .f32 := iblk m c 7 t
abbrev b8 : Vec F S1x2048 .f32 := iblk m c 8 t

/-- A full chunk's, and a last chunk's, addition at point `t`. -/
def full (hb : Vec F S528x2048 .bf16) (acc : Vec F S512x2048 .f32) : Vec F S512x2048 .f32 :=
  accFull hb (b2 m c t) (b3 m c t) (b4 m c t) (b5 m c t) (b6 m c t) acc
def last (hb : Vec F S528x2048 .bf16) (acc : Vec F S512x2048 .f32) : Vec F S512x2048 .f32 :=
  accHalf hb (b2 m c t) (b3 m c t) (b4 m c t) (b5 m c t) (b6 m c t) acc
end

/-- The widened row tile and the accumulator after each point. -/
def st (c : Dev nD) : (n : ℕ) → n < cfg0.N → Vec F S528x2048 .bf16 × Vec F S512x2048 .f32
  | 0, hn => (hbOf (grid0.coords ⟨0, hn⟩) (b0 m c ⟨0, hn⟩) (b1 m c ⟨0, hn⟩),
      full m c ⟨0, hn⟩ (hbOf (grid0.coords ⟨0, hn⟩) (b0 m c ⟨0, hn⟩) (b1 m c ⟨0, hn⟩)) k0_pay3)
  | n + 1, hn =>
    if (n + 1) % 6 = 0 then (hbOf (grid0.coords ⟨n + 1, hn⟩) (b0 m c ⟨n + 1, hn⟩) (b1 m c ⟨n + 1, hn⟩),
      full m c ⟨n + 1, hn⟩ (hbOf (grid0.coords ⟨n + 1, hn⟩) (b0 m c ⟨n + 1, hn⟩) (b1 m c ⟨n + 1, hn⟩)) k0_pay3)
    else if (n + 1) % 6 = 5 then ((st c n (Nat.lt_of_succ_lt hn)).1,
      last m c ⟨n + 1, hn⟩ (st c n (Nat.lt_of_succ_lt hn)).1 (st c n (Nat.lt_of_succ_lt hn)).2)
    else ((st c n (Nat.lt_of_succ_lt hn)).1,
      full m c ⟨n + 1, hn⟩ (st c n (Nat.lt_of_succ_lt hn)).1 (st c n (Nat.lt_of_succ_lt hn)).2)

theorem st_first (c : Dev nD) (t : Fin cfg0.N) (h : t.val % 6 = 0) :
    st m c t.val t.isLt = (hbOf (grid0.coords t) (b0 m c t) (b1 m c t), full m c t (hbOf (grid0.coords t) (b0 m c t) (b1 m c t)) k0_pay3) := by
  obtain ⟨n, hn⟩ := t
  cases n with
  | zero => rfl
  | succ n => exact if_pos h

theorem st_last (c : Dev nD) (t : Fin cfg0.N) (h : t.val % 6 = 5) (hp : t.val - 1 < cfg0.N) :
    st m c t.val t.isLt = ((st m c (t.val - 1) hp).1, last m c t (st m c (t.val - 1) hp).1 (st m c (t.val - 1) hp).2) := by
  obtain ⟨n, hn⟩ := t
  cases n with
  | zero => exact absurd (show (0 : ℕ) % 6 = 5 from h) (by decide)
  | succ n => exact (if_neg (by have : (n + 1) % 6 = 5 := h; omega)).trans (if_pos h)

theorem st_inner (c : Dev nD) (t : Fin cfg0.N) (h : ¬t.val % 6 = 0) (h' : ¬t.val % 6 = 5) (hp : t.val - 1 < cfg0.N) :
    st m c t.val t.isLt = ((st m c (t.val - 1) hp).1, full m c t (st m c (t.val - 1) hp).1 (st m c (t.val - 1) hp).2) := by
  obtain ⟨n, hn⟩ := t
  cases n with
  | zero => exact absurd (Nat.zero_mod _) h
  | succ n => exact (if_neg h).trans (if_neg h')

/-- The row tile a last chunk stores. -/
def outAt (c : Dev nD) (t : Fin cfg0.N) : Vec F S1x512x2048 .f32 := k0_pay6 (b0 m c t) (st m c t.val t.isLt).2 (b7 m c t) (b8 m c t)

/-! ## The proof data -/

abbrev sc0 : Memref sig .tc .vmem S528x2048 .bf16 := Memref.whole cc0_scratch0
abbrev sc1 : Memref sig .tc .vmem S512x2048 .f32 := Memref.whole cc0_scratch1

theorem entry_eq (c : Dev nD) : (Pipeline.ΦA spec0 c : sProp 𝕄)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- Between points: the scratch at what the point before left, the generator register at some state. -/
def inv (c : Dev nD) : (n : ℕ) → n ≤ cfg0.N → sProp 𝕄
  | 0, _ => Pipeline.ΦA spec0 c
  | n + 1, hn => iprop(iprop(owns (c : Thread nD τ) sc0 fullShare (st m c n hn).1 ∗ owns (c : Thread nD τ) sc1 fullShare (st m c n hn).2) ∗ (∃ r, prngReg c r))

theorem inv_pos (c : Dev nD) (n : ℕ) (h : n ≤ cfg0.N) (hz : n ≠ 0) (hp : n - 1 < cfg0.N) :
    inv m c n h = iprop(iprop(owns (c : Thread nD τ) sc0 fullShare (st m c (n - 1) hp).1 ∗ owns (c : Thread nD τ) sc1 fullShare (st m c (n - 1) hp).2) ∗ (∃ r, prngReg c r)) := by
  cases n with
  | zero => exact absurd rfl hz
  | succ n => rfl

/-- Before any point the scratch is at some contents. -/
theorem inv_some (c : Dev nD) (n : ℕ) (h : n ≤ cfg0.N) : inv m c n h ⊢ (Pipeline.ΦA spec0 c : sProp 𝕄) := by
  cases n with
  | zero => exact Idealize.SL.BI.Entails.refl _
  | succ n =>
    rw [entry_eq]
    show iprop(iprop(owns (c : Thread nD τ) sc0 fullShare (st m c n h).1 ∗ owns (c : Thread nD τ) sc1 fullShare (st m c n h).2) ∗ (∃ r, prngReg c r)) ⊢ _
    iintro ⟨⟨HS0, HS1⟩, Hg⟩
    isplitl [HS0 HS1]
    · isplitl [HS0]
      · iexists _; iexact HS0
      iexists _; iexact HS1
    iexact Hg

def dats (_ : Fin 1) (c : Dev nD) : Dat τ (Elt F) Unit ℕ (UR sig nD τ) ℕ cfg0 c where
  A w := V m c (Pipeline.arrRef spec0 w)
  after w t := match w with
    | ⟨0, _⟩ => b0 m c t
    | ⟨1, _⟩ => b1 m c t
    | ⟨2, _⟩ => b2 m c t
    | ⟨3, _⟩ => b3 m c t
    | ⟨4, _⟩ => b4 m c t
    | ⟨5, _⟩ => b5 m c t
    | ⟨6, _⟩ => b6 m c t
    | ⟨7, _⟩ => b7 m c t
    | ⟨8, _⟩ => b8 m c t
    | ⟨9, _⟩ => outAt m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

section
variable (c : Dev nD) (t : Fin cfg0.N)
theorem after_0 : (dats m 0 c).after 0 t = b0 m c t := by dsimp only [dats]
theorem after_1 : (dats m 0 c).after 1 t = b1 m c t := by dsimp only [dats]
theorem after_2 : (dats m 0 c).after 2 t = b2 m c t := by dsimp only [dats]
theorem after_3 : (dats m 0 c).after 3 t = b3 m c t := by dsimp only [dats]
theorem after_4 : (dats m 0 c).after 4 t = b4 m c t := by dsimp only [dats]
theorem after_5 : (dats m 0 c).after 5 t = b5 m c t := by dsimp only [dats]
theorem after_6 : (dats m 0 c).after 6 t = b6 m c t := by dsimp only [dats]
theorem after_7 : (dats m 0 c).after 7 t = b7 m c t := by dsimp only [dats]
theorem after_8 : (dats m 0 c).after 8 t = b8 m c t := by dsimp only [dats]
theorem after_9 : (dats m 0 c).after 9 t = outAt m c t := by dsimp only [dats]

theorem before_0 (d) : (dats m 0 c).before 0 t d = b0 m c t := before0_0_of m (dats m 0 c) (A_eq m c 0) (after_0 m c) t d
theorem before_1 (d) : (dats m 0 c).before 1 t d = b1 m c t := before0_1_of m (dats m 0 c) (A_eq m c 1) (after_1 m c) t d
theorem before_7 (d) : (dats m 0 c).before 7 t d = b7 m c t := before0_7_of m (dats m 0 c) (A_eq m c 7) (after_7 m c) t d
theorem before_8 (d) : (dats m 0 c).before 8 t d = b8 m c t := before0_8_of m (dats m 0 c) (A_eq m c 8) (after_8 m c) t d

theorem blockOf_eq (w : Fin cfg0.W) : (dats m 0 c).blockOf w t = iblk m c w t := by
  unfold Dat.blockOf iblk; rw [A_eq]
theorem before_2 (d) : (dats m 0 c).before 2 t d = f2 m c t d :=
  ((dats m 0 c).before_fetched 2 t (fetch0_2 t) d).trans (congrArg (win0_2.fill (grid0.coords t) d) (blockOf_eq m c t 2))
theorem before_3 (d) : (dats m 0 c).before 3 t d = f3 m c t d :=
  ((dats m 0 c).before_fetched 3 t (fetch0_3 t) d).trans (congrArg (win0_3.fill (grid0.coords t) d) (blockOf_eq m c t 3))
theorem before_4 (d) : (dats m 0 c).before 4 t d = f4 m c t d :=
  ((dats m 0 c).before_fetched 4 t (fetch0_4 t) d).trans (congrArg (win0_4.fill (grid0.coords t) d) (blockOf_eq m c t 4))
theorem before_5 (d) : (dats m 0 c).before 5 t d = f5 m c t d :=
  ((dats m 0 c).before_fetched 5 t (fetch0_5 t) d).trans (congrArg (win0_5.fill (grid0.coords t) d) (blockOf_eq m c t 5))
theorem before_6 (d) : (dats m 0 c).before 6 t d = f6 m c t d :=
  ((dats m 0 c).before_fetched 6 t (fetch0_6 t) d).trans (congrArg (win0_6.fill (grid0.coords t) d) (blockOf_eq m c t 6))

/-- What the body leaves in each buffer, as the obligation asks. -/
theorem leaves_0 : (dats m 0 c).leaves 0 t = owns (c : Thread nD τ) (st0_0 t) fullShare (b0 m c t) := by
  rw [show (dats m 0 c).leaves 0 t = owns (c : Thread nD τ) (st0_0 t) fullShare ((dats m 0 c).after 0 t) from rfl, after_0]
theorem leaves_1 : (dats m 0 c).leaves 1 t = owns (c : Thread nD τ) (st0_1 t) fullShare (b1 m c t) := by
  rw [show (dats m 0 c).leaves 1 t = owns (c : Thread nD τ) (st0_1 t) fullShare ((dats m 0 c).after 1 t) from rfl, after_1]
theorem leaves_7 : (dats m 0 c).leaves 7 t = owns (c : Thread nD τ) (st0_7 t) fullShare (b7 m c t) := by
  rw [show (dats m 0 c).leaves 7 t = owns (c : Thread nD τ) (st0_7 t) fullShare ((dats m 0 c).after 7 t) from rfl, after_7]
theorem leaves_8 : (dats m 0 c).leaves 8 t = owns (c : Thread nD τ) (st0_8 t) fullShare (b8 m c t) := by
  rw [show (dats m 0 c).leaves 8 t = owns (c : Thread nD τ) (st0_8 t) fullShare ((dats m 0 c).after 8 t) from rfl, after_8]
theorem leaves_2 : (dats m 0 c).leaves 2 t = iprop(∃ d, owns (c : Thread nD τ) (st0_2 t) fullShare (f2 m c t d)) := by
  rw [show (dats m 0 c).leaves 2 t = iprop(∃ d, owns (c : Thread nD τ) (st0_2 t) fullShare (win0_2.fill (grid0.coords t) d (win0_2.cut (grid0.coords t) ((dats m 0 c).after 2 t)))) from rfl, after_2]
  unfold b2 f2
  simp only [Window.cut_fill]
  rfl
theorem leaves_3 : (dats m 0 c).leaves 3 t = iprop(∃ d, owns (c : Thread nD τ) (st0_3 t) fullShare (f3 m c t d)) := by
  rw [show (dats m 0 c).leaves 3 t = iprop(∃ d, owns (c : Thread nD τ) (st0_3 t) fullShare (win0_3.fill (grid0.coords t) d (win0_3.cut (grid0.coords t) ((dats m 0 c).after 3 t)))) from rfl, after_3]
  unfold b3 f3
  simp only [Window.cut_fill]
  rfl
theorem leaves_4 : (dats m 0 c).leaves 4 t = iprop(∃ d, owns (c : Thread nD τ) (st0_4 t) fullShare (f4 m c t d)) := by
  rw [show (dats m 0 c).leaves 4 t = iprop(∃ d, owns (c : Thread nD τ) (st0_4 t) fullShare (win0_4.fill (grid0.coords t) d (win0_4.cut (grid0.coords t) ((dats m 0 c).after 4 t)))) from rfl, after_4]
  unfold b4 f4
  simp only [Window.cut_fill]
  rfl
theorem leaves_5 : (dats m 0 c).leaves 5 t = iprop(∃ d, owns (c : Thread nD τ) (st0_5 t) fullShare (f5 m c t d)) := by
  rw [show (dats m 0 c).leaves 5 t = iprop(∃ d, owns (c : Thread nD τ) (st0_5 t) fullShare (win0_5.fill (grid0.coords t) d (win0_5.cut (grid0.coords t) ((dats m 0 c).after 5 t)))) from rfl, after_5]
  unfold b5 f5
  simp only [Window.cut_fill]
  rfl
theorem leaves_6 : (dats m 0 c).leaves 6 t = iprop(∃ d, owns (c : Thread nD τ) (st0_6 t) fullShare (f6 m c t d)) := by
  rw [show (dats m 0 c).leaves 6 t = iprop(∃ d, owns (c : Thread nD τ) (st0_6 t) fullShare (win0_6.fill (grid0.coords t) d (win0_6.cut (grid0.coords t) ((dats m 0 c).after 6 t)))) from rfl, after_6]
  unfold b6 f6
  simp only [Window.cut_fill]
  rfl
theorem leaves_9 (h : t.val % 6 = 5) : (dats m 0 c).leaves 9 t = owns (c : Thread nD τ) (st0_9 t) fullShare (outAt m c t) := by
  have hi : cfg0.idle 9 (grid0.coords t) = false := by
    show (!(k0_cond4 (grid0.coords t) == 1#1)) = false
    rw [(c4_iff t).mpr h]; rfl
  unfold Dat.leaves; rw [hi, after_9]
theorem leaves_9' (h : ¬t.val % 6 = 5) : (dats m 0 c).leaves 9 t = iprop(∃ d, owns (c : Thread nD τ) (st0_9 t) fullShare ((dats m 0 c).before 9 t d)) := by
  have hi : cfg0.idle 9 (grid0.coords t) = true := by
    show (!(k0_cond4 (grid0.coords t) == 1#1)) = true
    have : ¬k0_cond4 (grid0.coords t) = 1#1 := fun e => h ((c4_iff t).mp e)
    rw [beq_eq_false_iff_ne.mpr this]; rfl
  have hf : (cfg0.win 9).flush t = false := Bool.eq_false_iff.mpr fun e => h ((flush0_9 t).mp e)
  exact (dats m 0 c).leaves_idle 9 t hi hf
end

end Cert.Ffn

end
-- ==== Proof.Ffn.Run.lean ====
/- The feed-forward kernel's body obligation at every grid point, its launch, and the frame. -/
module

public import proofs.«01_k».proof.Proof.Ffn.Data

@[expose] public section

set_option maxRecDepth 16384

noncomputable section

namespace Cert.Ffn

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window BodyObligation BodyObligationLoose cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def post (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t)

section
variable (c : Dev nD) (t : Fin cfg0.N)

theorem full_fill (h : ¬t.val % 6 = 5) (hb : Vec F S528x2048 .bf16) (acc : Vec F S512x2048 .f32)
    (d2 d3 : Vec F S2048x1024 .bf16) (d4 : Vec F S1024x2048 .bf16) (d5 : Vec F S3x1024 .f32) (d6 : Vec F S1x1024 .f32) :
    accFull hb (f2 m c t d2) (f3 m c t d3)
      (f4 m c t d4) (f5 m c t d5)
      (f6 m c t d6) acc = full m c t hb acc := by
  have h' : (grid0.coords t 2).val ≠ 5 := by rw [coords2]; exact h
  unfold full b2 b3 b4 b5 b6 f2 f3 f4 f5 f6
  rw [full2 _ h' d2, full3 _ h' d3, full4 _ h' d4, full5 _ h' d5, full6 _ h' d6]

theorem last_fill (hb : Vec F S528x2048 .bf16) (acc : Vec F S512x2048 .f32)
    (d2 d3 : Vec F S2048x1024 .bf16) (d4 : Vec F S1024x2048 .bf16) (d5 : Vec F S3x1024 .f32) (d6 : Vec F S1x1024 .f32) :
    accHalf hb (f2 m c t d2) (f3 m c t d3)
      (f4 m c t d4) (f5 m c t d5)
      (f6 m c t d6) acc = last m c t hb acc := by
  unfold last accHalf b2 b3 b4 b5 b6 f2 f3 f4 f5 f6
  rw [half_2 _ d2, half_3 _ d3, half_4 _ d4, half_5 _ d5, half_6 _ d6]
end

/-! The three triples with the new accumulator named. -/
section
variable (c : Dev nD) (i : grid0.Coords)
  (arg3 : Memref sig .tc .vmem S1x512x2048 .f32) (harg3 : arg3.IsWhole) (arg4 : Memref sig .tc .vmem S1x16x2048 .f32) (harg4 : arg4.IsWhole)
  (arg5 : Memref sig .tc .vmem S2048x1024 .bf16) (harg5 : arg5.IsWhole) (arg6 : Memref sig .tc .vmem S2048x1024 .bf16) (harg6 : arg6.IsWhole)
  (arg7 : Memref sig .tc .vmem S1024x2048 .bf16) (harg7 : arg7.IsWhole) (arg8 : Memref sig .tc .vmem S3x1024 .f32) (harg8 : arg8.IsWhole)
  (arg9 : Memref sig .tc .vmem S1x1024 .f32) (harg9 : arg9.IsWhole) (arg10 : Memref sig .tc .vmem S1x2048 .f32) (harg10 : arg10.IsWhole)
  (arg11 : Memref sig .tc .vmem S1x2048 .f32) (harg11 : arg11.IsWhole) (arg12 : Memref sig .tc .vmem S1x512x2048 .f32) (harg12 : arg12.IsWhole)
  (arg13 : Memref sig .tc .vmem S528x2048 .bf16) (harg13 : arg13.IsWhole) (arg14 : Memref sig .tc .vmem S512x2048 .f32) (harg14 : arg14.IsWhole)
  (x0 : Vec F S1x512x2048 .f32) (x1 : Vec F S1x16x2048 .f32) (x2 x3 : Vec F S2048x1024 .bf16) (x4 : Vec F S1024x2048 .bf16)
  (x5 : Vec F S3x1024 .f32) (x6 : Vec F S1x1024 .f32) (x7 x8 : Vec F S1x2048 .f32)

theorem run_first' (h1 : c1 i) (h2 : c2 i) (h3 : ¬c3 i) (h4 : ¬c4 i)
    (y : Vec F S1x512x2048 .f32) (acc' : Vec F S512x2048 .f32) (hacc : accFull (hbOf i x0 x1) x2 x3 x4 x5 x6 k0_pay3 = acc') (E : Set ℕ) (K : PUnit → sProp 𝕄) :
    iprop(ins c arg3 arg4 arg5 arg6 arg7 arg8 arg9 arg10 arg11 x0 x1 x2 x3 x4 x5 x6 x7 x8
        ∗ owns (c : Thread nD τ) arg12 fullShare y ∗ (∃ d, owns (c : Thread nD τ) arg13 fullShare d) ∗ (∃ d, owns (c : Thread nD τ) arg14 fullShare d)
        ∗ (iprop(ins c arg3 arg4 arg5 arg6 arg7 arg8 arg9 arg10 arg11 x0 x1 x2 x3 x4 x5 x6 x7 x8
            ∗ owns (c : Thread nD τ) arg12 fullShare y ∗ owns (c : Thread nD τ) arg13 fullShare (hbOf i x0 x1)
            ∗ owns (c : Thread nD τ) arg14 fullShare acc') -∗ K ⟨⟩))
      ⊢ wp frame (wpE (defs₀ (F := F)) Variants.none c none) E
          (cc0_ffn_ln2 i arg3 harg3 arg4 harg4 arg5 harg5 arg6 harg6 arg7 harg7 arg8 harg8 arg9 harg9 arg10 harg10 arg11 harg11 arg12 harg12 arg13 harg13 arg14 harg14) K := by
  subst hacc
  exact run_first c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 h1 h2 h3 h4 y E K

theorem run_inner' (h1 : ¬c1 i) (h2 : c2 i) (h3 : ¬c3 i) (h4 : ¬c4 i)
    (y : Vec F S1x512x2048 .f32) (hb : Vec F S528x2048 .bf16) (acc : Vec F S512x2048 .f32) (acc' : Vec F S512x2048 .f32) (hacc : accFull hb x2 x3 x4 x5 x6 acc = acc') (E : Set ℕ) (K : PUnit → sProp 𝕄) :
    iprop(ins c arg3 arg4 arg5 arg6 arg7 arg8 arg9 arg10 arg11 x0 x1 x2 x3 x4 x5 x6 x7 x8
        ∗ owns (c : Thread nD τ) arg12 fullShare y ∗ owns (c : Thread nD τ) arg13 fullShare hb ∗ owns (c : Thread nD τ) arg14 fullShare acc
        ∗ (iprop(ins c arg3 arg4 arg5 arg6 arg7 arg8 arg9 arg10 arg11 x0 x1 x2 x3 x4 x5 x6 x7 x8
            ∗ owns (c : Thread nD τ) arg12 fullShare y ∗ owns (c : Thread nD τ) arg13 fullShare hb
            ∗ owns (c : Thread nD τ) arg14 fullShare acc') -∗ K ⟨⟩))
      ⊢ wp frame (wpE (defs₀ (F := F)) Variants.none c none) E
          (cc0_ffn_ln2 i arg3 harg3 arg4 harg4 arg5 harg5 arg6 harg6 arg7 harg7 arg8 harg8 arg9 harg9 arg10 harg10 arg11 harg11 arg12 harg12 arg13 harg13 arg14 harg14) K := by
  subst hacc
  exact run_inner c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 h1 h2 h3 h4 y hb acc E K

theorem run_last' (h1 : ¬c1 i) (h2 : ¬c2 i) (h3 : c3 i) (h4 : c4 i)
    (hb : Vec F S528x2048 .bf16) (acc : Vec F S512x2048 .f32) (acc' : Vec F S512x2048 .f32) (hacc : accHalf hb x2 x3 x4 x5 x6 acc = acc') (E : Set ℕ) (K : PUnit → sProp 𝕄) :
    iprop(ins c arg3 arg4 arg5 arg6 arg7 arg8 arg9 arg10 arg11 x0 x1 x2 x3 x4 x5 x6 x7 x8
        ∗ (∃ d, owns (c : Thread nD τ) arg12 fullShare d) ∗ owns (c : Thread nD τ) arg13 fullShare hb ∗ owns (c : Thread nD τ) arg14 fullShare acc
        ∗ (iprop(ins c arg3 arg4 arg5 arg6 arg7 arg8 arg9 arg10 arg11 x0 x1 x2 x3 x4 x5 x6 x7 x8
            ∗ owns (c : Thread nD τ) arg12 fullShare (k0_pay6 x0 acc' x7 x8) ∗ owns (c : Thread nD τ) arg13 fullShare hb
            ∗ owns (c : Thread nD τ) arg14 fullShare acc') -∗ K ⟨⟩))
      ⊢ wp frame (wpE (defs₀ (F := F)) Variants.none c none) E
          (cc0_ffn_ln2 i arg3 harg3 arg4 harg4 arg5 harg5 arg6 harg6 arg7 harg7 arg8 harg8 arg9 harg9 arg10 harg10 arg11 harg11 arg12 harg12 arg13 harg13 arg14 harg14) K := by
  subst hacc
  exact run_last c i arg3 harg3 arg4 harg4 arg5 harg5 arg6 harg6 arg7 harg7 arg8 harg8 arg9 harg9 arg10 harg10 arg11 harg11 arg12 harg12 arg13 harg13 arg14 harg14 x0 x1 x2 x3 x4 x5 x6 x7 x8 h1 h2 h3 h4 hb acc E K

end

set_option maxHeartbeats 1000000 in
theorem sound_last (c : Dev nD) (t : Fin cfg0.N) (h5 : t.val % 6 = 5) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8,
    leaves_0, leaves_1, leaves_2, leaves_3, leaves_4, leaves_5, leaves_6, leaves_7, leaves_8]
  rw [show (dats m 0 c).owesAt () t.succ = (dats m 0 c).owesAt () t.castSucc from rfl, inv_castSucc,
    show (dats m 0 c).Φ t.succ = iprop(iprop(owns (c : Thread nD τ) sc0 fullShare (st m c t.val t.isLt).1 ∗ owns (c : Thread nD τ) sc1 fullShare (st m c t.val t.isLt).2) ∗ (∃ r, prngReg c r)) from rfl]
  have hp : t.val - 1 < cfg0.N := lt_of_le_of_lt (Nat.sub_le _ _) t.isLt
  rw [leaves_9 m c t h5, inv_pos m c _ _ (by omega) hp]
  unfold outAt
  rw [st_last m c t h5 hp]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_last' c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) sc0 (Memref.isWhole_whole _) sc1 (Memref.isWhole_whole _)
      (b0 m c t) (b1 m c t) (f2 m c t d2) (f3 m c t d3) (f4 m c t d4) (f5 m c t d5) (f6 m c t d6) (b7 m c t) (b8 m c t)
      (fun e => absurd ((c1_iff t).mp e) (by omega)) (fun e => (c2_iff t).mp e h5) ((c3_iff t).mpr h5) ((c4_iff t).mpr h5)
      (st m c (t.val - 1) hp).1 (st m c (t.val - 1) hp).2 _ (last_fill m c t _ _ d2 d3 d4 d5 d6) Set.univ _)
  isplitl [H0 H1 H2 H3 H4 H5 H6 H7 H8]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexists _; iexact H9
  isplitl [HS0]; · iexact HS0
  isplitl [HS1]; · iexact HS1
  iintro ⟨Hin, H9, HS0, HS1⟩
  unfold ins
  icases Hin with ⟨H0, H1, H2, H3, H4, H5, H6, H7, H8⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  iexact H9

set_option maxHeartbeats 1000000 in
theorem sound_first (c : Dev nD) (t : Fin cfg0.N) (h0 : t.val % 6 = 0) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8,
    leaves_0, leaves_1, leaves_2, leaves_3, leaves_4, leaves_5, leaves_6, leaves_7, leaves_8]
  rw [show (dats m 0 c).owesAt () t.succ = (dats m 0 c).owesAt () t.castSucc from rfl, inv_castSucc,
    show (dats m 0 c).Φ t.succ = iprop(iprop(owns (c : Thread nD τ) sc0 fullShare (st m c t.val t.isLt).1 ∗ owns (c : Thread nD τ) sc1 fullShare (st m c t.val t.isLt).2) ∗ (∃ r, prngReg c r)) from rfl]
  have h5 : ¬t.val % 6 = 5 := by omega
  rw [leaves_9' m c t h5, st_first m c t h0]
  refine (BIClass.sep_mono (inv_some m c t.val _) (Idealize.SL.BI.Entails.refl _)).trans ?_
  rw [entry_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_first' c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) sc0 (Memref.isWhole_whole _) sc1 (Memref.isWhole_whole _)
      (b0 m c t) (b1 m c t) (f2 m c t d2) (f3 m c t d3) (f4 m c t d4) (f5 m c t d5) (f6 m c t d6) (b7 m c t) (b8 m c t)
      ((c1_iff t).mpr h0) ((c2_iff t).mpr h5) (fun e => h5 ((c3_iff t).mp e)) (fun e => h5 ((c4_iff t).mp e))
      ((dats m 0 c).before 9 t d9) _ (full_fill m c t h5 _ _ d2 d3 d4 d5 d6) Set.univ _)
  isplitl [H0 H1 H2 H3 H4 H5 H6 H7 H8]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [HS0]; · iexact HS0
  isplitl [HS1]; · iexact HS1
  iintro ⟨Hin, H9, HS0, HS1⟩
  unfold ins
  icases Hin with ⟨H0, H1, H2, H3, H4, H5, H6, H7, H8⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  iexists _; iexact H9

set_option maxHeartbeats 1000000 in
theorem sound_inner (c : Dev nD) (t : Fin cfg0.N) (h0 : ¬t.val % 6 = 0) (h5 : ¬t.val % 6 = 5) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8,
    leaves_0, leaves_1, leaves_2, leaves_3, leaves_4, leaves_5, leaves_6, leaves_7, leaves_8]
  rw [show (dats m 0 c).owesAt () t.succ = (dats m 0 c).owesAt () t.castSucc from rfl, inv_castSucc,
    show (dats m 0 c).Φ t.succ = iprop(iprop(owns (c : Thread nD τ) sc0 fullShare (st m c t.val t.isLt).1 ∗ owns (c : Thread nD τ) sc1 fullShare (st m c t.val t.isLt).2) ∗ (∃ r, prngReg c r)) from rfl]
  have hp : t.val - 1 < cfg0.N := lt_of_le_of_lt (Nat.sub_le _ _) t.isLt
  rw [leaves_9' m c t h5, inv_pos m c _ _ (fun e => h0 (by rw [e])) hp, st_inner m c t h0 h5 hp]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_inner' c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) sc0 (Memref.isWhole_whole _) sc1 (Memref.isWhole_whole _)
      (b0 m c t) (b1 m c t) (f2 m c t d2) (f3 m c t d3) (f4 m c t d4) (f5 m c t d5) (f6 m c t d6) (b7 m c t) (b8 m c t)
      (fun e => h0 ((c1_iff t).mp e)) ((c2_iff t).mpr h5) (fun e => h5 ((c3_iff t).mp e)) (fun e => h5 ((c4_iff t).mp e))
      ((dats m 0 c).before 9 t d9) (st m c (t.val - 1) hp).1 (st m c (t.val - 1) hp).2 _ (full_fill m c t h5 _ _ d2 d3 d4 d5 d6) Set.univ _)
  isplitl [H0 H1 H2 H3 H4 H5 H6 H7 H8]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [HS0]; · iexact HS0
  isplitl [HS1]; · iexact HS1
  iintro ⟨Hin, H9, HS0, HS1⟩
  unfold ins
  icases Hin with ⟨H0, H1, H2, H3, H4, H5, H6, H7, H8⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  iexists _; iexact H9

/-- The body at any point, by the chunk the point is at. -/
theorem sound (c : Dev nD) (t : Fin cfg0.N) :
    pre m c t ⊢ wp frame (wpE (defs₀ (F := F)) Variants.none c none) Set.univ (bodyAt0 t) (fun _ => post m c t) := by
  by_cases h5 : t.val % 6 = 5
  · exact sound_last m c t h5
  · by_cases h0 : t.val % 6 = 0
    · exact sound_first m c t h0
    · exact sound_inner m c t h0 h5

theorem row (t : Fin cfg0.N) : defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ := fun t => by
  rw [bigSep_W0, bigSep_W0, row]
  exact triple_restated (sound m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  dsimp only [dats]; exact inv_some m c _ _

set_option backward.isDefEq.respectTransparency.types false in
/-- The launch: every execution ends, each array at what the proof data says, every counter at zero. -/
theorem launch : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => obligation m c) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (launch m ρ)

end Cert.Ffn

end
-- ==== Proof.Ffn.Frames.lean ====
/- The feed-forward kernel's frame: its argument arrays end unchanged and every counter at zero, over any format instance. -/
module

public import proofs.«01_k».proof.Proof.Ffn.Run

@[expose] public section

noncomputable section

namespace Cert.Ffn

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The argument arrays end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (launch m ρ))

end Cert.Ffn

end
-- ==== Proof.Ffn.Spec.lean ====
/- The feed-forward block as a function of its arrays, over the extended reals: what both programs compute. -/
module

public import Idealize.ShloMosaic.Lib.Pointwise
public import Idealize.ShloMosaic.Lib.ValueIdx

@[expose] public section

noncomputable section

namespace Cert.Ffn

open Idealize.ShloMosaic
open scoped BigOperators

/-- The exact GELU in the kernel's spelling. -/
def gelu (h : EReal) : EReal :=
  (Scalar.ofBits (F := Ideal) .f32 0x3F000000#32 * h) * (Scalar.ofBits (F := Ideal) .f32 0x3F800000#32 + Ideal.erf (h * Scalar.ofBits (F := Ideal) .f32 0x3F3504F3#32))

/-- A row's normalisation at lane `d`. -/
def lnRow (v : Fin 2048 → EReal) (g b : EReal) (d : Fin 2048) : EReal :=
  ((v d - Ideal.div (∑ e, v e) (Scalar.ofBits (F := Ideal) .f32 0x45000000#32))
    * Ideal.rsqrt (Ideal.div (∑ e, (v e - Ideal.div (∑ e', v e') (Scalar.ofBits (F := Ideal) .f32 0x45000000#32)) * (v e - Ideal.div (∑ e', v e') (Scalar.ofBits (F := Ideal) .f32 0x45000000#32)))
        (Scalar.ofBits (F := Ideal) .f32 0x45000000#32) + Scalar.ofBits (F := Ideal) .f32 0x3727C5AC#32)) * g + b

section
variable (x : (⟨3, ![8, 2048, 2048]⟩ : Shape).Idx → EReal) (wu wg : (⟨2, ![2048, 5632]⟩ : Shape).Idx → EReal)
  (wd : (⟨2, ![5632, 2048]⟩ : Shape).Idx → EReal) (cw : (⟨2, ![3, 5632]⟩ : Shape).Idx → EReal) (cb : (⟨1, ![5632]⟩ : Shape).Idx → EReal)
  (g b : (⟨1, ![2048]⟩ : Shape).Idx → EReal)

/-- The projection's row `p - 2`; the two rows before the first are zero. -/
def upAt (n : Fin 8) (p : ℕ) (f : Fin 5632) : EReal :=
  if h : 2 ≤ p ∧ p - 2 < 2048 then ∑ k : Fin 2048, x (ix3 n ⟨p - 2, h.2⟩ k) * wu (ix2 k f) else 0

/-- The gated activation at a position and a hidden channel. -/
def act (n : Fin 8) (s : Fin 2048) (f : Fin 5632) : EReal :=
  gelu (((cb (ix1 f) + cw (ix2 2 f) * upAt x wu n (s.val + 2) f) + cw (ix2 1 f) * upAt x wu n (s.val + 1) f)
      + cw (ix2 0 f) * upAt x wu n s.val f)
    * ∑ k : Fin 2048, x (ix3 n s k) * wg (ix2 k f)

/-- The block's result. -/
def out (n : Fin 8) (s d : Fin 2048) : EReal :=
  lnRow (fun e => Scalar.ofBits (F := Ideal) .f32 0x3F9837F0#32 * x (ix3 n s e) + ∑ f : Fin 5632, act x wu wg cw cb n s f * wd (ix2 f e))
    (g (ix1 d)) (b (ix1 d)) d
end

end Cert.Ffn

end
-- ==== Proof.Ffn.Pay.lean ====
/- The feed-forward kernel's payloads read at an index, over the extended reals. -/
module

public import proofs.«01_k».proof.Proof.Gen.KernelIdeal.Skeleton
public import proofs.«01_k».proof.Proof.Ffn.Spec

@[expose] public section

set_option maxRecDepth 16384

noncomputable section

namespace Cert.Ffn

open Cert.KernelIdeal Cert.KernelIdeal.Gen
open Idealize.ShloMosaic
open scoped BigOperators

theorem pay7_apply (hb : Vec Ideal S528x2048 .bf16) (wu : Vec Ideal S2048x1024 .bf16) (cw : Vec Ideal S3x1024 .f32) (cb : Vec Ideal S1x1024 .f32)
    (ht : Vec Ideal S512x2048 .bf16) (wg : Vec Ideal S2048x1024 .bf16) (r : Fin 512) (f : Fin 1024) :
    k0_pay7 hb wu cw cb ht wg (ix2 r f)
      = gelu (((cb (ix2 0 f) + cw (ix2 2 f) * ∑ k : Fin 2048, hb (ix2 ⟨16 + r.val, by omega⟩ k) * wu (ix2 k f))
          + cw (ix2 1 f) * ∑ k : Fin 2048, hb (ix2 ⟨15 + r.val, by omega⟩ k) * wu (ix2 k f))
          + cw (ix2 0 f) * ∑ k : Fin 2048, hb (ix2 ⟨14 + r.val, by omega⟩ k) * wu (ix2 k f))
        * ∑ k : Fin 2048, ht (ix2 r k) * wg (ix2 k f) := by
  pointwise [k0_pay7, gelu]
  rfl

theorem pay8_apply (hb : Vec Ideal S528x2048 .bf16) (wu : Vec Ideal S2048x512 .bf16) (cw : Vec Ideal S3x512 .f32) (cb : Vec Ideal S1x512 .f32)
    (ht : Vec Ideal S512x2048 .bf16) (wg : Vec Ideal S2048x512 .bf16) (r : Fin 512) (f : Fin 512) :
    k0_pay8 hb wu cw cb ht wg (ix2 r f)
      = gelu (((cb (ix2 0 f) + cw (ix2 2 f) * ∑ k : Fin 2048, hb (ix2 ⟨16 + r.val, by omega⟩ k) * wu (ix2 k f))
          + cw (ix2 1 f) * ∑ k : Fin 2048, hb (ix2 ⟨15 + r.val, by omega⟩ k) * wu (ix2 k f))
          + cw (ix2 0 f) * ∑ k : Fin 2048, hb (ix2 ⟨14 + r.val, by omega⟩ k) * wu (ix2 k f))
        * ∑ k : Fin 2048, ht (ix2 r k) * wg (ix2 k f) := by
  pointwise [k0_pay8, gelu]
  rfl

theorem pay4_apply (a : Vec Ideal S512x1024 .bf16) (acc : Vec Ideal S512x2048 .f32) (wd : Vec Ideal S1024x2048 .bf16) (r : Fin 512) (d : Fin 2048) :
    k0_pay4 a acc wd (ix2 r d) = acc (ix2 r d) + ∑ k : Fin 1024, a (ix2 r k) * wd (ix2 k d) := by
  pointwise [k0_pay4]

theorem pay5_apply (a : Vec Ideal S512x512 .bf16) (acc : Vec Ideal S512x2048 .f32) (wd : Vec Ideal S512x2048 .bf16) (r : Fin 512) (d : Fin 2048) :
    k0_pay5 a acc wd (ix2 r d) = acc (ix2 r d) + ∑ k : Fin 512, a (ix2 r k) * wd (ix2 k d) := by
  pointwise [k0_pay5]

theorem pay3_apply (r : Fin 512) (d : Fin 2048) : k0_pay3 (F := Ideal) (ix2 r d) = 0 := by
  pointwise [k0_pay3]

theorem pay2_apply (x : Vec Ideal S1x512x2048 .f32) (r : Fin 512) (k : Fin 2048) : k0_pay2 x (ix2 r k) = x (ix3 0 r k) := by
  pointwise [k0_pay2]

theorem pay1_apply (i : grid0.Coords) (x : Vec Ideal S1x16x2048 .f32) (r : Fin 16) (k : Fin 2048) :
    k0_pay1 i x (ix2 r k) = if (i 1).val = 0 then 0 else x (ix3 0 r k) := by
  pointwise [k0_pay1]
  have h : (i 1).val < 4 := (i 1).isLt
  by_cases h0 : (i 1).val = 0
  · rw [if_pos h0, h0]; rfl
  · rw [if_neg h0]
    have e : Scalar.cmpi .eq (BitVec.ofNat 32 (i 1).val) 0#32 = 0#1 :=
      (by decide : ∀ n : Fin 4, n.val ≠ 0 → Scalar.cmpi .eq (BitVec.ofNat 32 n.val) 0#32 = 0#1) ⟨_, h⟩ h0
    rw [e]; rfl

theorem pay6_apply (x : Vec Ideal S1x512x2048 .f32) (acc : Vec Ideal S512x2048 .f32) (g b : Vec Ideal S1x2048 .f32) (r : Fin 512) (d : Fin 2048) :
    k0_pay6 x acc g b (ix3 0 r d)
      = lnRow (fun e => Scalar.ofBits (F := Ideal) .f32 0x3F9837F0#32 * x (ix3 0 r e) + acc (ix2 r e)) (g (ix2 0 d)) (b (ix2 0 d)) d := by
  pointwise [k0_pay6, lnRow]

end Cert.Ffn

end
-- ==== Proof.Ffn.Blocks.lean ====
/- What the feed-forward kernel's windows hold at a grid point, at an index, over the extended reals. -/
module

public import proofs.«01_k».proof.Proof.Ffn.Data
public import proofs.«01_k».proof.Proof.Ffn.Pay
public import Idealize.ShloMosaic.Lib.StableHlo.ReadAt

@[expose] public section

set_option maxRecDepth 16384

noncomputable section

namespace Cert.Ffn

open Cert.KernelIdeal Cert.KernelIdeal.Gen
open Idealize.ShloMosaic Idealize.ShloMosaic.TcCoe

variable (m : (ℓ : Loc nD τ sig) → Buf (Elt Ideal) ℓ) (c : Dev nD)

/-! ## The arrays the region finds -/

theorem V_v0 (j : S2048x5632.Idx) : V m c main_v0 j = m ((c : Thread nD τ).loc main_arg1) j := by
  after_reads_at
theorem V_v1 (j : S2048x5632.Idx) : V m c main_v1 j = m ((c : Thread nD τ).loc main_arg2) j := by
  after_reads_at
theorem V_v2 (j : S5632x2048.Idx) : V m c main_v2 j = m ((c : Thread nD τ).loc main_arg3) j := by
  after_reads_at
theorem V_v3 (f : Fin 5632) : V m c main_v3 (ix2 0 f : S1x5632.Idx) = m ((c : Thread nD τ).loc main_arg5) (ix1 f : S5632.Idx) := by
  after_reads_at
theorem V_v4 (f : Fin 2048) : V m c main_v4 (ix2 0 f : S1x2048.Idx) = m ((c : Thread nD τ).loc main_arg6) (ix1 f : S2048.Idx) := by
  after_reads_at
theorem V_v5 (f : Fin 2048) : V m c main_v5 (ix2 0 f : S1x2048.Idx) = m ((c : Thread nD τ).loc main_arg7) (ix1 f : S2048.Idx) := by
  after_reads_at

/-! ## The grid's coordinates and the index maps -/

theorem lt_N (t : Fin cfg0.N) : t.val < 192 := lt_of_lt_of_eq t.isLt N_0
theorem coords0 (t : Fin cfg0.N) : (grid0.coords t 0).val = t.val / 24 := by
  have e : (grid0.coords t 0).val = t.val / 24 % 8 := Pipeline.Grid.coords_val t 0 (by decide) rfl
  have := lt_N t; rw [e]; omega
theorem coords1 (t : Fin cfg0.N) : (grid0.coords t 1).val = t.val / 6 % 4 :=
  Pipeline.Grid.coords_val t 1 (by decide) rfl

theorem toNat8 (k : Fin 8) : (BitVec.ofNat 32 k.val).toNat = k.val := by revert k; decide
theorem toNat4 (k : Fin 4) : (BitVec.ofNat 32 k.val).toNat = k.val := by revert k; decide
theorem halo4 (k : Fin 4) : (Scalar.maxsi (Scalar.subi (Scalar.muli (BitVec.ofNat 32 k.val) 32#32) 1#32) 0#32).toNat = 32 * k.val - 1 := by revert k; decide

theorem tr0 (i : grid0.Coords) : cc0_transform_0 i = ![(i 0).val, (i 1).val, 0] := by
  funext a; fin_cases a
  · exact toNat8 (i 0)
  · exact toNat4 (i 1)
  · rfl
theorem tr1 (i : grid0.Coords) : cc0_transform_1 i = ![(i 0).val, 32 * (i 1).val - 1, 0] := by
  funext a; fin_cases a
  · exact toNat8 (i 0)
  · exact halo4 (i 1)
  · rfl
theorem tr9 (i : grid0.Coords) : cc0_transform_9 i = ![(i 0).val, (i 1).val, 0] := by
  funext a; fin_cases a
  · exact toNat8 (i 0)
  · exact toNat4 (i 1)
  · rfl

/-! ## The blocks -/

variable (t : Fin cfg0.N)

/-- The batch row, the first position of the row tile, and the chunk of a grid point. -/
abbrev bat : Fin 8 := ⟨t.val / 24, by have := lt_N t; omega⟩
abbrev pos (r : Fin 512) : Fin 2048 := ⟨512 * (t.val / 6 % 4) + r.val, by omega⟩

theorem b0_apply (r : Fin 512) (k : Fin 2048) :
    b0 m c t (ix3 0 r k) = m ((c : Thread nD τ).loc main_arg0) (ix3 (bat t) (pos t r) k : S8x2048x2048.Idx) := by
  show V m c main_arg0 (((cfg0.win 0).blk t).view.emb (ix3 0 r k)) = _
  rw [V_main_arg0]
  congr 1
  funext a; apply Fin.ext
  match a with
  | ⟨0, _⟩ => show cc0_transform_0 (grid0.coords t) 0 * 1 + 1 * 0 = t.val / 24; rw [tr0]; show (grid0.coords t 0).val * 1 + 1 * 0 = _; rw [coords0]; omega
  | ⟨1, _⟩ => show cc0_transform_0 (grid0.coords t) 1 * 512 + 1 * r.val = 512 * (t.val / 6 % 4) + r.val; rw [tr0]; show (grid0.coords t 1).val * 512 + 1 * r.val = _; rw [coords1]; omega
  | ⟨2, _⟩ => show cc0_transform_0 (grid0.coords t) 2 * 2048 + 1 * k.val = k.val; rw [tr0]; show 0 * 2048 + 1 * k.val = _; omega

/-- The halo block's rows 14 and 15 (past the sequence's first tile) are the two positions before the tile. -/
theorem b1_apply (h : t.val / 6 % 4 ≠ 0) (r : Fin 16) (k : Fin 2048) :
    b1 m c t (ix3 0 r k) = m ((c : Thread nD τ).loc main_arg0) (ix3 (bat t) (⟨512 * (t.val / 6 % 4) + r.val - 16, by omega⟩ : Fin 2048) k : S8x2048x2048.Idx) := by
  show V m c main_arg0 (((cfg0.win 1).blk t).view.emb (ix3 0 r k)) = _
  rw [V_main_arg0]
  congr 1
  funext a; apply Fin.ext
  match a with
  | ⟨0, _⟩ => show cc0_transform_1 (grid0.coords t) 0 * 1 + 1 * 0 = t.val / 24; rw [tr1]; show (grid0.coords t 0).val * 1 + 1 * 0 = _; rw [coords0]; omega
  | ⟨1, _⟩ => show cc0_transform_1 (grid0.coords t) 1 * 16 + 1 * r.val = 512 * (t.val / 6 % 4) + r.val - 16; rw [tr1]; show (32 * (grid0.coords t 1).val - 1) * 16 + 1 * r.val = _; rw [coords1]; omega
  | ⟨2, _⟩ => show cc0_transform_1 (grid0.coords t) 2 * 2048 + 1 * k.val = k.val; rw [tr1]; show 0 * 2048 + 1 * k.val = _; omega

theorem b7_apply (d : Fin 2048) : b7 m c t (ix2 0 d) = m ((c : Thread nD τ).loc main_arg6) (ix1 d : S2048.Idx) := by
  refine Eq.trans ?_ (V_v4 m c _)
  show V m c main_v4 (((cfg0.win 7).blk t).view.emb (ix2 0 d)) = _
  congr 1
  funext a; apply Fin.ext
  match a with
  | ⟨0, _⟩ => rfl
  | ⟨1, _⟩ => show 0 * 2048 + 1 * d.val = d.val; omega
theorem b8_apply (d : Fin 2048) : b8 m c t (ix2 0 d) = m ((c : Thread nD τ).loc main_arg7) (ix1 d : S2048.Idx) := by
  refine Eq.trans ?_ (V_v5 m c _)
  show V m c main_v5 (((cfg0.win 8).blk t).view.emb (ix2 0 d)) = _
  congr 1
  funext a; apply Fin.ext
  match a with
  | ⟨0, _⟩ => rfl
  | ⟨1, _⟩ => show 0 * 2048 + 1 * d.val = d.val; omega

section
variable (f : Fin 1024) (hf : 1024 * (t.val % 6) + f.val < 5632)
include hf

theorem half_bound : (grid0.coords t 2).val = 5 → f.val < 512 := by rw [coords2]; intro h; omega

theorem b2_apply (k : Fin 2048) : b2 m c t (ix2 k f) = m ((c : Thread nD τ).loc main_arg1) (ix2 k ⟨1024 * (t.val % 6) + f.val, hf⟩ : S2048x5632.Idx) := by
  refine Eq.trans ?_ (V_v0 m c _); unfold b2 f2
  rw [fill_val win0_2 _ _ _ _ (in2 _ (ix2 k f) (half_bound t f hf))]
  show V m c main_v0 (((cfg0.win 2).blk t).view.emb _) = _
  congr 1
  funext a; apply Fin.ext
  match a with
  | ⟨0, _⟩ => show cc0_transform_2 (grid0.coords t) 0 * 2048 + 1 * k.val = k.val; rw [tr2]; show 0 * 2048 + 1 * k.val = _; omega
  | ⟨1, _⟩ => show cc0_transform_2 (grid0.coords t) 1 * 1024 + 1 * f.val = 1024 * (t.val % 6) + f.val; rw [tr2]; show (grid0.coords t 2).val * 1024 + 1 * f.val = _; rw [coords2]; omega
theorem b3_apply (k : Fin 2048) : b3 m c t (ix2 k f) = m ((c : Thread nD τ).loc main_arg2) (ix2 k ⟨1024 * (t.val % 6) + f.val, hf⟩ : S2048x5632.Idx) := by
  refine Eq.trans ?_ (V_v1 m c _); unfold b3 f3
  rw [fill_val win0_3 _ _ _ _ (in3 _ (ix2 k f) (half_bound t f hf))]
  show V m c main_v1 (((cfg0.win 3).blk t).view.emb _) = _
  congr 1
  funext a; apply Fin.ext
  match a with
  | ⟨0, _⟩ => show cc0_transform_3 (grid0.coords t) 0 * 2048 + 1 * k.val = k.val; rw [tr3]; show 0 * 2048 + 1 * k.val = _; omega
  | ⟨1, _⟩ => show cc0_transform_3 (grid0.coords t) 1 * 1024 + 1 * f.val = 1024 * (t.val % 6) + f.val; rw [tr3]; show (grid0.coords t 2).val * 1024 + 1 * f.val = _; rw [coords2]; omega
theorem b4_apply (d : Fin 2048) : b4 m c t (ix2 f d) = m ((c : Thread nD τ).loc main_arg3) (ix2 ⟨1024 * (t.val % 6) + f.val, hf⟩ d : S5632x2048.Idx) := by
  refine Eq.trans ?_ (V_v2 m c _); unfold b4 f4
  rw [fill_val win0_4 _ _ _ _ (in4 _ (ix2 f d) (half_bound t f hf))]
  show V m c main_v2 (((cfg0.win 4).blk t).view.emb _) = _
  congr 1
  funext a; apply Fin.ext
  match a with
  | ⟨0, _⟩ => show cc0_transform_4 (grid0.coords t) 0 * 1024 + 1 * f.val = 1024 * (t.val % 6) + f.val; rw [tr4]; show (grid0.coords t 2).val * 1024 + 1 * f.val = _; rw [coords2]; omega
  | ⟨1, _⟩ => show cc0_transform_4 (grid0.coords t) 1 * 2048 + 1 * d.val = d.val; rw [tr4]; show 0 * 2048 + 1 * d.val = _; omega
theorem b5_apply (k : Fin 3) : b5 m c t (ix2 k f) = m ((c : Thread nD τ).loc main_arg4) (ix2 k ⟨1024 * (t.val % 6) + f.val, hf⟩ : S3x5632.Idx) := by
  refine Eq.trans ?_ (congrFun (V_main_arg4 m c) _); unfold b5 f5
  rw [fill_val win0_5 _ _ _ _ (in5 _ (ix2 k f) (half_bound t f hf))]
  show V m c main_arg4 (((cfg0.win 5).blk t).view.emb _) = _
  congr 1
  funext a; apply Fin.ext
  match a with
  | ⟨0, _⟩ => show cc0_transform_5 (grid0.coords t) 0 * 3 + 1 * k.val = k.val; rw [tr5]; show 0 * 3 + 1 * k.val = _; omega
  | ⟨1, _⟩ => show cc0_transform_5 (grid0.coords t) 1 * 1024 + 1 * f.val = 1024 * (t.val % 6) + f.val; rw [tr5]; show (grid0.coords t 2).val * 1024 + 1 * f.val = _; rw [coords2]; omega
theorem b6_apply : b6 m c t (ix2 0 f) = m ((c : Thread nD τ).loc main_arg5) (ix1 ⟨1024 * (t.val % 6) + f.val, hf⟩ : S5632.Idx) := by
  refine Eq.trans ?_ (V_v3 m c _); unfold b6 f6
  rw [fill_val win0_6 _ _ _ _ (in6 _ (ix2 0 f) (half_bound t f hf))]
  show V m c main_v3 (((cfg0.win 6).blk t).view.emb _) = _
  congr 1
  funext a; apply Fin.ext
  match a with
  | ⟨0, _⟩ => show cc0_transform_6 (grid0.coords t) 0 * 1 + 1 * 0 = 0; rw [tr6]; rfl
  | ⟨1, _⟩ => show cc0_transform_6 (grid0.coords t) 1 * 1024 + 1 * f.val = 1024 * (t.val % 6) + f.val; rw [tr6]; show (grid0.coords t 2).val * 1024 + 1 * f.val = _; rw [coords2]; omega
end

/-! ## The widened row tile -/

theorem hb_tile (i : grid0.Coords) (x0 : Vec Ideal S1x512x2048 .f32) (x1 : Vec Ideal S1x16x2048 .f32) (r : Fin 512) (k : Fin 2048) (hr) :
    hbOf i x0 x1 (ix2 ⟨16 + r.val, hr⟩ k) = x0 (ix3 0 r k) := by
  refine Eq.trans ?_ (pay2_apply x0 r k)
  unfold hbOf
  have e : (ix2 ⟨16 + r.val, hr⟩ k : S528x2048.Idx) = rTile.emb (ix2 r k) := by
    funext a; apply Fin.ext
    match a with
    | ⟨0, _⟩ => show 16 + r.val = 16 + 1 * r.val; omega
    | ⟨1, _⟩ => show k.val = 0 + 1 * k.val; omega
  rw [e, View.canon_cons_emb]

theorem hb_halo (i : grid0.Coords) (x0 : Vec Ideal S1x512x2048 .f32) (x1 : Vec Ideal S1x16x2048 .f32) (r : Fin 16) (k : Fin 2048) (hr) :
    hbOf i x0 x1 (ix2 ⟨r.val, hr⟩ k) = if (i 1).val = 0 then 0 else x1 (ix3 0 r k) := by
  refine Eq.trans ?_ (pay1_apply i x1 r k)
  unfold hbOf
  have e : (ix2 ⟨r.val, hr⟩ k : S528x2048.Idx) = rHalo.emb (ix2 r k) := by
    funext a; apply Fin.ext
    match a with
    | ⟨0, _⟩ => show r.val = 0 + 1 * r.val; omega
    | ⟨1, _⟩ => show k.val = 0 + 1 * k.val; omega
  rw [View.canon_cons_of_not_mem, e, View.canon_cons_emb]
  intro hm
  have hm' : (ix2 ⟨r.val, hr⟩ k : S528x2048.Idx) ∈ rTile.set := hm
  simp only [rTile, Rect.mem_set_unit] at hm'
  have h0 := (hm' 0).1
  have : 16 ≤ r.val := h0
  omega

end Cert.Ffn

end
-- ==== Proof.Ffn.Chunk.lean ====
/- The accumulator over the hidden chunks, and the row tile the last chunk stores, over the extended reals. -/
module

public import proofs.«01_k».proof.Proof.Ffn.Blocks

@[expose] public section

set_option maxRecDepth 16384

noncomputable section

namespace Cert.Ffn

open Cert.KernelIdeal Cert.KernelIdeal.Gen
open Idealize.ShloMosaic Idealize.ShloMosaic.TcCoe

variable (m : (ℓ : Loc nD τ sig) → Buf (Elt Ideal) ℓ) (c : Dev nD)

/-! ## The arguments, as plain functions of their indices -/

abbrev X : S8x2048x2048.Idx → EReal := m ((c : Thread nD τ).loc main_arg0)
abbrev WU : S2048x5632.Idx → EReal := m ((c : Thread nD τ).loc main_arg1)
abbrev WG : S2048x5632.Idx → EReal := m ((c : Thread nD τ).loc main_arg2)
abbrev WD : S5632x2048.Idx → EReal := m ((c : Thread nD τ).loc main_arg3)
abbrev CW : S3x5632.Idx → EReal := m ((c : Thread nD τ).loc main_arg4)
abbrev CB : S5632.Idx → EReal := m ((c : Thread nD τ).loc main_arg5)
abbrev LG : S2048.Idx → EReal := m ((c : Thread nD τ).loc main_arg6)
abbrev LB : S2048.Idx → EReal := m ((c : Thread nD τ).loc main_arg7)

/-! ## The widened row tile: two rows of the tile before, then the tile -/

/-- Row `p - 2` of a batch row; the two rows before the first are zero. -/
def rowAt (x : S8x2048x2048.Idx → EReal) (n : Fin 8) (p : ℕ) (k : Fin 2048) : EReal :=
  if h : 2 ≤ p ∧ p - 2 < 2048 then x (ix3 n ⟨p - 2, h.2⟩ k) else 0

theorem upAt_rowAt (x : S8x2048x2048.Idx → EReal) (wu : S2048x5632.Idx → EReal) (n : Fin 8) (p : ℕ) (f : Fin 5632) :
    upAt x wu n p f = ∑ k, rowAt x n p k * wu (ix2 k f) := by
  unfold upAt rowAt
  split
  · rfl
  · simp only [zero_mul, Finset.sum_const_zero]

/-- The widened row tile holds rows `-2` to `511` of the point's tile at its rows `14` to `527`. -/
def Wide (t : Fin cfg0.N) (hb : Vec Ideal S528x2048 .bf16) : Prop :=
  ∀ (u : Fin 514) (k : Fin 2048), hb (ix2 ⟨14 + u.val, by omega⟩ k) = rowAt (X m c) (bat t) (512 * (t.val / 6 % 4) + u.val) k

theorem wide_hbOf (t : Fin cfg0.N) : Wide m c t (hbOf (grid0.coords t) (b0 m c t) (b1 m c t)) := by
  intro u k
  by_cases hu : u.val < 2
  · have e : (ix2 (⟨14 + u.val, by omega⟩ : Fin 528) k : S528x2048.Idx) = ix2 ⟨(⟨14 + u.val, by omega⟩ : Fin 16).val, by show 14 + u.val < 528; omega⟩ k := rfl
    rw [e, hb_halo, coords1]
    unfold rowAt
    by_cases hi : t.val / 6 % 4 = 0
    · rw [if_pos hi, dif_neg (by omega)]
    · rw [if_neg hi, dif_pos (by omega), b1_apply m c t hi]
      congr 2
      apply Fin.ext
      show 512 * (t.val / 6 % 4) + (14 + u.val) - 16 = 512 * (t.val / 6 % 4) + u.val - 2
      omega
  · have e : (ix2 (⟨14 + u.val, by omega⟩ : Fin 528) k : S528x2048.Idx) = ix2 ⟨16 + (⟨u.val - 2, by omega⟩ : Fin 512).val, by show 16 + (u.val - 2) < 528; omega⟩ k := by
      congr 1; apply Fin.ext; show 14 + u.val = 16 + (u.val - 2); omega
    rw [e, hb_tile, b0_apply]
    unfold rowAt
    rw [dif_pos (by omega)]
    congr 2
    apply Fin.ext
    show 512 * (t.val / 6 % 4) + (u.val - 2) = 512 * (t.val / 6 % 4) + u.val - 2
    omega

/-- Points of one row tile share it. -/
theorem wide_prev (t t' : Fin cfg0.N) (h : t.val / 6 = t'.val / 6) (hb) (hw : Wide m c t hb) : Wide m c t' hb := by
  have eb : bat t = bat t' := Fin.ext (by show t.val / 24 = t'.val / 24; omega)
  intro u k
  rw [hw u k, eb, h]

/-! ## A chunk's addition -/

/-- A hidden channel's term of the output row; zero past the last channel. -/
def term (n : Fin 8) (s d : Fin 2048) (f : ℕ) : EReal :=
  if h : f < 5632 then act (X m c) (WU m c) (WG m c) (CW m c) (CB m c) n s ⟨f, h⟩ * WD m c (ix2 ⟨f, h⟩ d) else 0

section
variable (t : Fin cfg0.N) (hb : Vec Ideal S528x2048 .bf16) (hw : Wide m c t hb) (r : Fin 512)
include hw

theorem up_sum (q : Fin 3) (w : Fin 2048 → EReal) (f : Fin 5632) (hf : ∀ k, w k = WU m c (ix2 k f)) (hr) :
    ∑ k : Fin 2048, hb (ix2 ⟨14 + q.val + r.val, hr⟩ k) * w k = upAt (X m c) (WU m c) (bat t) ((pos t r).val + q.val) f := by
  rw [upAt_rowAt]
  refine Finset.sum_congr rfl fun k _ => ?_
  have e : (ix2 (⟨14 + q.val + r.val, hr⟩ : Fin 528) k : S528x2048.Idx) = ix2 ⟨14 + (⟨q.val + r.val, by omega⟩ : Fin 514).val, by show 14 + (q.val + r.val) < 528; omega⟩ k := by
    congr 1; apply Fin.ext; show 14 + q.val + r.val = 14 + (q.val + r.val); omega
  rw [hf k, e, hw]
  congr 2
  show 512 * (t.val / 6 % 4) + (q.val + r.val) = 512 * (t.val / 6 % 4) + r.val + q.val
  omega

theorem gate_sum (w : Fin 2048 → EReal) (f : Fin 5632) (hf : ∀ k, w k = WG m c (ix2 k f)) :
    ∑ k : Fin 2048, View.ld hb rTile (ix2 r k) * w k = ∑ k : Fin 2048, X m c (ix3 (bat t) (pos t r) k) * WG m c (ix2 k f) := by
  refine Finset.sum_congr rfl fun k _ => ?_
  have e : View.ld hb rTile (ix2 r k) = hb (ix2 ⟨14 + (⟨2 + r.val, by omega⟩ : Fin 514).val, by show 14 + (2 + r.val) < 528; omega⟩ k) := by
    show hb (rTile.emb (ix2 r k)) = _
    congr 1
    funext a; apply Fin.ext
    match a with
    | ⟨0, _⟩ => show 16 + 1 * r.val = 14 + (2 + r.val); omega
    | ⟨1, _⟩ => show 0 + 1 * k.val = k.val; omega
  rw [e, hw, hf k]
  unfold rowAt
  rw [dif_pos (show _ ∧ _ from ⟨by show 2 ≤ 512 * (t.val / 6 % 4) + (2 + r.val); omega, by show 512 * (t.val / 6 % 4) + (2 + r.val) - 2 < 2048; omega⟩)]
  congr 3
  apply Fin.ext
  show 512 * (t.val / 6 % 4) + (2 + r.val) - 2 = 512 * (t.val / 6 % 4) + r.val
  omega

theorem full_val (h : t.val % 6 < 5) (acc : Vec Ideal S512x2048 .f32) (d : Fin 2048) :
    full m c t hb acc (ix2 r d) = acc (ix2 r d) + ∑ k : Fin 1024, term m c (bat t) (pos t r) d (1024 * (t.val % 6) + k.val) := by
  unfold full accFull
  rw [pay4_apply]
  congr 1
  refine Finset.sum_congr rfl fun f _ => ?_
  have hf : 1024 * (t.val % 6) + f.val < 5632 := by omega
  unfold term
  rw [dif_pos hf, pay7_apply, b4_apply m c t f hf, b6_apply m c t f hf, b5_apply m c t f hf, b5_apply m c t f hf, b5_apply m c t f hf]
  have u2 := up_sum m c t hb hw r 2 (fun k => b2 m c t (ix2 k f)) ⟨_, hf⟩ (fun k => b2_apply m c t f hf k) (by show 16 + r.val < 528; omega)
  have u1 := up_sum m c t hb hw r 1 (fun k => b2 m c t (ix2 k f)) ⟨_, hf⟩ (fun k => b2_apply m c t f hf k) (by show 15 + r.val < 528; omega)
  have u0 := up_sum m c t hb hw r 0 (fun k => b2 m c t (ix2 k f)) ⟨_, hf⟩ (fun k => b2_apply m c t f hf k) (by show 14 + r.val < 528; omega)
  have ug := gate_sum m c t hb hw r (fun k => b3 m c t (ix2 k f)) ⟨_, hf⟩ (fun k => b3_apply m c t f hf k)
  unfold act
  exact congrArg₂ (· * ·) (congrArg₂ (· * ·) (congrArg gelu (congrArg₂ (· + ·) (congrArg₂ (· + ·) (congrArg₂ (· + ·) rfl (congrArg₂ (· * ·) rfl u2)) (congrArg₂ (· * ·) rfl u1)) (congrArg₂ (· * ·) rfl u0))) ug) rfl

theorem last_val (h : t.val % 6 = 5) (acc : Vec Ideal S512x2048 .f32) (d : Fin 2048) :
    last m c t hb acc (ix2 r d) = acc (ix2 r d) + ∑ k : Fin 512, term m c (bat t) (pos t r) d (5120 + k.val) := by
  unfold last accHalf
  rw [pay5_apply]
  congr 1
  refine Finset.sum_congr rfl fun f _ => ?_
  have hf' : 5120 + f.val < 5632 := by omega
  have hf : 1024 * (t.val % 6) + (⟨f.val, by omega⟩ : Fin 1024).val < 5632 := by show 1024 * (t.val % 6) + f.val < 5632; omega
  have ef : (⟨1024 * (t.val % 6) + (⟨f.val, by omega⟩ : Fin 1024).val, hf⟩ : Fin 5632) = ⟨5120 + f.val, hf'⟩ := Fin.ext (by show 1024 * (t.val % 6) + f.val = 5120 + f.val; omega)
  have h2 : ∀ k, half2 (b2 m c t) (ix2 k f) = WU m c (ix2 k ⟨5120 + f.val, hf'⟩) := fun k => by
    rw [← ef]; refine Eq.trans ?_ (b2_apply m c t _ hf k)
    show b2 m c t _ = _; congr 1; funext a; apply Fin.ext
    match a with
    | ⟨0, _⟩ => show 0 + 1 * k.val = k.val; omega
    | ⟨1, _⟩ => show 0 + 1 * f.val = f.val; omega
  have h3 : ∀ k, half2 (b3 m c t) (ix2 k f) = WG m c (ix2 k ⟨5120 + f.val, hf'⟩) := fun k => by
    rw [← ef]; refine Eq.trans ?_ (b3_apply m c t _ hf k)
    show b3 m c t _ = _; congr 1; funext a; apply Fin.ext
    match a with
    | ⟨0, _⟩ => show 0 + 1 * k.val = k.val; omega
    | ⟨1, _⟩ => show 0 + 1 * f.val = f.val; omega
  have h4 : half4 (b4 m c t) (ix2 f d) = WD m c (ix2 ⟨5120 + f.val, hf'⟩ d) := by
    rw [← ef]; refine Eq.trans ?_ (b4_apply m c t _ hf d)
    show b4 m c t _ = _; congr 1; funext a; apply Fin.ext
    match a with
    | ⟨0, _⟩ => show 0 + 1 * f.val = f.val; omega
    | ⟨1, _⟩ => show 0 + 1 * d.val = d.val; omega
  have h5 : ∀ k, half5 (b5 m c t) (ix2 k f) = CW m c (ix2 k ⟨5120 + f.val, hf'⟩) := fun k => by
    rw [← ef]; refine Eq.trans ?_ (b5_apply m c t _ hf k)
    show b5 m c t _ = _; congr 1; funext a; apply Fin.ext
    match a with
    | ⟨0, _⟩ => show 0 + 1 * k.val = k.val; omega
    | ⟨1, _⟩ => show 0 + 1 * f.val = f.val; omega
  have h6 : half6 (b6 m c t) (ix2 0 f) = CB m c (ix1 ⟨5120 + f.val, hf'⟩) := by
    rw [← ef]; refine Eq.trans ?_ (b6_apply m c t _ hf)
    show b6 m c t _ = _; congr 1; funext a; apply Fin.ext
    match a with
    | ⟨0, _⟩ => rfl
    | ⟨1, _⟩ => show 0 + 1 * f.val = f.val; omega
  unfold term
  rw [dif_pos hf', pay8_apply, h4, h6, h5, h5, h5]
  have u2 := up_sum m c t hb hw r 2 (fun k => half2 (b2 m c t) (ix2 k f)) ⟨_, hf'⟩ h2 (by show 16 + r.val < 528; omega)
  have u1 := up_sum m c t hb hw r 1 (fun k => half2 (b2 m c t) (ix2 k f)) ⟨_, hf'⟩ h2 (by show 15 + r.val < 528; omega)
  have u0 := up_sum m c t hb hw r 0 (fun k => half2 (b2 m c t) (ix2 k f)) ⟨_, hf'⟩ h2 (by show 14 + r.val < 528; omega)
  have ug := gate_sum m c t hb hw r (fun k => half2 (b3 m c t) (ix2 k f)) ⟨_, hf'⟩ h3
  unfold act
  exact congrArg₂ (· * ·) (congrArg₂ (· * ·) (congrArg gelu (congrArg₂ (· + ·) (congrArg₂ (· + ·) (congrArg₂ (· + ·) rfl (congrArg₂ (· * ·) rfl u2)) (congrArg₂ (· * ·) rfl u1)) (congrArg₂ (· * ·) rfl u0))) ug) rfl
end

/-! ## The accumulator -/

theorem st_first_wide (t : Fin cfg0.N) (h : t.val % 6 = 0) : Wide m c t (st m c t.val t.isLt).1 := by
  have e : (st m c t.val t.isLt).1 = hbOf (grid0.coords t) (b0 m c t) (b1 m c t) := by simp only [st_first m c t h]
  rw [e]; exact wide_hbOf m c t

theorem st_step_fst (t : Fin cfg0.N) (h : ¬t.val % 6 = 0) (hp : t.val - 1 < cfg0.N) :
    (st m c t.val t.isLt).1 = (st m c (t.val - 1) hp).1 := by
  by_cases h5 : t.val % 6 = 5
  · rw [st_last m c t h5 hp]
  · rw [st_inner m c t h h5 hp]

theorem st_wide (n : ℕ) : ∀ hn : n < cfg0.N, Wide m c ⟨n, hn⟩ (st m c n hn).1 := by
  induction n with
  | zero => intro hn; exact st_first_wide m c ⟨0, hn⟩ rfl
  | succ n ih =>
    intro hn
    by_cases h0 : (n + 1) % 6 = 0
    · exact st_first_wide m c ⟨n + 1, hn⟩ h0
    · rw [show (st m c (n + 1) hn).1 = (st m c n (Nat.lt_of_succ_lt hn)).1 from st_step_fst m c ⟨n + 1, hn⟩ h0 (Nat.lt_of_succ_lt hn)]
      exact wide_prev m c ⟨n, Nat.lt_of_succ_lt hn⟩ ⟨n + 1, hn⟩ (by show n / 6 = (n + 1) / 6; omega) _ (ih _)

theorem first_val (t : Fin cfg0.N) (h : t.val % 6 = 0) (r : Fin 512) (d : Fin 2048) :
    (st m c t.val t.isLt).2 (ix2 r d) = ∑ f ∈ Finset.range (1024 * (t.val % 6) + 1024), term m c (bat t) (pos t r) d f := by
  rw [st_first m c t h]
  show full m c t _ _ (ix2 r d) = _
  rw [full_val m c t _ (wide_hbOf m c t) r (by omega), pay3_apply, zero_add,
    Fin.sum_univ_eq_sum_range (fun k => term m c (bat t) (pos t r) d (1024 * (t.val % 6) + k)), h]
  refine Finset.sum_congr rfl fun k _ => ?_
  rw [show 1024 * 0 + k = k by omega]

theorem inner_val (t : Fin cfg0.N) (h : ¬t.val % 6 = 0) (h5 : t.val % 6 < 5) (hp : t.val - 1 < cfg0.N) (r : Fin 512) (d : Fin 2048) :
    (st m c t.val t.isLt).2 (ix2 r d)
      = (st m c (t.val - 1) hp).2 (ix2 r d) + ∑ k ∈ Finset.range 1024, term m c (bat t) (pos t r) d (1024 * (t.val % 6) + k) := by
  rw [st_inner m c t h (by omega) hp]
  show full m c t _ _ (ix2 r d) = _
  rw [full_val m c t _ (wide_prev m c ⟨t.val - 1, hp⟩ t (by show (t.val - 1) / 6 = t.val / 6; omega) _ (st_wide m c _ hp)) r h5,
    Fin.sum_univ_eq_sum_range (fun k => term m c (bat t) (pos t r) d (1024 * (t.val % 6) + k))]

theorem acc_val : ∀ (n : ℕ) (hn : n < cfg0.N), n % 6 < 5 → ∀ (r : Fin 512) (d : Fin 2048),
    (st m c n hn).2 (ix2 r d) = ∑ f ∈ Finset.range (1024 * (n % 6) + 1024), term m c (bat ⟨n, hn⟩) (pos ⟨n, hn⟩ r) d f := by
  intro n
  induction n with
  | zero => intro hn _ r d; exact first_val m c ⟨0, hn⟩ rfl r d
  | succ n ih =>
    intro hn h r d
    by_cases h0 : (n + 1) % 6 = 0
    · exact first_val m c ⟨n + 1, hn⟩ h0 r d
    · have hm : 1024 * ((n + 1) % 6) = 1024 * (n % 6) + 1024 := by omega
      have eb : bat ⟨n, Nat.lt_of_succ_lt hn⟩ = bat ⟨n + 1, hn⟩ := Fin.ext (by show n / 24 = (n + 1) / 24; omega)
      have ep : pos ⟨n, Nat.lt_of_succ_lt hn⟩ r = pos ⟨n + 1, hn⟩ r := Fin.ext (by show 512 * (n / 6 % 4) + r.val = 512 * ((n + 1) / 6 % 4) + r.val; omega)
      refine (inner_val m c ⟨n + 1, hn⟩ h0 h (Nat.lt_of_succ_lt hn) r d).trans ?_
      show (st m c n (Nat.lt_of_succ_lt hn)).2 (ix2 r d) + ∑ k ∈ Finset.range 1024, term m c (bat ⟨n + 1, hn⟩) (pos ⟨n + 1, hn⟩ r) d (1024 * ((n + 1) % 6) + k) = _
      rw [ih (Nat.lt_of_succ_lt hn) (by omega) r d, eb, ep, hm, Finset.sum_range_add _ (1024 * (n % 6) + 1024)]

/-- After the last chunk the accumulator holds the whole contraction. -/
theorem acc_last (t : Fin cfg0.N) (h : t.val % 6 = 5) (r : Fin 512) (d : Fin 2048) :
    (st m c t.val t.isLt).2 (ix2 r d)
      = ∑ f : Fin 5632, act (X m c) (WU m c) (WG m c) (CW m c) (CB m c) (bat t) (pos t r) f * WD m c (ix2 f d) := by
  have hp : t.val - 1 < cfg0.N := lt_of_le_of_lt (Nat.sub_le _ _) t.isLt
  have hm : (t.val - 1) % 6 = 4 := by omega
  have eb : bat ⟨t.val - 1, hp⟩ = bat t := Fin.ext (by show (t.val - 1) / 24 = t.val / 24; omega)
  have ep : pos ⟨t.val - 1, hp⟩ r = pos t r := Fin.ext (by show 512 * ((t.val - 1) / 6 % 4) + r.val = 512 * (t.val / 6 % 4) + r.val; omega)
  rw [st_last m c t h hp]
  show last m c t _ _ (ix2 r d) = _
  rw [last_val m c _ _ (wide_prev m c ⟨t.val - 1, hp⟩ t (by show (t.val - 1) / 6 = t.val / 6; omega) _ (st_wide m c _ _)) r h,
    acc_val m c _ hp (by omega) r d, eb, ep, hm,
    Fin.sum_univ_eq_sum_range (fun k => term m c (bat t) (pos t r) d (5120 + k))]
  show ∑ f ∈ Finset.range 5120, _ + _ = _
  rw [← Finset.sum_range_add, ← Fin.sum_univ_eq_sum_range (fun k => term m c (bat t) (pos t r) d k)]
  refine Finset.sum_congr rfl fun f _ => ?_
  unfold term
  rw [dif_pos f.isLt]

/-- The row tile the last chunk stores is the block's result on those rows. -/
theorem outAt_val (t : Fin cfg0.N) (h : t.val % 6 = 5) (r : Fin 512) (d : Fin 2048) :
    outAt m c t (ix3 0 r d)
      = out (X m c) (WU m c) (WG m c) (WD m c) (CW m c) (CB m c) (LG m c) (LB m c) (bat t) (pos t r) d := by
  unfold outAt out
  rw [pay6_apply, b7_apply, b8_apply]
  congr 1
  funext e
  rw [b0_apply, acc_last m c t h]

end Cert.Ffn

end
-- ==== Proof.Ffn.RefVal.lean ====
/- The feed-forward reference's result at an index, over the extended reals. -/
module

public import proofs.«01_k».proof.Proof.Gen.ReferenceIdeal.Read
public import proofs.«01_k».proof.Proof.Ffn.Spec

@[expose] public section

set_option maxRecDepth 16384

noncomputable section

namespace Cert.Ffn.Ref

open Cert.ReferenceIdeal Cert.ReferenceIdeal.Gen Cert.ReferenceIdeal.Read
open Idealize.ShloMosaic
open scoped BigOperators

variable (x : Vec Ideal S8x2048x2048 .f32) (wu wg : Vec Ideal S2048x5632 .f32) (wd : Vec Ideal S5632x2048 .f32) (cw : Vec Ideal S3x5632 .f32)
  (cb : Vec Ideal S5632 .f32) (g b : Vec Ideal S2048 .f32)

theorem v1_apply (n : Fin 8) (p : Fin 2050) (f : Fin 5632) : val_main_v1 x wu (ix3 n p f) = upAt x wu n p.val f := by
  have hf := f.isLt
  pointwise [val_main_v1, val_main_v0, val_main_call0_v0, val_main_c, upAt]
  have z : (FloatOps.sitofp .f32 (0#32 : BitVec 32) : Ideal .f32) = 0 := by
    show (((0#32 : BitVec 32).toInt : ℝ) : EReal) = 0
    simp
  rw [z]

theorem v26_apply (n : Fin 8) (s : Fin 2048) (f : Fin 5632) : val_main_v26 x wu cw cb (ix3 n s f)
    = cb (ix1 f) + (((0 + cw (ix2 0 f) * upAt x wu n s.val f) + cw (ix2 1 f) * upAt x wu n (s.val + 1) f) + cw (ix2 2 f) * upAt x wu n (s.val + 2) f) := by
  pointwise [val_main_v26, val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6, val_main_v5, val_main_v4,
    val_main_v3, val_main_v2, val_main_cst]
  rw [v1_apply, v1_apply, v1_apply]
  show _ = cb (ix1 f) + (cw (ix2 0 f) * upAt x wu n s.val f + cw (ix2 1 f) * upAt x wu n (s.val + 1) f + cw (ix2 2 f) * upAt x wu n (s.val + 2) f)
  simp only [Nat.add_comm 1, Nat.add_comm 2]

theorem v35_apply (n : Fin 8) (s : Fin 2048) (f : Fin 5632) : val_main_v35 x wu wg cw cb (ix3 n s f) = act x wu wg cw cb n s f := by
  pointwise [val_main_v35, val_main_v34, val_main_v33, val_main_v32, val_main_v31, val_main_v30, val_main_v29, val_main_v28, val_main_v27, val_main_cst_1, val_main_cst_0, act, gelu]
  have e : val_main_v26 x wu cw cb (ix3 n s f) = cb (ix1 f) + cw (ix2 2 f) * upAt x wu n (s.val + 2) f + cw (ix2 1 f) * upAt x wu n (s.val + 1) f
      + cw (ix2 0 f) * upAt x wu n s.val f := by
    rw [v26_apply, zero_add]
    generalize cw (ix2 0 f) * _ = p
    generalize cw (ix2 1 f) * _ = q
    generalize cw (ix2 2 f) * _ = r
    rw [add_comm (p + q) r, add_comm p q, ← add_assoc, ← add_assoc]
  rw [e, neg_mul, Ideal.erfc_neg]

theorem v39_apply (n : Fin 8) (s d : Fin 2048) : val_main_v39 x wu wg wd cw cb (ix3 n s d)
    = Scalar.ofBits (F := Ideal) .f32 0x3F9837F0#32 * x (ix3 n s d) + ∑ f : Fin 5632, act x wu wg cw cb n s f * wd (ix2 f d) := by
  pointwise [val_main_v39, val_main_v38, val_main_v37, val_main_v36, val_main_cst_2]
  simp only [v35_apply]

theorem out_apply (n : Fin 8) (s d : Fin 2048) : val_main_v61 x wu wg wd cw cb g b (ix3 n s d) = out x wu wg wd cw cb g b n s d := by
  pointwise [val_main_v61, val_main_v60, val_main_v59, val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_v41, val_main_v40,
    val_main_cst_3, val_main_cst_4, val_main_cst_5, val_main_cst_6, val_main_cst_7]
  simp only [v39_apply]
  rfl

end Cert.Ffn.Ref

end
-- ==== Proof.Ffn.Value.lean ====
/- The array the feed-forward kernel leaves, over the extended reals, and its agreement with the reference. -/
module

public import proofs.«01_k».proof.Proof.Ffn.Chunk
public import proofs.«01_k».proof.Proof.Ffn.Frames
public import proofs.«01_k».proof.Proof.Ffn.RefVal
public import proofs.«01_k».proof.Proof.Gen.ReferenceIdeal.Run
public import proofs.«01_k».proof.Proof.Gen.KernelIdeal
public import proofs.«01_k».proof.Proof.Gen.ReferenceIdeal
public import proofs.«01_k».proof.Defs

@[expose] public section

set_option maxRecDepth 16384

noncomputable section

namespace Cert.Ffn

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The block's result, as an array. -/
def res (c : Dev nD) : S8x2048x2048.Idx → EReal := fun i =>
  out (X m c) (WU m c) (WG m c) (WD m c) (CW m c) (CB m c) (LG m c) (LB m c) (i 0) (i 1) (i 2)

theorem flushed (c : Dev nD) (t : Fin cfg0.N) (hf : (cfg0.win 9).flush t = true) :
    (dats m 0 c).flushed 9 t = ((cfg0.win 9).blk t).view.read (Elt Ideal) (res m c) := by
  show (cfg0.win 9).cut (grid0.coords t) ((dats m 0 c).after 9 t) = _
  rw [after_9]
  have h : t.val % 6 = 5 := (flush0_9 t).mp hf
  funext y
  have ey : (cfg0.win 9).xinj (grid0.coords t) y = (ix3 0 (⟨(y 1).val, (y 1).isLt⟩ : Fin 512) (⟨(y 2).val, (y 2).isLt⟩ : Fin 2048) : S1x512x2048.Idx) := by
    funext a; apply Fin.ext
    match a with
    | ⟨0, _⟩ =>
      have hy : (y 0).val < 1 := (y 0).isLt
      show (y 0).val = 0; omega
    | ⟨1, _⟩ => rfl
    | ⟨2, _⟩ => rfl
  show outAt m c t ((cfg0.win 9).xinj (grid0.coords t) y) = res m c (((cfg0.win 9).blk t).view.emb y)
  rw [ey, outAt_val m c t h]
  unfold res
  have hy : (y 0).val < 1 := (y 0).isLt
  have e0 : bat t = (((cfg0.win 9).blk t).view.emb y) 0 := by
    apply Fin.ext
    show t.val / 24 = cc0_transform_9 (grid0.coords t) 0 * 1 + 1 * (y 0).val
    rw [tr9]
    show t.val / 24 = (grid0.coords t 0).val * 1 + 1 * (y 0).val
    rw [coords0]; omega
  have e1 : pos t ⟨(y 1).val, (y 1).isLt⟩ = (((cfg0.win 9).blk t).view.emb y) 1 := by
    apply Fin.ext
    show 512 * (t.val / 6 % 4) + (y 1).val = cc0_transform_9 (grid0.coords t) 1 * 512 + 1 * (y 1).val
    rw [tr9]
    show 512 * (t.val / 6 % 4) + (y 1).val = (grid0.coords t 1).val * 512 + 1 * (y 1).val
    rw [coords1]; omega
  have e2 : (⟨(y 2).val, (y 2).isLt⟩ : Fin 2048) = (((cfg0.win 9).blk t).view.emb y) 2 := by
    apply Fin.ext
    show (y 2).val = cc0_transform_9 (grid0.coords t) 2 * 2048 + 1 * (y 2).val
    rw [tr9]
    show (y 2).val = 0 * 2048 + 1 * (y 2).val
    omega
  rw [e0, e1, e2]

theorem mem_blk (t : Fin cfg0.N) (i : S8x2048x2048.Idx) :
    i ∈ ((cfg0.win 9).blk t).view.set ↔ ∀ a : Fin 3, win0_9.index t a * S1x512x2048.size a ≤ (i a).val ∧ (i a).val < win0_9.index t a * S1x512x2048.size a + S1x512x2048.size a := by
  show i ∈ ((View.whole main_v6).slice (win0_9.rect t)).set ↔ _
  rw [View.set_slice_whole, Rect.mem_set_unit]
  exact Iff.rfl

theorem cover (i : S8x2048x2048.Idx) : ∃ t : Fin cfg0.N, (cfg0.win 9).flush t = true ∧ i ∈ ((cfg0.win 9).blk t).view.set := by
  have h0 : (i 0).val < 8 := (i 0).isLt
  have h1 : (i 1).val < 2048 := (i 1).isLt
  have h2 : (i 2).val < 2048 := (i 2).isLt
  have ht : 24 * (i 0).val + 6 * ((i 1).val / 512) + 5 < cfg0.N := lt_of_lt_of_eq (by omega : _ < 192) N_0.symm
  refine ⟨⟨_, ht⟩, (flush0_9 _).mpr (by show (24 * (i 0).val + 6 * ((i 1).val / 512) + 5) % 6 = 5; omega), ?_⟩
  rw [mem_blk]
  intro a
  match a with
  | ⟨0, _⟩ =>
    have e : win0_9.index ⟨24 * (i 0).val + 6 * ((i 1).val / 512) + 5, ht⟩ 0 = (i 0).val := by
      show cc0_transform_9 (grid0.coords ⟨_, ht⟩) 0 = _
      rw [tr9]; show (grid0.coords ⟨_, ht⟩ 0).val = _; rw [coords0]
      show (24 * (i 0).val + 6 * ((i 1).val / 512) + 5) / 24 = (i 0).val; omega
    show win0_9.index ⟨_, ht⟩ 0 * 1 ≤ (i 0).val ∧ (i 0).val < win0_9.index ⟨_, ht⟩ 0 * 1 + 1
    rw [e]; omega
  | ⟨1, _⟩ =>
    have e : win0_9.index ⟨24 * (i 0).val + 6 * ((i 1).val / 512) + 5, ht⟩ 1 = (i 1).val / 512 := by
      show cc0_transform_9 (grid0.coords ⟨_, ht⟩) 1 = _
      rw [tr9]; show (grid0.coords ⟨_, ht⟩ 1).val = _; rw [coords1]
      show (24 * (i 0).val + 6 * ((i 1).val / 512) + 5) / 6 % 4 = (i 1).val / 512; omega
    show win0_9.index ⟨_, ht⟩ 1 * 512 ≤ (i 1).val ∧ (i 1).val < win0_9.index ⟨_, ht⟩ 1 * 512 + 512
    rw [e]; omega
  | ⟨2, _⟩ =>
    have e : win0_9.index ⟨24 * (i 0).val + 6 * ((i 1).val / 512) + 5, ht⟩ 2 = 0 := by
      show cc0_transform_9 (grid0.coords ⟨_, ht⟩) 2 = _
      rw [tr9]; rfl
    show win0_9.index ⟨_, ht⟩ 2 * 2048 ≤ (i 2).val ∧ (i 2).val < win0_9.index ⟨_, ht⟩ 2 * 2048 + 2048
    rw [e]; omega

theorem final (c : Dev nD) : (dats m 0 c).arrAt 9 cfg0.N = res m c :=
  (dats m 0 c).arrAt_eq_of_cover 9 _ (fun t hf => flushed m c t hf) cover

/-- The kernel's result. -/
theorem result : θ_run defs (onTc (τ := τ) (main (F := Ideal))) ⟨m, fun _ => 0, ρ⟩ (fun r => ∀ c : Dev nD,
      r.2.mem ((c.tc : Thread nD τ).loc main_v6) = res m c) :=
  (θ_run defs _ _).mono (fun _ h c => ((h c).1 9).trans (final m c)) (run_main m ρ)

/-- Kernel and reference end with equal results. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => res m c, (θ_run defs _ _).mono (fun _ h c => ⟨h.1 c, h.2 c⟩) (θ_run_and (result m g) (unchanged m g)), ?_⟩
  refine (θ_run Cert.ReferenceIdeal.defs _ _).mono (fun _ h c => ⟨(h c).1.trans ?_, (h c).2⟩) (Cert.ReferenceIdeal.Value.run m' g')
  obtain ⟨e0, e1, e2, e3, e4, e5, e6, e7⟩ := hm c
  refine (Cert.ReferenceIdeal.Read.val_main_v61_eq m' c).trans ?_
  funext i
  have hi : i = ix3 (i 0) (i 1) (i 2) := by
    funext a
    match a with
    | ⟨0, _⟩ => rfl
    | ⟨1, _⟩ => rfl
    | ⟨2, _⟩ => rfl
  rw [hi]
  refine (Ref.out_apply _ _ _ _ _ _ _ _ _ _ _).trans ?_
  rw [e0, e1, e2, e3, e4, e5, e6, e7]
  rfl

end Cert.Ffn

end
-- ==== Proof.Out.Pay.lean ====
/- The output projection's payloads read at an index, over the extended reals. -/
module

public import proofs.«01_k».proof.Proof.Gen.Kernel2Ideal.Skeleton
public import proofs.«01_k».proof.Proof.Ffn.Spec

@[expose] public section

set_option maxRecDepth 16384

noncomputable section

namespace Cert.OutProj

open Cert.Kernel2Ideal Cert.Kernel2Ideal.Gen Cert.Ffn
open Idealize.ShloMosaic
open scoped BigOperators

section
variable (ys ya : (⟨3, ![8, 2048, 1024]⟩ : Shape).Idx → EReal) (x : (⟨3, ![8, 2048, 2048]⟩ : Shape).Idx → EReal)
  (w : (⟨2, ![2048, 2048]⟩ : Shape).Idx → EReal) (g b : (⟨1, ![2048]⟩ : Shape).Idx → EReal)

/-- The scaled residual plus the projection of the two mixers' halves. -/
def pre (n : Fin 8) (s e : Fin 2048) : EReal :=
  Scalar.ofBits (F := Ideal) .f32 0x3F9837F0#32 * x (ix3 n s e)
    + ((∑ k : Fin 1024, ys (ix3 n s k) * w (ix2 ⟨k.val, by omega⟩ e)) + ∑ k : Fin 1024, ya (ix3 n s k) * w (ix2 ⟨1024 + k.val, by omega⟩ e))

/-- The call's result. -/
def out (n : Fin 8) (s d : Fin 2048) : EReal := lnRow (pre ys ya x w n s) (g (ix1 d)) (b (ix1 d)) d
end

variable (ys : Vec Ideal S128x1024 .bf16) (w0 : Vec Ideal S1024x2048 .bf16) (ya : Vec Ideal S128x1024 .bf16) (w1 : Vec Ideal S1024x2048 .bf16)
  (x : Vec Ideal S128x2048 .f32) (g b : Vec Ideal S1x2048 .f32) (r : Fin 128) (d : Fin 2048)

/-- A row before its normalisation, from the four blocks. -/
def row (e : Fin 2048) : EReal :=
  Scalar.ofBits (F := Ideal) .f32 0x3F9837F0#32 * x (ix2 r e)
    + ((∑ k : Fin 1024, ys (ix2 r k) * w0 (ix2 k e)) + ∑ k : Fin 1024, ya (ix2 r k) * w1 (ix2 k e))

theorem piece0_apply : k0_pay5 (k0_pay2 b) (k0_pay3 ys w0 ya w1 x) (k0_pay4 g) (ix2 r d)
    = lnRow (row ys w0 ya w1 x r) (g (ix2 0 d)) (b (ix2 0 d)) d := by
  pointwise [k0_pay5, k0_pay2, k0_pay3, k0_pay4, lnRow, row]

theorem piece1_apply : k0_pay10 (k0_pay6 g) (k0_pay7 b) (k0_pay8 ys w0 ya w1 x) (k0_pay9 ys w0 ya w1 x) (Scalar.ofBits .f32 0x3727C5AC#32) (ix2 r d)
    = lnRow (row ys w0 ya w1 x r) (g (ix2 0 d)) (b (ix2 0 d)) d := by
  pointwise [k0_pay10, k0_pay6, k0_pay7, k0_pay8, k0_pay9, lnRow, row]

theorem piece2_apply : k0_pay15 (k0_pay11 g) (k0_pay12 b) (k0_pay13 ys w0 ya w1 x) (k0_pay14 ys w0 ya w1 x) (ix2 r d)
    = lnRow (row ys w0 ya w1 x r) (g (ix2 0 d)) (b (ix2 0 d)) d := by
  pointwise [k0_pay15, k0_pay11, k0_pay12, k0_pay13, k0_pay14, lnRow, row]

theorem piece3_apply : k0_pay1 (k0_pay16 ys w0 ya w1 x) (k0_pay17 g) (k0_pay18 b) (k0_pay19 ys w0 ya w1 x) (Scalar.ofBits .f32 0x45000000#32) (ix2 r d)
    = lnRow (row ys w0 ya w1 x r) (g (ix2 0 d)) (b (ix2 0 d)) d := by
  pointwise [k0_pay1, k0_pay16, k0_pay17, k0_pay18, k0_pay19, lnRow, row]

end Cert.OutProj

end
-- ==== Proof.Out.RefVal.lean ====
/- The output projection's reference at an index, over the extended reals. -/
module

public import proofs.«01_k».proof.Proof.Gen.Reference2Ideal.Read
public import proofs.«01_k».proof.Proof.Out.Pay

@[expose] public section

set_option maxRecDepth 16384

noncomputable section

namespace Cert.OutProj.Ref

open Cert.Reference2Ideal Cert.Reference2Ideal.Gen Cert.Reference2Ideal.Read
open Idealize.ShloMosaic
open scoped BigOperators

variable (ys ya : Vec Ideal S8x2048x1024 .bf16) (x : Vec Ideal S8x2048x2048 .f32) (w : Vec Ideal S2048x2048 .f32) (g b : Vec Ideal S2048 .f32)

theorem v2_left (n : Fin 8) (s : Fin 2048) (k : Fin 1024) : val_main_v2 ys ya (ix3 n s ⟨k.val, by omega⟩) = ys (ix3 n s k) := by
  have hk := k.isLt
  pointwise [val_main_v2, val_main_v0, val_main_v1]

theorem v2_right (n : Fin 8) (s : Fin 2048) (k : Fin 1024) : val_main_v2 ys ya (ix3 n s ⟨1024 + k.val, by omega⟩) = ya (ix3 n s k) := by
  have hk := k.isLt
  pointwise [val_main_v2, val_main_v0, val_main_v1]

theorem v6_apply (n : Fin 8) (s d : Fin 2048) : val_main_v6 ys ya x w (ix3 n s d) = pre ys ya x w n s d := by
  pointwise [val_main_v6, val_main_v5, val_main_v4, val_main_v3, val_main_cst, pre]
  refine congrArg₂ _ rfl ?_
  refine (Fin.sum_univ_add (a := 1024) (b := 1024) _).trans ?_
  refine congrArg₂ _ (Finset.sum_congr rfl fun k _ => ?_) (Finset.sum_congr rfl fun k _ => ?_)
  · exact congrArg₂ _ (v2_left ys ya n s k) rfl
  · exact congrArg₂ _ (v2_right ys ya n s k) rfl

theorem v28_apply (n : Fin 8) (s d : Fin 2048) : val_main_v28 ys ya x w g b (ix3 n s d) = out ys ya x w g b n s d := by
  pointwise [val_main_v28, val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8, val_main_v7,
    val_main_cst_0, val_main_cst_1, val_main_cst_2, val_main_cst_3, val_main_cst_4]
  simp only [v6_apply]
  rfl

theorem out_apply (i : S16384x2048.Idx) : val_main_v29 ys ya x w g b i
    = out ys ya x w g b ⟨(i 0).val / 2048, by have h : (i 0).val < 16384 := (i 0).isLt; omega⟩ ⟨(i 0).val % 2048, by omega⟩ (i 1) := by
  refine Eq.trans ?_ (v28_apply ys ya x w g b _ _ _)
  refine (val_main_v29_apply ys ya x w g b i).trans (congrArg _ ?_)
  have h0 : (i 0).val < 16384 := (i 0).isLt
  have h1 : (i 1).val < 2048 := (i 1).isLt
  funext a; apply Fin.ext
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

end Cert.OutProj.Ref

end
-- ==== Proof.Out.Value.lean ====
/- The array the output projection leaves, over the extended reals, and its agreement with the reference. -/
module

public import proofs.«01_k».proof.Proof.Out.Pay
public import proofs.«01_k».proof.Proof.Out.RefVal
public import proofs.«01_k».proof.Proof.Gen.Kernel2Ideal.Value
public import proofs.«01_k».proof.Proof.Gen.Kernel2Ideal
public import proofs.«01_k».proof.Proof.Gen.Reference2Ideal
public import proofs.«01_k».proof.Proof.Gen.Reference2Ideal.Run
public import proofs.«01_k».proof.Defs
public import Idealize.ShloMosaic.Lib.StableHlo.ReadAt

@[expose] public section

set_option maxRecDepth 16384

noncomputable section

namespace Cert.OutProj

open Cert.Kernel2Ideal Cert.Kernel2Ideal.Gen Cert.Ffn
open Idealize.ShloMosaic Idealize.ShloMosaic.TcCoe Idealize.SL.Sem
open scoped BigOperators

/-! ## The body's four pieces at an index -/

section
variable (x0 x1 : Vec Ideal S512x1024 .bf16) (x2 : Vec Ideal S512x2048 .f32) (x3 : Vec Ideal S2048x2048 .bf16) (x4 x5 : Vec Ideal S1x2048 .f32)

/-- A row of the tile before its normalisation. -/
def tileRow (p : Fin 512) (e : Fin 2048) : EReal :=
  Scalar.ofBits (F := Ideal) .f32 0x3F9837F0#32 * x2 (ix2 p e)
    + ((∑ k : Fin 1024, x0 (ix2 p k) * x3 (ix2 ⟨k.val, by omega⟩ e)) + ∑ k : Fin 1024, x1 (ix2 p k) * x3 (ix2 ⟨1024 + k.val, by omega⟩ e))

theorem ld_half (x : Vec Ideal S512x1024 .bf16) (o : ℕ) (h) (r : Fin 128) (k : Fin 1024) (p : Fin 512) (hp : p.val = o + r.val) :
    View.ld x (Rect.unit (s := S512x1024) ![o, 0] S128x1024.size h) (ix2 r k) = x (ix2 p k) := by
  show x ((Rect.unit (s := S512x1024) ![o, 0] S128x1024.size h).emb (ix2 r k)) = _
  congr 1
  funext a; apply Fin.ext
  match a with
  | ⟨0, _⟩ => show o + 1 * r.val = p.val; omega
  | ⟨1, _⟩ => show 0 + 1 * k.val = k.val; omega

theorem ld_res (o : ℕ) (h) (r : Fin 128) (k : Fin 2048) (p : Fin 512) (hp : p.val = o + r.val) :
    View.ld x2 (Rect.unit (s := S512x2048) ![o, 0] S128x2048.size h) (ix2 r k) = x2 (ix2 p k) := by
  show x2 ((Rect.unit (s := S512x2048) ![o, 0] S128x2048.size h).emb (ix2 r k)) = _
  congr 1
  funext a; apply Fin.ext
  match a with
  | ⟨0, _⟩ => show o + 1 * r.val = p.val; omega
  | ⟨1, _⟩ => show 0 + 1 * k.val = k.val; omega

theorem ld_top (k : Fin 1024) (e : Fin 2048) : View.ld x3 r0_1 (ix2 k e) = x3 (ix2 ⟨k.val, by omega⟩ e) := by
  show x3 (r0_1.emb (ix2 k e)) = _
  congr 1
  funext a; apply Fin.ext
  match a with
  | ⟨0, _⟩ => show 0 + 1 * k.val = k.val; omega
  | ⟨1, _⟩ => show 0 + 1 * e.val = e.val; omega

theorem ld_bot (k : Fin 1024) (e : Fin 2048) : View.ld x3 r0_2 (ix2 k e) = x3 (ix2 ⟨1024 + k.val, by omega⟩ e) := by
  show x3 (r0_2.emb (ix2 k e)) = _
  congr 1
  funext a; apply Fin.ext
  match a with
  | ⟨0, _⟩ => show 1024 + 1 * k.val = 1024 + k.val; omega
  | ⟨1, _⟩ => show 0 + 1 * e.val = e.val; omega

theorem ld_vec (x : Vec Ideal S1x2048 .f32) (d : Fin 2048) : View.ld x r0_4 (ix2 0 d) = x (ix2 0 d) := by
  show x (r0_4.emb (ix2 0 d)) = _
  congr 1
  funext a; apply Fin.ext
  match a with
  | ⟨0, _⟩ => rfl
  | ⟨1, _⟩ => show 0 + 1 * d.val = d.val; omega

theorem row_ld (o : ℕ) (h h') (r : Fin 128) (p : Fin 512) (hp : p.val = o + r.val) :
    row (View.ld x0 (Rect.unit (s := S512x1024) ![o, 0] S128x1024.size h)) (View.ld x3 r0_1)
      (View.ld x1 (Rect.unit (s := S512x1024) ![o, 0] S128x1024.size h)) (View.ld x3 r0_2)
      (View.ld x2 (Rect.unit (s := S512x2048) ![o, 0] S128x2048.size h')) r = tileRow x0 x1 x2 x3 p := by
  funext e
  unfold row tileRow
  refine congrArg₂ _ (congrArg₂ _ rfl (ld_res x2 o h' r e p hp)) (congrArg₂ _ (Finset.sum_congr rfl fun k _ => ?_) (Finset.sum_congr rfl fun k _ => ?_))
  · exact congrArg₂ _ (ld_half x0 o h r k p hp) (ld_top x3 k e)
  · exact congrArg₂ _ (ld_half x1 o h r k p hp) (ld_bot x3 k e)

theorem emb_tile (o : ℕ) (h) (r : Fin 128) (d : Fin 2048) (p : Fin 512) (hp : p.val = o + r.val) :
    (ix2 p d : S512x2048.Idx) = (Rect.unit (s := S512x2048) ![o, 0] S128x2048.size h).emb (ix2 r d) := by
  funext a; apply Fin.ext
  match a with
  | ⟨0, _⟩ => show p.val = o + 1 * r.val; omega
  | ⟨1, _⟩ => show d.val = 0 + 1 * d.val; omega

theorem not_mem_tile (o : ℕ) (h) (d : Fin 2048) (p : Fin 512) (hp : p.val < o) :
    (ix2 p d : S512x2048.Idx) ∉ (Rect.unit (s := S512x2048) ![o, 0] S128x2048.size h).set := by
  intro hm
  rw [Rect.mem_set_unit] at hm
  have h0 : o ≤ p.val := (hm 0).1
  omega

section
variable (w3 w2 w1 w0 : Vec Ideal S128x2048 .f32) (r : Fin 128) (p : Fin 512) (d : Fin 2048)

/-- The tile its four pieces leave. -/
abbrev tileOf : S512x2048.Idx → EReal := View.canon (Val := Elt Ideal) (e := .f32) [⟨r0_10, w3⟩, ⟨r0_8, w2⟩, ⟨r0_6, w1⟩, ⟨r0_3, w0⟩]

theorem tileOf3 (hp : p.val = 384 + r.val) : tileOf w3 w2 w1 w0 (ix2 p d) = w3 (ix2 r d) := by
  rw [emb_tile 384 inb_S512x2048_S128x2048_384_0 r d p hp]
  exact View.canon_cons_emb _ _ _ _

theorem tileOf2 (hp : p.val = 256 + r.val) : tileOf w3 w2 w1 w0 (ix2 p d) = w2 (ix2 r d) := by
  have nw3 : (ix2 p d : S512x2048.Idx) ∉ r0_10.set := not_mem_tile 384 inb_S512x2048_S128x2048_384_0 d p (by omega)
  refine (View.canon_cons_of_not_mem (Val := Elt Ideal) (e := .f32) ⟨r0_10, w3⟩ _ nw3).trans ?_
  rw [emb_tile 256 inb_S512x2048_S128x2048_256_0 r d p hp]
  exact View.canon_cons_emb _ _ _ _

theorem tileOf1 (hp : p.val = 128 + r.val) : tileOf w3 w2 w1 w0 (ix2 p d) = w1 (ix2 r d) := by
  have nw3 : (ix2 p d : S512x2048.Idx) ∉ r0_10.set := not_mem_tile 384 inb_S512x2048_S128x2048_384_0 d p (by omega)
  refine (View.canon_cons_of_not_mem (Val := Elt Ideal) (e := .f32) ⟨r0_10, w3⟩ _ nw3).trans ?_
  have nw2 : (ix2 p d : S512x2048.Idx) ∉ r0_8.set := not_mem_tile 256 inb_S512x2048_S128x2048_256_0 d p (by omega)
  refine (View.canon_cons_of_not_mem (Val := Elt Ideal) (e := .f32) ⟨r0_8, w2⟩ _ nw2).trans ?_
  rw [emb_tile 128 inb_S512x2048_S128x2048_128_0 r d p hp]
  exact View.canon_cons_emb _ _ _ _

theorem tileOf0 (hp : p.val = 0 + r.val) : tileOf w3 w2 w1 w0 (ix2 p d) = w0 (ix2 r d) := by
  have nw3 : (ix2 p d : S512x2048.Idx) ∉ r0_10.set := not_mem_tile 384 inb_S512x2048_S128x2048_384_0 d p (by omega)
  refine (View.canon_cons_of_not_mem (Val := Elt Ideal) (e := .f32) ⟨r0_10, w3⟩ _ nw3).trans ?_
  have nw2 : (ix2 p d : S512x2048.Idx) ∉ r0_8.set := not_mem_tile 256 inb_S512x2048_S128x2048_256_0 d p (by omega)
  refine (View.canon_cons_of_not_mem (Val := Elt Ideal) (e := .f32) ⟨r0_8, w2⟩ _ nw2).trans ?_
  have nw1 : (ix2 p d : S512x2048.Idx) ∉ r0_6.set := not_mem_tile 128 inb_S512x2048_S128x2048_128_0 d p (by omega)
  refine (View.canon_cons_of_not_mem (Val := Elt Ideal) (e := .f32) ⟨r0_6, w1⟩ _ nw1).trans ?_
  rw [emb_tile 0 inb_S512x2048_S128x2048_0_0 r d p hp]
  exact View.canon_cons_emb _ _ _ _
end

theorem ln_ld (o : ℕ) (h h') (r : Fin 128) (p : Fin 512) (d : Fin 2048) (hp : p.val = o + r.val) :
    lnRow (row (View.ld x0 (Rect.unit (s := S512x1024) ![o, 0] S128x1024.size h)) (View.ld x3 r0_1)
      (View.ld x1 (Rect.unit (s := S512x1024) ![o, 0] S128x1024.size h)) (View.ld x3 r0_2)
      (View.ld x2 (Rect.unit (s := S512x2048) ![o, 0] S128x2048.size h')) r) (View.ld x4 r0_4 (ix2 0 d)) (View.ld x5 r0_4 (ix2 0 d)) d
      = lnRow (tileRow x0 x1 x2 x3 p) (x4 (ix2 0 d)) (x5 (ix2 0 d)) d := by
  rw [row_ld x0 x1 x2 x3 o h h' r p hp, ld_vec, ld_vec]

theorem out0_6_apply (p : Fin 512) (d : Fin 2048) :
    out0_6 x0 x1 x2 x3 x4 x5 (ix2 p d) = lnRow (tileRow x0 x1 x2 x3 p) (x4 (ix2 0 d)) (x5 (ix2 0 d)) d := by
  unfold out0_6
  by_cases h3 : 384 ≤ p.val
  · have hp : p.val = 384 + (⟨p.val - 384, by omega⟩ : Fin 128).val := by show p.val = 384 + (p.val - 384); omega
    exact (tileOf3 _ _ _ _ _ p d hp).trans ((piece3_apply _ _ _ _ _ _ _ _ d).trans (ln_ld x0 x1 x2 x3 x4 x5 384 _ _ _ p d hp))
  by_cases h2 : 256 ≤ p.val
  · have hp : p.val = 256 + (⟨p.val - 256, by omega⟩ : Fin 128).val := by show p.val = 256 + (p.val - 256); omega
    exact (tileOf2 _ _ _ _ _ p d hp).trans ((piece2_apply _ _ _ _ _ _ _ _ d).trans (ln_ld x0 x1 x2 x3 x4 x5 256 _ _ _ p d hp))
  by_cases h1 : 128 ≤ p.val
  · have hp : p.val = 128 + (⟨p.val - 128, by omega⟩ : Fin 128).val := by show p.val = 128 + (p.val - 128); omega
    exact (tileOf1 _ _ _ _ _ p d hp).trans ((piece1_apply _ _ _ _ _ _ _ _ d).trans (ln_ld x0 x1 x2 x3 x4 x5 128 _ _ _ p d hp))
  have hp : p.val = 0 + (⟨p.val, by omega⟩ : Fin 128).val := by show p.val = 0 + p.val; omega
  exact (tileOf0 _ _ _ _ _ p d hp).trans ((piece0_apply _ _ _ _ _ _ _ _ d).trans (ln_ld x0 x1 x2 x3 x4 x5 0 _ _ _ p d hp))
end

/-! ## The arrays the region finds -/

variable (m : (ℓ : Loc nD τ sig) → Buf (Elt Ideal) ℓ) (ρ : Dev nD → PrngReg) (c : Dev nD)

/-- A flat row's batch row and position. -/
abbrev bat (R : Fin 16384) : Fin 8 := ⟨R.val / 2048, by omega⟩
abbrev pos (R : Fin 16384) : Fin 2048 := ⟨R.val % 2048, by omega⟩

theorem V_v0 (R : Fin 16384) (k : Fin 1024) : V m c main_v0 (ix2 R k : S16384x1024.Idx) = m ((c : Thread nD τ).loc main_arg0) (ix3 (bat R) (pos R) k : S8x2048x1024.Idx) := by
  after_reads_at
theorem V_v1 (R : Fin 16384) (k : Fin 1024) : V m c main_v1 (ix2 R k : S16384x1024.Idx) = m ((c : Thread nD τ).loc main_arg1) (ix3 (bat R) (pos R) k : S8x2048x1024.Idx) := by
  after_reads_at
theorem V_v2 (R : Fin 16384) (k : Fin 2048) : V m c main_v2 (ix2 R k : S16384x2048.Idx) = m ((c : Thread nD τ).loc main_arg2) (ix3 (bat R) (pos R) k : S8x2048x2048.Idx) := by
  after_reads_at
theorem V_v3 (j : S2048x2048.Idx) : V m c main_v3 j = m ((c : Thread nD τ).loc main_arg3) j := by
  after_reads_at
theorem V_v4 (f : Fin 2048) : V m c main_v4 (ix2 0 f : S1x2048.Idx) = m ((c : Thread nD τ).loc main_arg4) (ix1 f : S2048.Idx) := by
  after_reads_at
theorem V_v5 (f : Fin 2048) : V m c main_v5 (ix2 0 f : S1x2048.Idx) = m ((c : Thread nD τ).loc main_arg5) (ix1 f : S2048.Idx) := by
  after_reads_at

/-! ## The blocks -/

theorem lt_N (t : Fin cfg0.N) : t.val < 32 := lt_of_lt_of_eq t.isLt N_0
theorem coords0 (t : Fin cfg0.N) : (grid0.coords t 0).val = t.val := by
  have e : (grid0.coords t 0).val = t.val / 1 % 32 := Pipeline.Grid.coords_val t 0 (by decide) rfl
  have := lt_N t; rw [e]; omega

theorem toNat32 (k : Fin 32) : (BitVec.ofNat 32 k.val).toNat = k.val := by revert k; decide

theorem tr0 (i : grid0.Coords) : cc0_transform_0 i = ![(i 0).val, 0] := by
  funext a; fin_cases a
  · exact toNat32 (i 0)
  · rfl
theorem tr1 (i : grid0.Coords) : cc0_transform_1 i = ![(i 0).val, 0] := by
  funext a; fin_cases a
  · exact toNat32 (i 0)
  · rfl
theorem tr2 (i : grid0.Coords) : cc0_transform_2 i = ![(i 0).val, 0] := by
  funext a; fin_cases a
  · exact toNat32 (i 0)
  · rfl
theorem tr6 (i : grid0.Coords) : cc0_transform_6 i = ![(i 0).val, 0] := by
  funext a; fin_cases a
  · exact toNat32 (i 0)
  · rfl

variable (t : Fin cfg0.N)

/-- A tile row's flat row. -/
abbrev flat (p : Fin 512) : Fin 16384 := ⟨512 * t.val + p.val, by have := lt_N t; omega⟩

theorem i0 (p : Fin 512) (k : Fin 1024) : iblk m c 0 t (ix2 p k : S512x1024.Idx) = m ((c : Thread nD τ).loc main_arg0) (ix3 (bat (flat t p)) (pos (flat t p)) k : S8x2048x1024.Idx) := by
  refine Eq.trans ?_ (V_v0 m c _ _)
  show V m c main_v0 (((cfg0.win 0).blk t).view.emb (ix2 p k)) = _
  congr 1
  funext a; apply Fin.ext
  match a with
  | ⟨0, _⟩ => show cc0_transform_0 (grid0.coords t) 0 * 512 + 1 * p.val = 512 * t.val + p.val; rw [tr0]; show (grid0.coords t 0).val * 512 + 1 * p.val = _; rw [coords0]; omega
  | ⟨1, _⟩ => show cc0_transform_0 (grid0.coords t) 1 * 1024 + 1 * k.val = k.val; rw [tr0]; show 0 * 1024 + 1 * k.val = _; omega

theorem i1 (p : Fin 512) (k : Fin 1024) : iblk m c 1 t (ix2 p k : S512x1024.Idx) = m ((c : Thread nD τ).loc main_arg1) (ix3 (bat (flat t p)) (pos (flat t p)) k : S8x2048x1024.Idx) := by
  refine Eq.trans ?_ (V_v1 m c _ _)
  show V m c main_v1 (((cfg0.win 1).blk t).view.emb (ix2 p k)) = _
  congr 1
  funext a; apply Fin.ext
  match a with
  | ⟨0, _⟩ => show cc0_transform_1 (grid0.coords t) 0 * 512 + 1 * p.val = 512 * t.val + p.val; rw [tr1]; show (grid0.coords t 0).val * 512 + 1 * p.val = _; rw [coords0]; omega
  | ⟨1, _⟩ => show cc0_transform_1 (grid0.coords t) 1 * 1024 + 1 * k.val = k.val; rw [tr1]; show 0 * 1024 + 1 * k.val = _; omega

theorem i2 (p : Fin 512) (k : Fin 2048) : iblk m c 2 t (ix2 p k : S512x2048.Idx) = m ((c : Thread nD τ).loc main_arg2) (ix3 (bat (flat t p)) (pos (flat t p)) k : S8x2048x2048.Idx) := by
  refine Eq.trans ?_ (V_v2 m c _ _)
  show V m c main_v2 (((cfg0.win 2).blk t).view.emb (ix2 p k)) = _
  congr 1
  funext a; apply Fin.ext
  match a with
  | ⟨0, _⟩ => show cc0_transform_2 (grid0.coords t) 0 * 512 + 1 * p.val = 512 * t.val + p.val; rw [tr2]; show (grid0.coords t 0).val * 512 + 1 * p.val = _; rw [coords0]; omega
  | ⟨1, _⟩ => show cc0_transform_2 (grid0.coords t) 1 * 2048 + 1 * k.val = k.val; rw [tr2]; show 0 * 2048 + 1 * k.val = _; omega

theorem i3 (k e : Fin 2048) : iblk m c 3 t (ix2 k e : S2048x2048.Idx) = m ((c : Thread nD τ).loc main_arg3) (ix2 k e : S2048x2048.Idx) := by
  refine Eq.trans ?_ (V_v3 m c _)
  show V m c main_v3 (((cfg0.win 3).blk t).view.emb (ix2 k e)) = _
  congr 1
  funext a; apply Fin.ext
  match a with
  | ⟨0, _⟩ => show 0 * 2048 + 1 * k.val = k.val; omega
  | ⟨1, _⟩ => show 0 * 2048 + 1 * e.val = e.val; omega

theorem i4 (d : Fin 2048) : iblk m c 4 t (ix2 0 d : S1x2048.Idx) = m ((c : Thread nD τ).loc main_arg4) (ix1 d : S2048.Idx) := by
  refine Eq.trans ?_ (V_v4 m c _)
  show V m c main_v4 (((cfg0.win 4).blk t).view.emb (ix2 0 d)) = _
  congr 1
  funext a; apply Fin.ext
  match a with
  | ⟨0, _⟩ => rfl
  | ⟨1, _⟩ => show 0 * 2048 + 1 * d.val = d.val; omega

theorem i5 (d : Fin 2048) : iblk m c 5 t (ix2 0 d : S1x2048.Idx) = m ((c : Thread nD τ).loc main_arg5) (ix1 d : S2048.Idx) := by
  refine Eq.trans ?_ (V_v5 m c _)
  show V m c main_v5 (((cfg0.win 5).blk t).view.emb (ix2 0 d)) = _
  congr 1
  funext a; apply Fin.ext
  match a with
  | ⟨0, _⟩ => rfl
  | ⟨1, _⟩ => show 0 * 2048 + 1 * d.val = d.val; omega

/-! ## The final array -/

/-- The call's result, as an array. -/
def res : S16384x2048.Idx → EReal := fun i =>
  out (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (bat (i 0)) (pos (i 0)) (i 1)

theorem tile_val (p : Fin 512) (d : Fin 2048) :
    out0_6 (iblk m c 0 t) (iblk m c 1 t) (iblk m c 2 t) (iblk m c 3 t) (iblk m c 4 t) (iblk m c 5 t) (ix2 p d)
      = res m c (ix2 (flat t p) d) := by
  rw [out0_6_apply, i4, i5]
  refine congrArg (fun v => lnRow v _ _ d) (funext fun e => ?_)
  unfold tileRow pre
  rw [i2]
  refine congrArg₂ _ rfl (congrArg₂ _ (Finset.sum_congr rfl fun k _ => ?_) (Finset.sum_congr rfl fun k _ => ?_))
  · exact congrArg₂ _ (i0 m c t p k) (i3 m c t _ e)
  · exact congrArg₂ _ (i1 m c t p k) (i3 m c t _ e)

theorem flushed : (dats m 0 c).flushed 6 t = ((cfg0.win 6).blk t).view.read (Elt Ideal) (res m c) := by
  rw [Value.flushed6]
  funext y
  have ey : (cfg0.win 6).xinj (grid0.coords t) y = (ix2 (⟨(y 0).val, (y 0).isLt⟩ : Fin 512) (⟨(y 1).val, (y 1).isLt⟩ : Fin 2048) : S512x2048.Idx) := by
    funext a; apply Fin.ext
    match a with
    | ⟨0, _⟩ => rfl
    | ⟨1, _⟩ => rfl
  show out0_6 (iblk m c 0 t) (iblk m c 1 t) (iblk m c 2 t) (iblk m c 3 t) (iblk m c 4 t) (iblk m c 5 t) ((cfg0.win 6).xinj (grid0.coords t) y) = res m c (((cfg0.win 6).blk t).view.emb y)
  rw [ey, tile_val]
  congr 1
  funext a; apply Fin.ext
  match a with
  | ⟨0, _⟩ => show 512 * t.val + (y 0).val = cc0_transform_6 (grid0.coords t) 0 * 512 + 1 * (y 0).val; rw [tr6]; show _ = (grid0.coords t 0).val * 512 + 1 * (y 0).val; rw [coords0]; omega
  | ⟨1, _⟩ => show (y 1).val = cc0_transform_6 (grid0.coords t) 1 * 2048 + 1 * (y 1).val; rw [tr6]; show _ = 0 * 2048 + 1 * (y 1).val; omega

theorem mem_blk (i : S16384x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v6).slice (win0_6.rect t)).set ↔ _
  rw [View.set_slice_whole, Rect.mem_set_unit]
  exact Iff.rfl

theorem cover (i : S16384x2048.Idx) : ∃ t : Fin cfg0.N, (cfg0.win 6).flush t = true ∧ i ∈ ((cfg0.win 6).blk t).view.set := by
  have h0 : (i 0).val < 16384 := (i 0).isLt
  have h1 : (i 1).val < 2048 := (i 1).isLt
  have ht : (i 0).val / 512 < cfg0.N := lt_of_lt_of_eq (by omega : _ < 32) N_0.symm
  refine ⟨⟨_, ht⟩, flush0_6 _, ?_⟩
  rw [mem_blk]
  intro a
  match a with
  | ⟨0, _⟩ =>
    have e : win0_6.index ⟨(i 0).val / 512, ht⟩ 0 = (i 0).val / 512 := by
      show cc0_transform_6 (grid0.coords ⟨_, ht⟩) 0 = _
      rw [tr6]; show (grid0.coords ⟨_, ht⟩ 0).val = _; rw [coords0]
    show win0_6.index ⟨_, ht⟩ 0 * 512 ≤ (i 0).val ∧ (i 0).val < win0_6.index ⟨_, ht⟩ 0 * 512 + 512
    rw [e]; omega
  | ⟨1, _⟩ =>
    have e : win0_6.index ⟨(i 0).val / 512, ht⟩ 1 = 0 := by
      show cc0_transform_6 (grid0.coords ⟨_, ht⟩) 1 = _
      rw [tr6]; rfl
    show win0_6.index ⟨_, ht⟩ 1 * 2048 ≤ (i 1).val ∧ (i 1).val < win0_6.index ⟨_, ht⟩ 1 * 2048 + 2048
    rw [e]; omega

theorem final : (dats m 0 c).arrAt 6 cfg0.N = res m c :=
  (dats m 0 c).arrAt_eq_of_cover 6 _ (fun t _ => flushed m c t) cover

/-- The kernel's result. -/
theorem result : θ_run defs (onTc (τ := τ) (main (F := Ideal))) ⟨m, fun _ => 0, ρ⟩ (fun r => ∀ c : Dev nD,
      r.2.mem ((c.tc : Thread nD τ).loc main_v6) = res m c) :=
  (θ_run defs _ _).mono (fun _ h c => ((h c).1 6).trans (final m c)) (run_main m ρ)

/-- Kernel and reference end with equal results. -/
theorem algebraic : Cert.algebraic_Kernel2Ideal_Reference2Ideal (hKernel2Ideal := Cert.Kernel2Ideal.Gen.facts) (hReference2Ideal := Cert.Reference2Ideal.Gen.facts) := by
  intro m g m' g' _ hm
  refine ⟨fun c => res m c, (θ_run defs _ _).mono (fun _ h c => ⟨h.1 c, h.2 c⟩) (θ_run_and (result m g) (unchanged m g)), ?_⟩
  refine (θ_run Cert.Reference2Ideal.defs _ _).mono (fun _ h c => ⟨(h c).1.trans ?_, (h c).2⟩) (Cert.Reference2Ideal.Value.run m' g')
  obtain ⟨e0, e1, e2, e3, e4, e5⟩ := hm c
  refine (Cert.Reference2Ideal.Read.val_main_v29_eq m' c).trans ?_
  funext i
  refine (Ref.out_apply _ _ _ _ _ _ i).trans ?_
  rw [e0, e1, e2, e3, e4, e5]
  rfl

end Cert.OutProj

end
-- ==== Proof.Disc.Spec.lean ====
/- The discretised state matrices as functions of the arrays, over the extended reals: what both programs compute. -/
module

public import Idealize.ShloMosaic.Lib.Pointwise
public import Idealize.ShloMosaic.Lib.ValueIdx

@[expose] public section

noncomputable section

namespace Cert.Disc

open Idealize.ShloMosaic

/-- The real part of `exp (e^l * (a + i b))`. -/
def stepRe (a b l : EReal) : EReal := Ideal.exp (Ideal.exp l * a) * Ideal.cos (Ideal.exp l * b)

/-- Its imaginary part. -/
def stepIm (a b l : EReal) : EReal := Ideal.exp (Ideal.exp l * a) * Ideal.sin (Ideal.exp l * b)

/-- The real part of the step less one, over `a + i b`. -/
def gainRe (a b l : EReal) : EReal :=
  Ideal.div ((stepRe a b l - Scalar.ofBits (F := Ideal) .f32 0x3F800000#32) * a + stepIm a b l * b) (a * a + b * b)

/-- Its imaginary part. -/
def gainIm (a b l : EReal) : EReal :=
  Ideal.div (stepIm a b l * a - (stepRe a b l - Scalar.ofBits (F := Ideal) .f32 0x3F800000#32) * b) (a * a + b * b)

/-- The real part of the gain times `u + i v`. -/
def inRe (a b l u v : EReal) : EReal := gainRe a b l * u - gainIm a b l * v

/-- Its imaginary part. -/
def inIm (a b l u v : EReal) : EReal := gainRe a b l * v + gainIm a b l * u

section
variable (ar ai : (⟨2, ![64, 64]⟩ : Shape).Idx → EReal) (ld : (⟨1, ![64]⟩ : Shape).Idx → EReal)
  (br bi : (⟨3, ![64, 64, 16]⟩ : Shape).Idx → EReal)

/-- The four results, at a group, an input channel and a state. -/
def aRe (g p : Fin 64) : EReal := stepRe (ar (ix2 g p)) (ai (ix2 g p)) (ld (ix1 g))
def aIm (g p : Fin 64) : EReal := stepIm (ar (ix2 g p)) (ai (ix2 g p)) (ld (ix1 g))
def bRe (g : Fin 64) (h : Fin 16) (p : Fin 64) : EReal := inRe (ar (ix2 g p)) (ai (ix2 g p)) (ld (ix1 g)) (br (ix3 g p h)) (bi (ix3 g p h))
def bIm (g : Fin 64) (h : Fin 16) (p : Fin 64) : EReal := inIm (ar (ix2 g p)) (ai (ix2 g p)) (ld (ix1 g)) (br (ix3 g p h)) (bi (ix3 g p h))
end

end Cert.Disc

end
-- ==== Proof.Disc.Pay.lean ====
/- The discretisation's payloads read at an index, over the extended reals. -/
module

public import proofs.«01_k».proof.Proof.Disc.Spec
public import proofs.«01_k».proof.Proof.Gen.Kernel3Ideal.Skeleton

@[expose] public section

set_option maxRecDepth 16384

noncomputable section

namespace Cert.Disc

open Cert.Kernel3Ideal Cert.Kernel3Ideal.Gen
open Idealize.ShloMosaic

variable (x0 x1 : Vec Ideal S64x1x64 .f32) (x2 : Vec Ideal S64x1x1 .f32) (x3 x4 : Vec Ideal S64x16x64 .f32) (g p : Fin 64) (h : Fin 16)

theorem pay8_apply : k0_pay8 x0 x1 x2 (ix3 g 0 p) = stepRe (x0 (ix3 g 0 p)) (x1 (ix3 g 0 p)) (x2 (ix3 g 0 0)) := by
  pointwise [k0_pay8, k0_pay3, k0_pay4, k0_pay5, k0_pay6, k0_pay7, stepRe]

theorem pay9_apply : k0_pay9 x0 x1 x2 (ix3 g 0 p) = stepIm (x0 (ix3 g 0 p)) (x1 (ix3 g 0 p)) (x2 (ix3 g 0 0)) := by
  pointwise [k0_pay9, k0_pay3, k0_pay4, k0_pay5, k0_pay6, k0_pay7, stepIm]

theorem pay12_apply : k0_pay12 x0 x1 x2 (ix3 g 0 p) = gainRe (x0 (ix3 g 0 p)) (x1 (ix3 g 0 p)) (x2 (ix3 g 0 0)) := by
  unfold gainRe
  rw [← pay8_apply, ← pay9_apply]
  pointwise [k0_pay12, k0_pay10, k0_pay11, k0_pay3, k0_pay4]

theorem pay13_apply : k0_pay13 x0 x1 x2 (ix3 g 0 p) = gainIm (x0 (ix3 g 0 p)) (x1 (ix3 g 0 p)) (x2 (ix3 g 0 0)) := by
  unfold gainIm
  rw [← pay8_apply, ← pay9_apply]
  pointwise [k0_pay13, k0_pay10, k0_pay11, k0_pay3, k0_pay4]

theorem pay1_apply : k0_pay1 (k0_pay13 x0 x1 x2) (k0_pay14 x3) (k0_pay15 x4) (k0_pay16 x0 x1 x2) (ix3 g h p)
    = inRe (x0 (ix3 g 0 p)) (x1 (ix3 g 0 p)) (x2 (ix3 g 0 0)) (x3 (ix3 g h p)) (x4 (ix3 g h p)) := by
  unfold inRe
  rw [← pay12_apply, ← pay13_apply]
  pointwise [k0_pay1, k0_pay14, k0_pay15, k0_pay16]

theorem pay2_apply : k0_pay2 (k0_pay12 x0 x1 x2) (k0_pay13 x0 x1 x2) (k0_pay14 x3) (k0_pay15 x4) (ix3 g h p)
    = inIm (x0 (ix3 g 0 p)) (x1 (ix3 g 0 p)) (x2 (ix3 g 0 0)) (x3 (ix3 g h p)) (x4 (ix3 g h p)) := by
  unfold inIm
  rw [← pay12_apply, ← pay13_apply]
  pointwise [k0_pay2, k0_pay14, k0_pay15]

end Cert.Disc

end
-- ==== Proof.Disc.RefVal.lean ====
/- The reference's four stages read at an index, over the extended reals. -/
module

public import proofs.«01_k».proof.Proof.Disc.Spec
public import proofs.«01_k».proof.Proof.Gen.Reference3Ideal.Read

@[expose] public section

set_option maxRecDepth 16384

noncomputable section

namespace Cert.Disc.Ref

open Cert.Reference3Ideal Cert.Reference3Ideal.Read
open Idealize.ShloMosaic

variable (x0 x1 : Vec Ideal S64x64 .f32) (x2 : Vec Ideal S64 .f32) (x3 x4 : Vec Ideal S64x64x16 .f32) (g p : Fin 64) (h : Fin 16)

theorem aRe_apply : val_main_v38 x0 x1 x2 (ix3 g 0 p) = aRe x0 x1 x2 g p := by
  pointwise [val_main_v38, val_main_v8, val_main_v7, val_main_v6, val_main_v5, val_main_v4, val_main_v3, val_main_v2, val_main_v1, val_main_v0, aRe, stepRe]

theorem aIm_apply : val_main_v39 x0 x1 x2 (ix3 g 0 p) = aIm x0 x1 x2 g p := by
  pointwise [val_main_v39, val_main_v10, val_main_v9, val_main_v6, val_main_v5, val_main_v4, val_main_v3, val_main_v2, val_main_v1, val_main_v0, aIm, stepIm]

theorem step_apply : val_main_v8 x0 x1 x2 (ix2 g p) = stepRe (x0 (ix2 g p)) (x1 (ix2 g p)) (x2 (ix1 g)) := by
  pointwise [val_main_v8, val_main_v7, val_main_v6, val_main_v5, val_main_v4, val_main_v3, val_main_v2, val_main_v1, val_main_v0, stepRe]

theorem stepIm_apply : val_main_v10 x0 x1 x2 (ix2 g p) = stepIm (x0 (ix2 g p)) (x1 (ix2 g p)) (x2 (ix1 g)) := by
  pointwise [val_main_v10, val_main_v9, val_main_v6, val_main_v5, val_main_v4, val_main_v3, val_main_v2, val_main_v1, val_main_v0, stepIm]

theorem gainRe_apply : val_main_v19 x0 x1 x2 (ix2 g p) = gainRe (x0 (ix2 g p)) (x1 (ix2 g p)) (x2 (ix1 g)) := by
  unfold gainRe
  rw [← step_apply, ← stepIm_apply]
  pointwise [val_main_v19, val_main_v18, val_main_v17, val_main_v16, val_main_v15, val_main_v14, val_main_v13, val_main_v12, val_main_v11, val_main_cst]

theorem gainIm_apply : val_main_v23 x0 x1 x2 (ix2 g p) = gainIm (x0 (ix2 g p)) (x1 (ix2 g p)) (x2 (ix1 g)) := by
  unfold gainIm
  rw [← step_apply, ← stepIm_apply]
  pointwise [val_main_v23, val_main_v22, val_main_v21, val_main_v20, val_main_v15, val_main_v14, val_main_v13, val_main_v12, val_main_v11, val_main_cst]

theorem bRe_apply : val_main_v40 x0 x1 x2 x3 x4 (ix3 g h p) = bRe x0 x1 x2 x3 x4 g h p := by
  unfold bRe inRe
  rw [← gainRe_apply, ← gainIm_apply]
  pointwise [val_main_v40, val_main_v30, val_main_v29, val_main_v28, val_main_v27, val_main_v26, val_main_v25, val_main_v24]

theorem bIm_apply : val_main_v41 x0 x1 x2 x3 x4 (ix3 g h p) = bIm x0 x1 x2 x3 x4 g h p := by
  unfold bIm inIm
  rw [← gainRe_apply, ← gainIm_apply]
  pointwise [val_main_v41, val_main_v37, val_main_v36, val_main_v35, val_main_v34, val_main_v33, val_main_v32, val_main_v31]

end Cert.Disc.Ref

end
-- ==== Proof.Disc.Value.lean ====
/- The four arrays the discretisation leaves, over the extended reals, and their agreement with the reference. -/
module

public import proofs.«01_k».proof.Proof.Disc.Pay
public import proofs.«01_k».proof.Proof.Disc.RefVal
public import proofs.«01_k».proof.Proof.Gen.Kernel3Ideal.Value
public import proofs.«01_k».proof.Proof.Gen.Kernel3Ideal
public import proofs.«01_k».proof.Proof.Gen.Reference3Ideal
public import proofs.«01_k».proof.Proof.Gen.Reference3Ideal.Run
public import proofs.«01_k».proof.Defs
public import Idealize.ShloMosaic.Lib.StableHlo.ReadAt

@[expose] public section

set_option maxRecDepth 16384

noncomputable section

namespace Cert.Disc

open Cert.Kernel3Ideal Cert.Kernel3Ideal.Gen
open Idealize.ShloMosaic Idealize.ShloMosaic.TcCoe Idealize.SL.Sem

/-! ## The body's four stores at an index -/

section
variable (x0 x1 : Vec Ideal S64x1x64 .f32) (x2 : Vec Ideal S64x1x1 .f32) (x3 x4 : Vec Ideal S64x16x64 .f32) (g p : Fin 64) (h : Fin 16)

theorem emb_row : r0_0.emb (ix3 g 0 p) = (ix3 g 0 p : S64x1x64.Idx) := by
  funext a; apply Fin.ext
  match a with
  | ⟨0, _⟩ => show 0 + 1 * g.val = g.val; omega
  | ⟨1, _⟩ => rfl
  | ⟨2, _⟩ => show 0 + 1 * p.val = p.val; omega

theorem emb_one : r0_1.emb (ix3 g 0 0) = (ix3 g 0 0 : S64x1x1.Idx) := by
  funext a; apply Fin.ext
  match a with
  | ⟨0, _⟩ => show 0 + 1 * g.val = g.val; omega
  | ⟨1, _⟩ => rfl
  | ⟨2, _⟩ => rfl

theorem emb_mat : r0_2.emb (ix3 g h p) = (ix3 g h p : S64x16x64.Idx) := by
  funext a; apply Fin.ext
  match a with
  | ⟨0, _⟩ => show 0 + 1 * g.val = g.val; omega
  | ⟨1, _⟩ => show 0 + 1 * h.val = h.val; omega
  | ⟨2, _⟩ => show 0 + 1 * p.val = p.val; omega

theorem ld_row (x : Vec Ideal S64x1x64 .f32) : View.ld x r0_0 (ix3 g 0 p) = x (ix3 g 0 p) := congrArg x (emb_row g p)
theorem ld_one : View.ld x2 r0_1 (ix3 g 0 0) = x2 (ix3 g 0 0) := congrArg x2 (emb_one g)
theorem ld_mat (x : Vec Ideal S64x16x64 .f32) : View.ld x r0_2 (ix3 g h p) = x (ix3 g h p) := congrArg x (emb_mat g p h)

theorem canon_row (w : Vec Ideal S64x1x64 .f32) :
    View.canon (Val := Elt Ideal) (e := .f32) [⟨r0_0, w⟩] (ix3 g 0 p) = w (ix3 g 0 p) :=
  (congrArg (View.canon (Val := Elt Ideal) (e := .f32) [⟨r0_0, w⟩]) (emb_row g p).symm).trans (View.canon_cons_emb r0_0 w [] (ix3 g 0 p))

theorem canon_mat (w : Vec Ideal S64x16x64 .f32) :
    View.canon (Val := Elt Ideal) (e := .f32) [⟨r0_2, w⟩] (ix3 g h p) = w (ix3 g h p) :=
  (congrArg (View.canon (Val := Elt Ideal) (e := .f32) [⟨r0_2, w⟩]) (emb_mat g p h).symm).trans (View.canon_cons_emb r0_2 w [] (ix3 g h p))

theorem out0_5_apply : out0_5 x0 x1 x2 x3 x4 (ix3 g 0 p) = stepRe (x0 (ix3 g 0 p)) (x1 (ix3 g 0 p)) (x2 (ix3 g 0 0)) := by
  refine (canon_row g p _).trans ((pay8_apply _ _ _ g p).trans ?_)
  rw [ld_row, ld_row, ld_one]

theorem out0_6_apply : out0_6 x0 x1 x2 x3 x4 (ix3 g 0 p) = stepIm (x0 (ix3 g 0 p)) (x1 (ix3 g 0 p)) (x2 (ix3 g 0 0)) := by
  refine (canon_row g p _).trans ((pay9_apply _ _ _ g p).trans ?_)
  rw [ld_row, ld_row, ld_one]

theorem out0_7_apply : out0_7 x0 x1 x2 x3 x4 (ix3 g h p)
    = inRe (x0 (ix3 g 0 p)) (x1 (ix3 g 0 p)) (x2 (ix3 g 0 0)) (x3 (ix3 g h p)) (x4 (ix3 g h p)) := by
  refine (canon_mat g p h _).trans ((pay1_apply _ _ _ _ _ g p h).trans ?_)
  rw [ld_row, ld_row, ld_one, ld_mat, ld_mat]

theorem out0_8_apply : out0_8 x0 x1 x2 x3 x4 (ix3 g h p)
    = inIm (x0 (ix3 g 0 p)) (x1 (ix3 g 0 p)) (x2 (ix3 g 0 0)) (x3 (ix3 g h p)) (x4 (ix3 g h p)) := by
  refine (canon_mat g p h _).trans ((pay2_apply _ _ _ _ _ g p h).trans ?_)
  rw [ld_row, ld_row, ld_one, ld_mat, ld_mat]
end

/-! ## The arrays the region finds -/

variable (m : (ℓ : Loc nD τ sig) → Buf (Elt Ideal) ℓ) (ρ : Dev nD → PrngReg) (c : Dev nD)

/-- The argument arrays. -/
abbrev ar : S64x64.Idx → EReal := m ((c : Thread nD τ).loc main_arg0)
abbrev ai : S64x64.Idx → EReal := m ((c : Thread nD τ).loc main_arg1)
abbrev ldt : S64.Idx → EReal := m ((c : Thread nD τ).loc main_arg2)
abbrev br : S64x64x16.Idx → EReal := m ((c : Thread nD τ).loc main_arg3)
abbrev bi : S64x64x16.Idx → EReal := m ((c : Thread nD τ).loc main_arg4)

theorem V_v2 (g p : Fin 64) : V m c main_v2 (ix3 g 0 p : S64x1x64.Idx) = ar m c (ix2 g p) := by
  after_reads_at
theorem V_v3 (g p : Fin 64) : V m c main_v3 (ix3 g 0 p : S64x1x64.Idx) = ai m c (ix2 g p) := by
  after_reads_at
theorem V_v4 (g : Fin 64) : V m c main_v4 (ix3 g 0 0 : S64x1x1.Idx) = ldt m c (ix1 g) := by
  after_reads_at
theorem V_v0 (g p : Fin 64) (h : Fin 16) : V m c main_v0 (ix3 g h p : S64x16x64.Idx) = br m c (ix3 g p h) := by
  after_reads_at
theorem V_v1 (g p : Fin 64) (h : Fin 16) : V m c main_v1 (ix3 g h p : S64x16x64.Idx) = bi m c (ix3 g p h) := by
  after_reads_at

variable (t : Fin cfg0.N)

/-! ## The blocks -/

theorem i0 (g p : Fin 64) : iblk m c 0 t (ix3 g 0 p : S64x1x64.Idx) = ar m c (ix2 g p) := by
  refine Eq.trans ?_ (V_v2 m c g p)
  show V m c main_v2 (((cfg0.win 0).blk t).view.emb (ix3 g 0 p)) = _
  congr 1
  funext a; apply Fin.ext
  match a with
  | ⟨0, _⟩ => show 0 * 64 + 1 * g.val = g.val; omega
  | ⟨1, _⟩ => rfl
  | ⟨2, _⟩ => show 0 * 64 + 1 * p.val = p.val; omega

theorem i1 (g p : Fin 64) : iblk m c 1 t (ix3 g 0 p : S64x1x64.Idx) = ai m c (ix2 g p) := by
  refine Eq.trans ?_ (V_v3 m c g p)
  show V m c main_v3 (((cfg0.win 1).blk t).view.emb (ix3 g 0 p)) = _
  congr 1
  funext a; apply Fin.ext
  match a with
  | ⟨0, _⟩ => show 0 * 64 + 1 * g.val = g.val; omega
  | ⟨1, _⟩ => rfl
  | ⟨2, _⟩ => show 0 * 64 + 1 * p.val = p.val; omega

theorem i2 (g : Fin 64) : iblk m c 2 t (ix3 g 0 0 : S64x1x1.Idx) = ldt m c (ix1 g) := by
  refine Eq.trans ?_ (V_v4 m c g)
  show V m c main_v4 (((cfg0.win 2).blk t).view.emb (ix3 g 0 0)) = _
  congr 1
  funext a; apply Fin.ext
  match a with
  | ⟨0, _⟩ => show 0 * 64 + 1 * g.val = g.val; omega
  | ⟨1, _⟩ => rfl
  | ⟨2, _⟩ => rfl

theorem i3 (g p : Fin 64) (h : Fin 16) : iblk m c 3 t (ix3 g h p : S64x16x64.Idx) = br m c (ix3 g p h) := by
  refine Eq.trans ?_ (V_v0 m c g p h)
  show V m c main_v0 (((cfg0.win 3).blk t).view.emb (ix3 g h p)) = _
  congr 1
  funext a; apply Fin.ext
  match a with
  | ⟨0, _⟩ => show 0 * 64 + 1 * g.val = g.val; omega
  | ⟨1, _⟩ => show 0 * 16 + 1 * h.val = h.val; omega
  | ⟨2, _⟩ => show 0 * 64 + 1 * p.val = p.val; omega

theorem i4 (g p : Fin 64) (h : Fin 16) : iblk m c 4 t (ix3 g h p : S64x16x64.Idx) = bi m c (ix3 g p h) := by
  refine Eq.trans ?_ (V_v1 m c g p h)
  show V m c main_v1 (((cfg0.win 4).blk t).view.emb (ix3 g h p)) = _
  congr 1
  funext a; apply Fin.ext
  match a with
  | ⟨0, _⟩ => show 0 * 64 + 1 * g.val = g.val; omega
  | ⟨1, _⟩ => show 0 * 16 + 1 * h.val = h.val; omega
  | ⟨2, _⟩ => show 0 * 64 + 1 * p.val = p.val; omega

/-! ## The final arrays -/

/-- The call's four results, as arrays. -/
def res0 : S64x1x64.Idx → EReal := fun i => aRe (ar m c) (ai m c) (ldt m c) (i 0) (i 2)
def res1 : S64x1x64.Idx → EReal := fun i => aIm (ar m c) (ai m c) (ldt m c) (i 0) (i 2)
def res2 : S64x16x64.Idx → EReal := fun i => bRe (ar m c) (ai m c) (ldt m c) (br m c) (bi m c) (i 0) (i 1) (i 2)
def res3 : S64x16x64.Idx → EReal := fun i => bIm (ar m c) (ai m c) (ldt m c) (br m c) (bi m c) (i 0) (i 1) (i 2)

theorem val0 (g p : Fin 64) : out0_5 (iblk m c 0 t) (iblk m c 1 t) (iblk m c 2 t) (iblk m c 3 t) (iblk m c 4 t) (ix3 g 0 p) = res0 m c (ix3 g 0 p) := by
  refine (out0_5_apply _ _ _ _ _ g p).trans ?_
  rw [i0, i1, i2]
  rfl

theorem flushed0 : (dats m 0 c).flushed 5 t = ((cfg0.win 5).blk t).view.read (Elt Ideal) (res0 m c) := by
  rw [Value.flushed5]
  funext y
  have ey : (cfg0.win 5).xinj (grid0.coords t) y = (ix3 (⟨(y 0).val, (y 0).isLt⟩ : Fin 64) 0 (⟨(y 2).val, (y 2).isLt⟩ : Fin 64) : S64x1x64.Idx) := by
    funext a; apply Fin.ext
    match a with
    | ⟨0, _⟩ => rfl
    | ⟨1, _⟩ => show (y 1).val = 0; have : (y 1).val < 1 := (y 1).isLt; omega
    | ⟨2, _⟩ => rfl
  show out0_5 (iblk m c 0 t) (iblk m c 1 t) (iblk m c 2 t) (iblk m c 3 t) (iblk m c 4 t) ((cfg0.win 5).xinj (grid0.coords t) y) = res0 m c (((cfg0.win 5).blk t).view.emb y)
  rw [ey, val0]
  congr 1
  funext a; apply Fin.ext
  match a with
  | ⟨0, _⟩ => show (y 0).val = 0 * 64 + 1 * (y 0).val; omega
  | ⟨1, _⟩ => show 0 = 0 * 1 + 1 * (y 1).val; have : (y 1).val < 1 := (y 1).isLt; omega
  | ⟨2, _⟩ => show (y 2).val = 0 * 64 + 1 * (y 2).val; omega

theorem cover0 (i : S64x1x64.Idx) : ∃ t : Fin cfg0.N, (cfg0.win 5).flush t = true ∧ i ∈ ((cfg0.win 5).blk t).view.set := by
  obtain ⟨t⟩ : Nonempty (Fin cfg0.N) := ⟨⟨0, lt_of_lt_of_eq Nat.one_pos N_0.symm⟩⟩
  refine ⟨t, flush0_5 t, ?_⟩
  show i ∈ ((View.whole main_v5_0).slice (win0_5.rect t)).set
  rw [View.set_slice_whole, Rect.mem_set_unit]
  intro a
  match a with
  | ⟨0, _⟩ => show 0 * 64 ≤ (i 0).val ∧ (i 0).val < 0 * 64 + 64; have : (i 0).val < 64 := (i 0).isLt; omega
  | ⟨1, _⟩ => show 0 * 1 ≤ (i 1).val ∧ (i 1).val < 0 * 1 + 1; have : (i 1).val < 1 := (i 1).isLt; omega
  | ⟨2, _⟩ => show 0 * 64 ≤ (i 2).val ∧ (i 2).val < 0 * 64 + 64; have : (i 2).val < 64 := (i 2).isLt; omega

theorem final0 : (dats m 0 c).arrAt 5 cfg0.N = res0 m c :=
  (dats m 0 c).arrAt_eq_of_cover 5 _ (fun t _ => flushed0 m c t) cover0

theorem val1 (g p : Fin 64) : out0_6 (iblk m c 0 t) (iblk m c 1 t) (iblk m c 2 t) (iblk m c 3 t) (iblk m c 4 t) (ix3 g 0 p) = res1 m c (ix3 g 0 p) := by
  refine (out0_6_apply _ _ _ _ _ g p).trans ?_
  rw [i0, i1, i2]
  rfl

theorem flushed1 : (dats m 0 c).flushed 6 t = ((cfg0.win 6).blk t).view.read (Elt Ideal) (res1 m c) := by
  rw [Value.flushed6]
  funext y
  have ey : (cfg0.win 6).xinj (grid0.coords t) y = (ix3 (⟨(y 0).val, (y 0).isLt⟩ : Fin 64) 0 (⟨(y 2).val, (y 2).isLt⟩ : Fin 64) : S64x1x64.Idx) := by
    funext a; apply Fin.ext
    match a with
    | ⟨0, _⟩ => rfl
    | ⟨1, _⟩ => show (y 1).val = 0; have : (y 1).val < 1 := (y 1).isLt; omega
    | ⟨2, _⟩ => rfl
  show out0_6 (iblk m c 0 t) (iblk m c 1 t) (iblk m c 2 t) (iblk m c 3 t) (iblk m c 4 t) ((cfg0.win 6).xinj (grid0.coords t) y) = res1 m c (((cfg0.win 6).blk t).view.emb y)
  rw [ey, val1]
  congr 1
  funext a; apply Fin.ext
  match a with
  | ⟨0, _⟩ => show (y 0).val = 0 * 64 + 1 * (y 0).val; omega
  | ⟨1, _⟩ => show 0 = 0 * 1 + 1 * (y 1).val; have : (y 1).val < 1 := (y 1).isLt; omega
  | ⟨2, _⟩ => show (y 2).val = 0 * 64 + 1 * (y 2).val; omega

theorem cover1 (i : S64x1x64.Idx) : ∃ t : Fin cfg0.N, (cfg0.win 6).flush t = true ∧ i ∈ ((cfg0.win 6).blk t).view.set := by
  obtain ⟨t⟩ : Nonempty (Fin cfg0.N) := ⟨⟨0, lt_of_lt_of_eq Nat.one_pos N_0.symm⟩⟩
  refine ⟨t, flush0_6 t, ?_⟩
  show i ∈ ((View.whole main_v5_1).slice (win0_6.rect t)).set
  rw [View.set_slice_whole, Rect.mem_set_unit]
  intro a
  match a with
  | ⟨0, _⟩ => show 0 * 64 ≤ (i 0).val ∧ (i 0).val < 0 * 64 + 64; have : (i 0).val < 64 := (i 0).isLt; omega
  | ⟨1, _⟩ => show 0 * 1 ≤ (i 1).val ∧ (i 1).val < 0 * 1 + 1; have : (i 1).val < 1 := (i 1).isLt; omega
  | ⟨2, _⟩ => show 0 * 64 ≤ (i 2).val ∧ (i 2).val < 0 * 64 + 64; have : (i 2).val < 64 := (i 2).isLt; omega

theorem final1 : (dats m 0 c).arrAt 6 cfg0.N = res1 m c :=
  (dats m 0 c).arrAt_eq_of_cover 6 _ (fun t _ => flushed1 m c t) cover1

theorem val2 (g p : Fin 64) (h : Fin 16) : out0_7 (iblk m c 0 t) (iblk m c 1 t) (iblk m c 2 t) (iblk m c 3 t) (iblk m c 4 t) (ix3 g h p) = res2 m c (ix3 g h p) := by
  refine (out0_7_apply _ _ _ _ _ g p h).trans ?_
  rw [i0, i1, i2, i3, i4]
  rfl

theorem flushed2 : (dats m 0 c).flushed 7 t = ((cfg0.win 7).blk t).view.read (Elt Ideal) (res2 m c) := by
  rw [Value.flushed7]
  funext y
  have ey : (cfg0.win 7).xinj (grid0.coords t) y = (ix3 (⟨(y 0).val, (y 0).isLt⟩ : Fin 64) (⟨(y 1).val, (y 1).isLt⟩ : Fin 16) (⟨(y 2).val, (y 2).isLt⟩ : Fin 64) : S64x16x64.Idx) := by
    funext a; apply Fin.ext
    match a with
    | ⟨0, _⟩ => rfl
    | ⟨1, _⟩ => rfl
    | ⟨2, _⟩ => rfl
  show out0_7 (iblk m c 0 t) (iblk m c 1 t) (iblk m c 2 t) (iblk m c 3 t) (iblk m c 4 t) ((cfg0.win 7).xinj (grid0.coords t) y) = res2 m c (((cfg0.win 7).blk t).view.emb y)
  rw [ey, val2]
  congr 1
  funext a; apply Fin.ext
  match a with
  | ⟨0, _⟩ => show (y 0).val = 0 * 64 + 1 * (y 0).val; omega
  | ⟨1, _⟩ => show (y 1).val = 0 * 16 + 1 * (y 1).val; omega
  | ⟨2, _⟩ => show (y 2).val = 0 * 64 + 1 * (y 2).val; omega

theorem cover2 (i : S64x16x64.Idx) : ∃ t : Fin cfg0.N, (cfg0.win 7).flush t = true ∧ i ∈ ((cfg0.win 7).blk t).view.set := by
  obtain ⟨t⟩ : Nonempty (Fin cfg0.N) := ⟨⟨0, lt_of_lt_of_eq Nat.one_pos N_0.symm⟩⟩
  refine ⟨t, flush0_7 t, ?_⟩
  show i ∈ ((View.whole main_v5_2).slice (win0_7.rect t)).set
  rw [View.set_slice_whole, Rect.mem_set_unit]
  intro a
  match a with
  | ⟨0, _⟩ => show 0 * 64 ≤ (i 0).val ∧ (i 0).val < 0 * 64 + 64; have : (i 0).val < 64 := (i 0).isLt; omega
  | ⟨1, _⟩ => show 0 * 16 ≤ (i 1).val ∧ (i 1).val < 0 * 16 + 16; have : (i 1).val < 16 := (i 1).isLt; omega
  | ⟨2, _⟩ => show 0 * 64 ≤ (i 2).val ∧ (i 2).val < 0 * 64 + 64; have : (i 2).val < 64 := (i 2).isLt; omega

theorem final2 : (dats m 0 c).arrAt 7 cfg0.N = res2 m c :=
  (dats m 0 c).arrAt_eq_of_cover 7 _ (fun t _ => flushed2 m c t) cover2

theorem val3 (g p : Fin 64) (h : Fin 16) : out0_8 (iblk m c 0 t) (iblk m c 1 t) (iblk m c 2 t) (iblk m c 3 t) (iblk m c 4 t) (ix3 g h p) = res3 m c (ix3 g h p) := by
  refine (out0_8_apply _ _ _ _ _ g p h).trans ?_
  rw [i0, i1, i2, i3, i4]
  rfl

theorem flushed3 : (dats m 0 c).flushed 8 t = ((cfg0.win 8).blk t).view.read (Elt Ideal) (res3 m c) := by
  rw [Value.flushed8]
  funext y
  have ey : (cfg0.win 8).xinj (grid0.coords t) y = (ix3 (⟨(y 0).val, (y 0).isLt⟩ : Fin 64) (⟨(y 1).val, (y 1).isLt⟩ : Fin 16) (⟨(y 2).val, (y 2).isLt⟩ : Fin 64) : S64x16x64.Idx) := by
    funext a; apply Fin.ext
    match a with
    | ⟨0, _⟩ => rfl
    | ⟨1, _⟩ => rfl
    | ⟨2, _⟩ => rfl
  show out0_8 (iblk m c 0 t) (iblk m c 1 t) (iblk m c 2 t) (iblk m c 3 t) (iblk m c 4 t) ((cfg0.win 8).xinj (grid0.coords t) y) = res3 m c (((cfg0.win 8).blk t).view.emb y)
  rw [ey, val3]
  congr 1
  funext a; apply Fin.ext
  match a with
  | ⟨0, _⟩ => show (y 0).val = 0 * 64 + 1 * (y 0).val; omega
  | ⟨1, _⟩ => show (y 1).val = 0 * 16 + 1 * (y 1).val; omega
  | ⟨2, _⟩ => show (y 2).val = 0 * 64 + 1 * (y 2).val; omega

theorem cover3 (i : S64x16x64.Idx) : ∃ t : Fin cfg0.N, (cfg0.win 8).flush t = true ∧ i ∈ ((cfg0.win 8).blk t).view.set := by
  obtain ⟨t⟩ : Nonempty (Fin cfg0.N) := ⟨⟨0, lt_of_lt_of_eq Nat.one_pos N_0.symm⟩⟩
  refine ⟨t, flush0_8 t, ?_⟩
  show i ∈ ((View.whole main_v5_3).slice (win0_8.rect t)).set
  rw [View.set_slice_whole, Rect.mem_set_unit]
  intro a
  match a with
  | ⟨0, _⟩ => show 0 * 64 ≤ (i 0).val ∧ (i 0).val < 0 * 64 + 64; have : (i 0).val < 64 := (i 0).isLt; omega
  | ⟨1, _⟩ => show 0 * 16 ≤ (i 1).val ∧ (i 1).val < 0 * 16 + 16; have : (i 1).val < 16 := (i 1).isLt; omega
  | ⟨2, _⟩ => show 0 * 64 ≤ (i 2).val ∧ (i 2).val < 0 * 64 + 64; have : (i 2).val < 64 := (i 2).isLt; omega

theorem final3 : (dats m 0 c).arrAt 8 cfg0.N = res3 m c :=
  (dats m 0 c).arrAt_eq_of_cover 8 _ (fun t _ => flushed3 m c t) cover3

/-- The kernel's four results. -/
theorem result : θ_run defs (onTc (τ := τ) (main (F := Ideal))) ⟨m, fun _ => 0, ρ⟩ (fun r => ∀ c : Dev nD,
      r.2.mem ((c.tc : Thread nD τ).loc main_v5_0) = res0 m c
      ∧ r.2.mem ((c.tc : Thread nD τ).loc main_v5_1) = res1 m c
      ∧ r.2.mem ((c.tc : Thread nD τ).loc main_v5_2) = res2 m c
      ∧ r.2.mem ((c.tc : Thread nD τ).loc main_v5_3) = res3 m c) :=
  (θ_run defs _ _).mono (fun _ h c => ⟨((h c).1 5).trans (final0 m c), ((h c).1 6).trans (final1 m c), ((h c).1 7).trans (final2 m c), ((h c).1 8).trans (final3 m c)⟩) (run_main m ρ)

theorem ref0 (x0 x1 : Vec Ideal S64x64 .f32) (x2 : Vec Ideal S64 .f32) (i : S64x1x64.Idx) : Cert.Reference3Ideal.Read.val_main_v38 (F := Ideal) x0 x1 x2 i = aRe x0 x1 x2 (i 0) (i 2) := by
  have e : i = ix3 (i 0) 0 (i 2) := by
    funext a; apply Fin.ext
    match a with
    | ⟨0, _⟩ => rfl
    | ⟨1, _⟩ => show (i 1).val = 0; have : (i 1).val < 1 := (i 1).isLt; omega
    | ⟨2, _⟩ => rfl
  exact (congrArg _ e).trans (Ref.aRe_apply x0 x1 x2 _ _)

theorem ref1 (x0 x1 : Vec Ideal S64x64 .f32) (x2 : Vec Ideal S64 .f32) (i : S64x1x64.Idx) : Cert.Reference3Ideal.Read.val_main_v39 (F := Ideal) x0 x1 x2 i = aIm x0 x1 x2 (i 0) (i 2) := by
  have e : i = ix3 (i 0) 0 (i 2) := by
    funext a; apply Fin.ext
    match a with
    | ⟨0, _⟩ => rfl
    | ⟨1, _⟩ => show (i 1).val = 0; have : (i 1).val < 1 := (i 1).isLt; omega
    | ⟨2, _⟩ => rfl
  exact (congrArg _ e).trans (Ref.aIm_apply x0 x1 x2 _ _)

theorem ref2 (x0 x1 : Vec Ideal S64x64 .f32) (x2 : Vec Ideal S64 .f32) (x3 x4 : Vec Ideal S64x64x16 .f32) (i : S64x16x64.Idx) : Cert.Reference3Ideal.Read.val_main_v40 (F := Ideal) x0 x1 x2 x3 x4 i = bRe x0 x1 x2 x3 x4 (i 0) (i 1) (i 2) := by
  have e : i = ix3 (i 0) (i 1) (i 2) := by
    funext a; apply Fin.ext
    match a with
    | ⟨0, _⟩ => rfl
    | ⟨1, _⟩ => rfl
    | ⟨2, _⟩ => rfl
  exact (congrArg _ e).trans (Ref.bRe_apply x0 x1 x2 x3 x4 _ _ _)

theorem ref3 (x0 x1 : Vec Ideal S64x64 .f32) (x2 : Vec Ideal S64 .f32) (x3 x4 : Vec Ideal S64x64x16 .f32) (i : S64x16x64.Idx) : Cert.Reference3Ideal.Read.val_main_v41 (F := Ideal) x0 x1 x2 x3 x4 i = bIm x0 x1 x2 x3 x4 (i 0) (i 1) (i 2) := by
  have e : i = ix3 (i 0) (i 1) (i 2) := by
    funext a; apply Fin.ext
    match a with
    | ⟨0, _⟩ => rfl
    | ⟨1, _⟩ => rfl
    | ⟨2, _⟩ => rfl
  exact (congrArg _ e).trans (Ref.bIm_apply x0 x1 x2 x3 x4 _ _ _)

/-- Kernel and reference end with equal results. -/
theorem algebraic : Cert.algebraic_Kernel3Ideal_Reference3Ideal (hKernel3Ideal := Cert.Kernel3Ideal.Gen.facts) (hReference3Ideal := Cert.Reference3Ideal.Gen.facts) := by
  intro m g m' g' _ hm
  refine ⟨fun c => res0 m c, fun c => res1 m c, fun c => res2 m c, fun c => res3 m c,
    (θ_run defs _ _).mono (fun _ h c => ⟨(h.1 c).1, (h.1 c).2.1, (h.1 c).2.2.1, (h.1 c).2.2.2, h.2 c⟩) (θ_run_and (result m g) (unchanged m g)), ?_⟩
  refine (θ_run Cert.Reference3Ideal.defs _ _).mono (fun _ h c => ?_) (Cert.Reference3Ideal.Value.run m' g')
  obtain ⟨e0, e1, e2, e3, e4⟩ := hm c
  obtain ⟨h0, h1, h2, h3, hr⟩ := h c
  refine ⟨h0.trans ?_, h1.trans ?_, h2.trans ?_, h3.trans ?_, hr⟩
  · refine (Cert.Reference3Ideal.Read.val_main_v38_eq _ _ _).trans ?_
    funext i
    refine (ref0 _ _ _ i).trans ?_
    rw [e0, e1, e2]; rfl
  · refine (Cert.Reference3Ideal.Read.val_main_v39_eq _ _ _).trans ?_
    funext i
    refine (ref1 _ _ _ i).trans ?_
    rw [e0, e1, e2]; rfl
  · refine (Cert.Reference3Ideal.Read.val_main_v40_eq _ _ _ _ _).trans ?_
    funext i
    refine (ref2 _ _ _ _ _ i).trans ?_
    rw [e0, e1, e2, e3, e4]; rfl
  · refine (Cert.Reference3Ideal.Read.val_main_v41_eq _ _ _ _ _).trans ?_
    funext i
    refine (ref3 _ _ _ _ _ i).trans ?_
    rw [e0, e1, e2, e3, e4]; rfl

end Cert.Disc

end
-- ==== Proof.Glu.Spec.lean ====
/- The gated linear unit as a function of its arrays, over the extended reals: what both programs compute. -/
module

public import Idealize.ShloMosaic.Lib.Pointwise
public import Idealize.ShloMosaic.Lib.ValueIdx

@[expose] public section

set_option maxRecDepth 16384

noncomputable section

namespace Cert.Glu

open Idealize.ShloMosaic
open scoped BigOperators

/-- A row's gate at lane `d`. -/
def gate (v : Fin 1024 → EReal) (w : (⟨2, ![1024, 1024]⟩ : Shape).Idx → EReal) (b : EReal) (d : Fin 1024) : EReal :=
  v d * Ideal.logistic ((∑ k : Fin 1024, v k * w (ix2 k d)) + b)

/-- Eight slabs' row `r`, side by side. -/
def cat (s0 s1 s2 s3 s4 s5 s6 s7 : (⟨3, ![1, 256, 128]⟩ : Shape).Idx → EReal) (r : Fin 256) (d : Fin 1024) : EReal :=
  if h : d.val < 128 then s0 (ix3 0 r ⟨d.val, h⟩)
  else if h : d.val - 128 < 128 then s1 (ix3 0 r ⟨d.val - 128, h⟩)
  else if h : d.val - 128 - 128 < 128 then s2 (ix3 0 r ⟨d.val - 128 - 128, h⟩)
  else if h : d.val - 128 - 128 - 128 < 128 then s3 (ix3 0 r ⟨d.val - 128 - 128 - 128, h⟩)
  else if h : d.val - 128 - 128 - 128 - 128 < 128 then s4 (ix3 0 r ⟨d.val - 128 - 128 - 128 - 128, h⟩)
  else if h : d.val - 128 - 128 - 128 - 128 - 128 < 128 then s5 (ix3 0 r ⟨d.val - 128 - 128 - 128 - 128 - 128, h⟩)
  else if h : d.val - 128 - 128 - 128 - 128 - 128 - 128 < 128 then s6 (ix3 0 r ⟨d.val - 128 - 128 - 128 - 128 - 128 - 128, h⟩)
  else s7 (ix3 0 r ⟨d.val - 128 - 128 - 128 - 128 - 128 - 128 - 128, by omega⟩)

section
variable (y : (⟨3, ![8, 16384, 128]⟩ : Shape).Idx → EReal) (w : (⟨2, ![1024, 1024]⟩ : Shape).Idx → EReal) (b : (⟨1, ![1024]⟩ : Shape).Idx → EReal)

/-- The state space's output at a batch row and a position: its channels lie in eight slabs, its batch rows next to one another. -/
def line (n : Fin 8) (s : Fin 2048) (k : Fin 1024) : EReal := y (ix3 ⟨k.val / 128, by omega⟩ ⟨s.val * 8 + n.val, by omega⟩ ⟨k.val % 128, by omega⟩)

/-- The call's result. -/
def out (n : Fin 8) (s : Fin 2048) (d : Fin 1024) : EReal := gate (line y n s) w (b (ix1 d)) d
end

end Cert.Glu

end
-- ==== Proof.Glu.Pay.lean ====
/- The gated linear unit's payloads read at an index, over the extended reals. -/
module

public import proofs.«01_k».proof.Proof.Glu.Spec
public import proofs.«01_k».proof.Proof.Gen.Kernel4Ideal.Skeleton

@[expose] public section

set_option maxRecDepth 16384

noncomputable section

namespace Cert.Glu

open Cert.Kernel4Ideal Cert.Kernel4Ideal.Gen
open Idealize.ShloMosaic
open scoped BigOperators

variable (w : Vec Ideal S1024x1024 .bf16) (b : Vec Ideal S1x1024 .f32) (s0 s1 s2 s3 s4 s5 s6 s7 : Vec Ideal S1x256x128 .f32) (r : Fin 256) (d : Fin 1024)

theorem pay0_apply : k0_pay5 (k0_pay4 w b s0 s1 s2 s3 s4 s5 s6 s7) (ix3 0 r d) = gate (cat s0 s1 s2 s3 s4 s5 s6 s7 r) w (b (ix2 0 d)) d := by
  pointwise [k0_pay5, k0_pay4, k0_pay2, k0_pay3, gate, cat]

theorem pay1_apply : k0_pay6 (k0_pay2 w) (k0_pay3 b) s0 s1 s2 s3 s4 s5 s6 s7 (ix3 0 r d) = gate (cat s0 s1 s2 s3 s4 s5 s6 s7 r) w (b (ix2 0 d)) d := by
  pointwise [k0_pay6, k0_pay2, k0_pay3, gate, cat]

theorem pay2_apply : k0_pay7 (k0_pay2 w) (k0_pay3 b) s0 s1 s2 s3 s4 s5 s6 s7 (ix3 0 r d) = gate (cat s0 s1 s2 s3 s4 s5 s6 s7 r) w (b (ix2 0 d)) d := by
  pointwise [k0_pay7, k0_pay2, k0_pay3, gate, cat]

theorem pay3_apply : k0_pay8 (k0_pay2 w) (k0_pay3 b) s0 s1 s2 s3 s4 s5 s6 s7 (ix3 0 r d) = gate (cat s0 s1 s2 s3 s4 s5 s6 s7 r) w (b (ix2 0 d)) d := by
  pointwise [k0_pay8, k0_pay2, k0_pay3, gate, cat]

theorem pay4_apply : k0_pay10 (k0_pay2 w) (k0_pay3 b) (k0_pay9 s0) s1 s2 s3 s4 s5 s6 s7 (ix3 0 r d) = gate (cat s0 s1 s2 s3 s4 s5 s6 s7 r) w (b (ix2 0 d)) d := by
  pointwise [k0_pay10, k0_pay9, k0_pay2, k0_pay3, gate, cat]

theorem pay5_apply : k0_pay13 (k0_pay2 w) (k0_pay3 b) (k0_pay11 s0) (k0_pay12 s1) s2 s3 s4 s5 s6 s7 (ix3 0 r d) = gate (cat s0 s1 s2 s3 s4 s5 s6 s7 r) w (b (ix2 0 d)) d := by
  pointwise [k0_pay13, k0_pay11, k0_pay12, k0_pay2, k0_pay3, gate, cat]

theorem pay6_apply : k0_pay17 (k0_pay2 w) (k0_pay3 b) (k0_pay14 s0) (k0_pay15 s1) (k0_pay16 s2) s3 s4 s5 s6 s7 (ix3 0 r d) = gate (cat s0 s1 s2 s3 s4 s5 s6 s7 r) w (b (ix2 0 d)) d := by
  pointwise [k0_pay17, k0_pay14, k0_pay15, k0_pay16, k0_pay2, k0_pay3, gate, cat]

theorem pay7_apply : k0_pay1 (k0_pay2 w) (k0_pay3 b) (k0_pay18 s0) (k0_pay19 s1) (k0_pay20 s2) s3 s4 s5 s6 s7 (ix3 0 r d) = gate (cat s0 s1 s2 s3 s4 s5 s6 s7 r) w (b (ix2 0 d)) d := by
  pointwise [k0_pay1, k0_pay18, k0_pay19, k0_pay20, k0_pay2, k0_pay3, gate, cat]

end Cert.Glu

end
-- ==== Proof.Glu.RefVal.lean ====
/- The reference read at an index, over the extended reals. -/
module

public import proofs.«01_k».proof.Proof.Glu.Spec
public import proofs.«01_k».proof.Proof.Gen.Reference4Ideal.Read

@[expose] public section

set_option maxRecDepth 16384

noncomputable section

namespace Cert.Glu.Ref

open Cert.Reference4Ideal Cert.Reference4Ideal.Read
open Idealize.ShloMosaic

variable (x0 : Vec Ideal S8x16384x128 .f32) (x1 : Vec Ideal S1024x1024 .f32) (x2 : Vec Ideal S1024 .f32)

theorem out_ix (n : Fin 8) (s : Fin 2048) (d : Fin 1024) : val_main_v14 x0 x1 x2 (ix3 n s d) = out x0 x1 x2 n s d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, out, gate, line, Ideal.logistic]

theorem out_apply (i : S8x2048x1024.Idx) : val_main_v14 (F := Ideal) x0 x1 x2 i = out x0 x1 x2 (i 0) (i 1) (i 2) := by
  have e : i = ix3 (i 0) (i 1) (i 2) := by
    funext a; apply Fin.ext
    match a with
    | ⟨0, _⟩ => rfl
    | ⟨1, _⟩ => rfl
    | ⟨2, _⟩ => rfl
  exact (congrArg _ e).trans (out_ix x0 x1 x2 _ _ _)

end Cert.Glu.Ref

end
-- ==== Proof.Glu.Value.lean ====
/- The array the gated linear unit leaves, over the extended reals, and its agreement with the reference. -/
module

public import proofs.«01_k».proof.Proof.Glu.Pay
public import proofs.«01_k».proof.Proof.Glu.RefVal
public import proofs.«01_k».proof.Proof.Gen.Kernel4Ideal.Value
public import proofs.«01_k».proof.Proof.Gen.Kernel4Ideal
public import proofs.«01_k».proof.Proof.Gen.Reference4Ideal
public import proofs.«01_k».proof.Proof.Gen.Reference4Ideal.Run
public import proofs.«01_k».proof.Defs
public import Idealize.ShloMosaic.Lib.StableHlo.ReadAt

@[expose] public section

set_option maxRecDepth 16384

noncomputable section

namespace Cert.Glu

open Cert.Kernel4Ideal Cert.Kernel4Ideal.Gen
open Idealize.ShloMosaic Idealize.ShloMosaic.TcCoe Idealize.SL.Sem
open scoped BigOperators

/-! ## The body's loads -/

/-- A batch row's position in a block. -/
abbrev spot (n : Fin 8) (r : Fin 256) : Fin 2048 := ⟨8 * r.val + n.val, by omega⟩

/-- A row of the block: its eight slabs side by side. -/
def blockLine (x0 : Vec Ideal S8x2048x128 .f32) (n : Fin 8) (r : Fin 256) (k : Fin 1024) : EReal :=
  x0 (ix3 ⟨k.val / 128, by omega⟩ (spot n r) ⟨k.val % 128, by omega⟩)

section
variable (arg1 : Memref sig .tc .vmem S8x2048x128 .f32) (harg1 : arg1.IsWhole) (x0 : Vec Ideal S8x2048x128 .f32)

/-- The strided load of slab `o` at a batch row. -/
abbrev slab (o n : ℕ) (h : ∀ a, S1x256x128.size a = 0 ∨ (![o, n, 0] : Fin 3 → Nat) a + (![1, 8, 1] : Fin 3 → Nat) a * (S1x256x128.size a - 1) < S8x2048x128.size a) :
    Vec Ideal S1x256x128 .f32 :=
  View.readAt (Elt Ideal) arg1.view (⟨![o, n, 0], S1x256x128.size, ![1, 8, 1], h⟩ : LoadRect S8x2048x128) (harg1.unread x0)

theorem slab_apply (o n : ℕ) (h) (n' : Fin 8) (hn : n'.val = n) (o' : Fin 8) (ho : o'.val = o) (r : Fin 256) (l : Fin 128) :
    slab arg1 harg1 x0 o n h (ix3 0 r l) = x0 (ix3 o' (spot n' r) l) := by
  refine (View.readAt_apply _ _ _).trans ((congrFun (harg1.read_unread x0) _).trans ?_)
  congr 1
  funext a; apply Fin.ext
  match a with
  | ⟨0, _⟩ => show o + 1 * 0 = o'.val; omega
  | ⟨1, _⟩ => show n + 8 * r.val = 8 * r.val + n'.val; omega
  | ⟨2, _⟩ => show 0 + 1 * l.val = l.val; omega

theorem cat_slab (n : ℕ) (h0 h1 h2 h3 h4 h5 h6 h7) (n' : Fin 8) (hn : n'.val = n) (r : Fin 256) :
    cat (slab arg1 harg1 x0 0 n h0) (slab arg1 harg1 x0 1 n h1) (slab arg1 harg1 x0 2 n h2) (slab arg1 harg1 x0 3 n h3)
      (slab arg1 harg1 x0 4 n h4) (slab arg1 harg1 x0 5 n h5) (slab arg1 harg1 x0 6 n h6) (slab arg1 harg1 x0 7 n h7) r = blockLine x0 n' r := by
  funext k
  have key : ∀ (o : ℕ) (h) (l : Fin 128), k.val = 128 * o + l.val → slab arg1 harg1 x0 o n h (ix3 0 r l) = blockLine x0 n' r k := by
    intro o h l e
    refine (slab_apply arg1 harg1 x0 o n h n' hn ⟨k.val / 128, by omega⟩ (by show k.val / 128 = o; omega) r l).trans ?_
    have el : l = ⟨k.val % 128, by omega⟩ := Fin.ext (by show l.val = k.val % 128; omega)
    exact congrArg (fun l => x0 (ix3 ⟨k.val / 128, by omega⟩ (spot n' r) l)) el
  unfold cat
  split
  · exact key 0 h0 _ (by show k.val = 128 * 0 + k.val; omega)
  split
  · exact key 1 h1 _ (by show k.val = 128 * 1 + (k.val - 128); omega)
  split
  · exact key 2 h2 _ (by show k.val = 128 * 2 + (k.val - 128 - 128); omega)
  split
  · exact key 3 h3 _ (by show k.val = 128 * 3 + (k.val - 128 - 128 - 128); omega)
  split
  · exact key 4 h4 _ (by show k.val = 128 * 4 + (k.val - 128 - 128 - 128 - 128); omega)
  split
  · exact key 5 h5 _ (by show k.val = 128 * 5 + (k.val - 128 - 128 - 128 - 128 - 128); omega)
  split
  · exact key 6 h6 _ (by show k.val = 128 * 6 + (k.val - 128 - 128 - 128 - 128 - 128 - 128); omega)
  exact key 7 h7 _ (by show k.val = 128 * 7 + (k.val - 128 - 128 - 128 - 128 - 128 - 128 - 128); omega)
end

theorem read_w (arg2 : Memref sig .tc .vmem S1024x1024 .bf16) (harg2 : arg2.IsWhole) (x1 : Vec Ideal S1024x1024 .bf16) (h) :
    View.readAt (Elt Ideal) arg2.view (Rect.unit (s := S1024x1024) ![0, 0] S1024x1024.size h).toLoadRect (harg2.unread x1) = x1 := by
  funext j
  refine (View.readAt_apply _ _ _).trans ((congrFun (harg2.read_unread x1) _).trans ?_)
  congr 1
  funext a; apply Fin.ext
  match a with
  | ⟨0, _⟩ => show 0 + 1 * (j 0).val = (j 0).val; omega
  | ⟨1, _⟩ => show 0 + 1 * (j 1).val = (j 1).val; omega

theorem read_b (arg3 : Memref sig .tc .vmem S1x1024 .f32) (harg3 : arg3.IsWhole) (x2 : Vec Ideal S1x1024 .f32) (h) :
    View.readAt (Elt Ideal) arg3.view (Rect.unit (s := S1x1024) ![0, 0] S1x1024.size h).toLoadRect (harg3.unread x2) = x2 := by
  funext j
  refine (View.readAt_apply _ _ _).trans ((congrFun (harg3.read_unread x2) _).trans ?_)
  congr 1
  funext a; apply Fin.ext
  match a with
  | ⟨0, _⟩ => show 0 + 1 * (j 0).val = (j 0).val; omega
  | ⟨1, _⟩ => show 0 + 1 * (j 1).val = (j 1).val; omega

/-! ## The body's eight stores -/

/-- The block the body leaves. -/
def block (x0 : Vec Ideal S8x2048x128 .f32) (x1 : Vec Ideal S1024x1024 .bf16) (x2 : Vec Ideal S1x1024 .f32) : S8x256x1024.Idx → EReal :=
  fun y => gate (blockLine x0 (y 0) (y 1)) x1 (x2 (ix2 0 (y 2))) (y 2)

/-- A store that holds a batch row's gates agrees with the block. -/
theorem piece_apply (x0 : Vec Ideal S8x2048x128 .f32) (x1 : Vec Ideal S1024x1024 .bf16) (x2 : Vec Ideal S1x1024 .f32)
    (n : ℕ) (h) (n' : Fin 8) (hn : n'.val = n) (p : Vec Ideal S1x256x1024 .bf16)
    (hp : ∀ (r : Fin 256) (d : Fin 1024), p (ix3 0 r d) = gate (blockLine x0 n' r) x1 (x2 (ix2 0 d)) d) (x : S1x256x1024.Idx) :
    p x = block x0 x1 x2 ((Rect.unit (s := S8x256x1024) ![n, 0, 0] S1x256x1024.size h).emb x) := by
  have ex : x = ix3 0 (x 1) (x 2) := by
    funext a; apply Fin.ext
    match a with
    | ⟨0, _⟩ => show (x 0).val = 0; have : (x 0).val < 1 := (x 0).isLt; omega
    | ⟨1, _⟩ => rfl
    | ⟨2, _⟩ => rfl
  have ee : (Rect.unit (s := S8x256x1024) ![n, 0, 0] S1x256x1024.size h).emb x = (ix3 n' (x 1) (x 2) : S8x256x1024.Idx) := by
    funext a; apply Fin.ext
    match a with
    | ⟨0, _⟩ => show n + 1 * (x 0).val = n'.val; have : (x 0).val < 1 := (x 0).isLt; omega
    | ⟨1, _⟩ => show 0 + 1 * (x 1).val = (x 1).val; omega
    | ⟨2, _⟩ => show 0 + 1 * (x 2).val = (x 2).val; omega
  rw [ee]
  exact (congrArg p ex).trans (hp _ _)

section
variable (c : Dev nD) (i : grid0.Coords) (arg1 : Memref sig .tc .vmem S8x2048x128 .f32) (harg1 : arg1.IsWhole)
  (arg2 : Memref sig .tc .vmem S1024x1024 .bf16) (harg2 : arg2.IsWhole) (arg3 : Memref sig .tc .vmem S1x1024 .f32) (harg3 : arg3.IsWhole)
  (arg4 : Memref sig .tc .vmem S8x256x1024 .bf16) (harg4 : arg4.IsWhole)
  (x0 : Vec Ideal S8x2048x128 .f32) (x1 : Vec Ideal S1024x1024 .bf16) (x2 : Vec Ideal S1x1024 .f32)

theorem pieces : ∀ p ∈ (kernelRun0_A (F := Ideal) c i arg1 harg1 arg2 harg2 arg3 harg3 arg4 harg4 x0 x1 x2).1,
    ∀ x : p.1.shape.Idx, p.2 x = block x0 x1 x2 (p.1.emb x) := by
  intro p hp
  unfold kernelRun0_A at hp
  simp only [List.mem_cons, List.not_mem_nil, or_false] at hp
  have gw : ∀ (n' : Fin 8) (r : Fin 256) (d : Fin 1024) (h) (h'),
      gate (blockLine x0 n' r) (View.readAt (Elt Ideal) arg2.view (Rect.unit (s := S1024x1024) ![0, 0] S1024x1024.size h).toLoadRect (harg2.unread x1))
        (View.readAt (Elt Ideal) arg3.view (Rect.unit (s := S1x1024) ![0, 0] S1x1024.size h').toLoadRect (harg3.unread x2) (ix2 0 d)) d
      = gate (blockLine x0 n' r) x1 (x2 (ix2 0 d)) d := by
    intro n' r d h h'
    rw [read_w arg2 harg2 x1 h, read_b arg3 harg3 x2 h']
  have fin : ∀ (n : ℕ) (h0 h1 h2 h3 h4 h5 h6 h7) (n' : Fin 8) (hn : n'.val = n) (r : Fin 256) (d : Fin 1024) (h) (h'),
      gate (cat (slab arg1 harg1 x0 0 n h0) (slab arg1 harg1 x0 1 n h1) (slab arg1 harg1 x0 2 n h2) (slab arg1 harg1 x0 3 n h3)
          (slab arg1 harg1 x0 4 n h4) (slab arg1 harg1 x0 5 n h5) (slab arg1 harg1 x0 6 n h6) (slab arg1 harg1 x0 7 n h7) r)
        (View.readAt (Elt Ideal) arg2.view (Rect.unit (s := S1024x1024) ![0, 0] S1024x1024.size h).toLoadRect (harg2.unread x1))
        (View.readAt (Elt Ideal) arg3.view (Rect.unit (s := S1x1024) ![0, 0] S1x1024.size h').toLoadRect (harg3.unread x2) (ix2 0 d)) d
      = gate (blockLine x0 n' r) x1 (x2 (ix2 0 d)) d := by
    intro n h0 h1 h2 h3 h4 h5 h6 h7 n' hn r d h h'
    rw [cat_slab arg1 harg1 x0 n h0 h1 h2 h3 h4 h5 h6 h7 n' hn r]
    exact gw n' r d h h'
  rcases hp with rfl | rfl | rfl | rfl | rfl | rfl | rfl | rfl
  · exact piece_apply x0 x1 x2 7 inb_S8x256x1024_S1x256x1024_7_0_0 7 rfl _ fun r d => (pay7_apply _ _ _ _ _ _ _ _ _ _ r d).trans (fin 7 _ _ _ _ _ _ _ _ 7 rfl r d _ _)
  · exact piece_apply x0 x1 x2 6 inb_S8x256x1024_S1x256x1024_6_0_0 6 rfl _ fun r d => (pay6_apply _ _ _ _ _ _ _ _ _ _ r d).trans (fin 6 _ _ _ _ _ _ _ _ 6 rfl r d _ _)
  · exact piece_apply x0 x1 x2 5 inb_S8x256x1024_S1x256x1024_5_0_0 5 rfl _ fun r d => (pay5_apply _ _ _ _ _ _ _ _ _ _ r d).trans (fin 5 _ _ _ _ _ _ _ _ 5 rfl r d _ _)
  · exact piece_apply x0 x1 x2 4 inb_S8x256x1024_S1x256x1024_4_0_0 4 rfl _ fun r d => (pay4_apply _ _ _ _ _ _ _ _ _ _ r d).trans (fin 4 _ _ _ _ _ _ _ _ 4 rfl r d _ _)
  · exact piece_apply x0 x1 x2 3 inb_S8x256x1024_S1x256x1024_3_0_0 3 rfl _ fun r d => (pay3_apply _ _ _ _ _ _ _ _ _ _ r d).trans (fin 3 _ _ _ _ _ _ _ _ 3 rfl r d _ _)
  · exact piece_apply x0 x1 x2 2 inb_S8x256x1024_S1x256x1024_2_0_0 2 rfl _ fun r d => (pay2_apply _ _ _ _ _ _ _ _ _ _ r d).trans (fin 2 _ _ _ _ _ _ _ _ 2 rfl r d _ _)
  · exact piece_apply x0 x1 x2 1 inb_S8x256x1024_S1x256x1024_1_0_0 1 rfl _ fun r d => (pay1_apply _ _ _ _ _ _ _ _ _ _ r d).trans (fin 1 _ _ _ _ _ _ _ _ 1 rfl r d _ _)
  · exact piece_apply x0 x1 x2 0 inb_S8x256x1024_S1x256x1024_0_0_0 0 rfl _ fun r d => (pay0_apply _ _ _ _ _ _ _ _ _ _ r d).trans (fin 0 _ _ _ _ _ _ _ _ 0 rfl r d _ _)

theorem out0_apply : out0_A_3 c i arg1 harg1 arg2 harg2 arg3 harg3 arg4 harg4 x0 x1 x2 = block x0 x1 x2 := by
  funext y
  unfold out0_A_3
  refine (View.read_writes_junk_apply_eq_canon _ y _).trans ?_
  exact View.canon_apply_of_pieces (Val := Elt Ideal) (e := .bf16) (block x0 x1 x2) _
    (pieces c i arg1 harg1 arg2 harg2 arg3 harg3 arg4 harg4 x0 x1 x2) y (cover0_A_3 c i arg1 harg1 arg2 harg2 arg3 harg3 arg4 harg4 x0 x1 x2 y)
end

/-! ## The arrays the region finds -/

variable (m : (ℓ : Loc nD τ sig) → Buf (Elt Ideal) ℓ) (ρ : Dev nD → PrngReg) (c : Dev nD)

theorem V_arg0 (j : S8x16384x128.Idx) : V m c main_arg0 j = m ((c : Thread nD τ).loc main_arg0) j := by
  after_reads_at
theorem V_v0 (j : S1024x1024.Idx) : V m c main_v0 j = m ((c : Thread nD τ).loc main_arg1) j := by
  after_reads_at
theorem V_v1 (f : Fin 1024) : V m c main_v1 (ix2 0 f : S1x1024.Idx) = m ((c : Thread nD τ).loc main_arg2) (ix1 f : S1024.Idx) := by
  after_reads_at

/-! ## The blocks -/

theorem lt_N (t : Fin cfg0.N) : t.val < 8 := lt_of_lt_of_eq t.isLt N_0
theorem coords0 (t : Fin cfg0.N) : (grid0.coords t 0).val = t.val := by
  have e : (grid0.coords t 0).val = t.val / 1 % 8 := Pipeline.Grid.coords_val t 0 (by decide) rfl
  have := lt_N t; rw [e]; omega

theorem toNat8 (k : Fin 8) : (BitVec.ofNat 32 k.val).toNat = k.val := by revert k; decide

theorem tr0 (i : grid0.Coords) : cc0_transform_0 i = ![0, (i 0).val, 0] := by
  funext a; fin_cases a
  · rfl
  · exact toNat8 (i 0)
  · rfl
theorem tr3 (i : grid0.Coords) : cc0_transform_3 i = ![0, (i 0).val, 0] := by
  funext a; fin_cases a
  · rfl
  · exact toNat8 (i 0)
  · rfl

variable (t : Fin cfg0.N)

theorem i0 (s : Fin 8) (q : Fin 2048) (l : Fin 128) :
    iblk m c 0 t (ix3 s q l : S8x2048x128.Idx) = m ((c : Thread nD τ).loc main_arg0) (ix3 s ⟨2048 * t.val + q.val, by have := lt_N t; omega⟩ l : S8x16384x128.Idx) := by
  refine Eq.trans ?_ (V_arg0 m c _)
  show V m c main_arg0 (((cfg0.win 0).blk t).view.emb (ix3 s q l)) = _
  congr 1
  funext a; apply Fin.ext
  match a with
  | ⟨0, _⟩ => show cc0_transform_0 (grid0.coords t) 0 * 8 + 1 * s.val = s.val; rw [tr0]; show 0 * 8 + 1 * s.val = _; omega
  | ⟨1, _⟩ => show cc0_transform_0 (grid0.coords t) 1 * 2048 + 1 * q.val = 2048 * t.val + q.val; rw [tr0]; show (grid0.coords t 0).val * 2048 + 1 * q.val = _; rw [coords0]; omega
  | ⟨2, _⟩ => show cc0_transform_0 (grid0.coords t) 2 * 128 + 1 * l.val = l.val; rw [tr0]; show 0 * 128 + 1 * l.val = _; omega

theorem i1 (k e : Fin 1024) : iblk m c 1 t (ix2 k e : S1024x1024.Idx) = m ((c : Thread nD τ).loc main_arg1) (ix2 k e : S1024x1024.Idx) := by
  refine Eq.trans ?_ (V_v0 m c _)
  show V m c main_v0 (((cfg0.win 1).blk t).view.emb (ix2 k e)) = _
  congr 1
  funext a; apply Fin.ext
  match a with
  | ⟨0, _⟩ => show 0 * 1024 + 1 * k.val = k.val; omega
  | ⟨1, _⟩ => show 0 * 1024 + 1 * e.val = e.val; omega

theorem i2 (d : Fin 1024) : iblk m c 2 t (ix2 0 d : S1x1024.Idx) = m ((c : Thread nD τ).loc main_arg2) (ix1 d : S1024.Idx) := by
  refine Eq.trans ?_ (V_v1 m c _)
  show V m c main_v1 (((cfg0.win 2).blk t).view.emb (ix2 0 d)) = _
  congr 1
  funext a; apply Fin.ext
  match a with
  | ⟨0, _⟩ => rfl
  | ⟨1, _⟩ => show 0 * 1024 + 1 * d.val = d.val; omega

/-! ## The final array -/

/-- The call's result, as an array. -/
def res : S8x2048x1024.Idx → EReal := fun i =>
  out (m ((c : Thread nD τ).loc main_arg0)) (m ((c : Thread nD τ).loc main_arg1)) (m ((c : Thread nD τ).loc main_arg2)) (i 0) (i 1) (i 2)

theorem block_val (n : Fin 8) (r : Fin 256) (d : Fin 1024) :
    block (iblk m c 0 t) (iblk m c 1 t) (iblk m c 2 t) (ix3 n r d) = res m c (ix3 n ⟨256 * t.val + r.val, by have := lt_N t; omega⟩ d) := by
  have el : ∀ k : Fin 1024, blockLine (iblk m c 0 t) n r k = line (m ((c : Thread nD τ).loc main_arg0)) n ⟨256 * t.val + r.val, by have := lt_N t; omega⟩ k := by
    intro k
    refine (i0 m c t _ _ _).trans ?_
    unfold line
    congr 1
    funext a; apply Fin.ext
    match a with
    | ⟨0, _⟩ => rfl
    | ⟨1, _⟩ => show 2048 * t.val + (8 * r.val + n.val) = (256 * t.val + r.val) * 8 + n.val; omega
    | ⟨2, _⟩ => rfl
  show gate (blockLine (iblk m c 0 t) n r) (iblk m c 1 t) (iblk m c 2 t (ix2 0 d)) d = gate _ _ _ d
  unfold gate
  refine congrArg₂ _ (el d) (congrArg _ (congrArg₂ _ (Finset.sum_congr rfl fun k _ => congrArg₂ _ (el k) (i1 m c t k d)) (i2 m c t d)))

theorem flushed : (dats m 0 c).flushed 3 t = ((cfg0.win 3).blk t).view.read (Elt Ideal) (res m c) := by
  rw [Value.flushed3_A, out0_apply]
  funext y
  have ey : (cfg0.win 3).xinj (grid0.coords t) y = (ix3 (⟨(y 0).val, (y 0).isLt⟩ : Fin 8) (⟨(y 1).val, (y 1).isLt⟩ : Fin 256) (⟨(y 2).val, (y 2).isLt⟩ : Fin 1024) : S8x256x1024.Idx) := by
    funext a; apply Fin.ext
    match a with
    | ⟨0, _⟩ => rfl
    | ⟨1, _⟩ => rfl
    | ⟨2, _⟩ => rfl
  show block (iblk m c 0 t) (iblk m c 1 t) (iblk m c 2 t) ((cfg0.win 3).xinj (grid0.coords t) y) = res m c (((cfg0.win 3).blk t).view.emb y)
  rw [ey, block_val]
  congr 1
  funext a; apply Fin.ext
  match a with
  | ⟨0, _⟩ => show (y 0).val = cc0_transform_3 (grid0.coords t) 0 * 8 + 1 * (y 0).val; rw [tr3]; show _ = 0 * 8 + 1 * (y 0).val; omega
  | ⟨1, _⟩ => show 256 * t.val + (y 1).val = cc0_transform_3 (grid0.coords t) 1 * 256 + 1 * (y 1).val; rw [tr3]; show _ = (grid0.coords t 0).val * 256 + 1 * (y 1).val; rw [coords0]; omega
  | ⟨2, _⟩ => show (y 2).val = cc0_transform_3 (grid0.coords t) 2 * 1024 + 1 * (y 2).val; rw [tr3]; show _ = 0 * 1024 + 1 * (y 2).val; omega

theorem mem_blk (i : S8x2048x1024.Idx) :
    i ∈ ((cfg0.win 3).blk t).view.set ↔ ∀ a : Fin 3, win0_3.index t a * S8x256x1024.size a ≤ (i a).val ∧ (i a).val < win0_3.index t a * S8x256x1024.size a + S8x256x1024.size a := by
  show i ∈ ((View.whole main_v2).slice (win0_3.rect t)).set ↔ _
  rw [View.set_slice_whole, Rect.mem_set_unit]
  exact Iff.rfl

theorem cover (i : S8x2048x1024.Idx) : ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 1024 := (i 2).isLt
  have ht : (i 1).val / 256 < cfg0.N := lt_of_lt_of_eq (by omega : _ < 8) N_0.symm
  refine ⟨⟨_, ht⟩, flush0_3 _, ?_⟩
  rw [mem_blk]
  have e : win0_3.index ⟨(i 1).val / 256, ht⟩ = ![0, (i 1).val / 256, 0] := by
    show cc0_transform_3 (grid0.coords ⟨_, ht⟩) = _
    rw [tr3, coords0]
  rw [e]
  intro a
  match a with
  | ⟨0, _⟩ => show 0 * 8 ≤ (i 0).val ∧ (i 0).val < 0 * 8 + 8; omega
  | ⟨1, _⟩ => show (i 1).val / 256 * 256 ≤ (i 1).val ∧ (i 1).val < (i 1).val / 256 * 256 + 256; omega
  | ⟨2, _⟩ => show 0 * 1024 ≤ (i 2).val ∧ (i 2).val < 0 * 1024 + 1024; omega

theorem final : (dats m 0 c).arrAt 3 cfg0.N = res m c :=
  (dats m 0 c).arrAt_eq_of_cover 3 _ (fun t _ => flushed m c t) cover

/-- The kernel's result. -/
theorem result : θ_run defs (onTc (τ := τ) (main (F := Ideal))) ⟨m, fun _ => 0, ρ⟩ (fun r => ∀ c : Dev nD,
      r.2.mem ((c.tc : Thread nD τ).loc main_v2) = res m c) :=
  (θ_run defs _ _).mono (fun _ h c => ((h c).1 3).trans (final m c)) (run_main m ρ)

/-- Kernel and reference end with equal results. -/
theorem algebraic : Cert.algebraic_Kernel4Ideal_Reference4Ideal (hKernel4Ideal := Cert.Kernel4Ideal.Gen.facts) (hReference4Ideal := Cert.Reference4Ideal.Gen.facts) := by
  intro m g m' g' _ hm
  refine ⟨fun c => res m c, (θ_run defs _ _).mono (fun _ h c => ⟨h.1 c, h.2 c⟩) (θ_run_and (result m g) (unchanged m g)), ?_⟩
  refine (θ_run Cert.Reference4Ideal.defs _ _).mono (fun _ h c => ⟨(h c).1.trans ?_, (h c).2⟩) (Cert.Reference4Ideal.Value.run m' g')
  obtain ⟨e0, e1, e2⟩ := hm c
  refine (Cert.Reference4Ideal.Read.val_main_v14_eq _ _ _).trans ?_
  funext i
  refine (Ref.out_apply _ _ _ i).trans ?_
  rw [e0, e1, e2]
  rfl

end Cert.Glu

end
-- ==== Proof.InProj.Strided.lean ====
/- What the input projection's body leaves at one grid point, and its strided stores read back: the recurrent part's block
   is written at every eighth row only, so what it holds afterwards is stated over what it held before. -/
module

public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.WholeRead
public import Idealize.ShloMosaic.Lib.VecWindow
public import Idealize.ShloMosaic.Lib.Pointwise
public import Idealize.ShloMosaic.Lib.ValueIdx
public import Idealize.ShloMosaic.Lib.Pipeline.FrameBody

@[expose] public section

set_option maxRecDepth 16384

noncomputable section

namespace Cert.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body leaves -/

/-- The rows of the weight block each product reads. -/
abbrev wu (w : Vec F S3664x2048 .bf16) : Vec F S1024x2048 .bf16 :=
  View.ld w (Rect.unit (s := S3664x2048) ![0, 0] S1024x2048.size inb_S3664x2048_S1024x2048_0_0)
abbrev wq (w : Vec F S3664x2048 .bf16) : Vec F S1024x2048 .bf16 :=
  View.ld w (Rect.unit (s := S3664x2048) ![1024, 0] S1024x2048.size inb_S3664x2048_S1024x2048_1024_0)
abbrev wk (w : Vec F S3664x2048 .bf16) : Vec F S256x2048 .bf16 :=
  View.ld w (Rect.unit (s := S3664x2048) ![2048, 0] S256x2048.size inb_S3664x2048_S256x2048_2048_0)
abbrev wv (w : Vec F S3664x2048 .bf16) : Vec F S256x2048 .bf16 :=
  View.ld w (Rect.unit (s := S3664x2048) ![2304, 0] S256x2048.size inb_S3664x2048_S256x2048_2304_0)
abbrev wqi (w : Vec F S3664x2048 .bf16) : Vec F S1024x2048 .bf16 :=
  View.ld w (Rect.unit (s := S3664x2048) ![2560, 0] S1024x2048.size inb_S3664x2048_S1024x2048_2560_0)
abbrev wki (w : Vec F S3664x2048 .bf16) : Vec F S80x2048 .bf16 :=
  View.ld w (Rect.unit (s := S3664x2048) ![3584, 0] S80x2048.size inb_S3664x2048_S80x2048_3584_0)

/-- The value stored at slab `s` of the recurrent part. -/
def slab (x : Vec F S1x256x2048 .f32) (w : Vec F S1024x2048 .bf16) (s : Fin 8) : Vec F S1x256x128 .f32 :=
  match s with
  | ⟨0, _⟩ => k0_pay7 x w
  | ⟨1, _⟩ => k0_pay8 x w
  | ⟨2, _⟩ => k0_pay9 x w
  | ⟨3, _⟩ => k0_pay10 x w
  | ⟨4, _⟩ => k0_pay11 x w
  | ⟨5, _⟩ => k0_pay13 (k0_pay12 x w)
  | ⟨6, _⟩ => k0_pay14 (k0_pay6 x w)
  | ⟨7, _⟩ => k0_pay15 (k0_pay6 x w)

/-- The recurrent part's value at an index of its block: row `8 r + b` of slab `s` holds row `r` of the slab. -/
def uG (x : Vec F S1x256x2048 .f32) (w : Vec F S1024x2048 .bf16) : Vec F S8x2048x128 .f32 :=
  fun y => slab x w (y 0) (ix3 0 ⟨(y 1).val / 8, by have : (y 1).val < 2048 := (y 1).isLt; omega⟩ (y 2))

/-- The block after the point: the rows that are `b` modulo 8 are written, the others keep what they held. -/
def uNew (i : grid0.Coords) (x : Vec F S1x256x2048 .f32) (w : Vec F S1024x2048 .bf16) (Y : Vec F S8x2048x128 .f32) : Vec F S8x2048x128 .f32 :=
  fun y => if (y 1).val % 8 = (i 1).val then uG x w y else Y y

def oq (x : Vec F S1x256x2048 .f32) (w : Vec F S3664x2048 .bf16) : Vec F S1x256x1024 .bf16 := k0_pay16 (k0_pay5 x) (wq w)
def ok (x : Vec F S1x256x2048 .f32) (w : Vec F S3664x2048 .bf16) : Vec F S1x256x256 .bf16 := k0_pay17 (k0_pay5 x) (wk w)
def ov (x : Vec F S1x256x2048 .f32) (w : Vec F S3664x2048 .bf16) : Vec F S1x1x256x256 .bf16 := k0_pay1 (k0_pay18 (k0_pay5 x) (wv w))
def oqi (x : Vec F S1x256x2048 .f32) (w : Vec F S3664x2048 .bf16) : Vec F S1x256x1024 .bf16 := k0_pay2 (k0_pay5 x) (wqi w)

/-- The lanes 0‥79 and 80‥127 of the last output's block. -/
abbrev rLo : Rect S1x256x128 := Rect.unit (s := S1x256x128) ![0, 0, 0] S1x256x80.size inb_S1x256x128_S1x256x80_0_0_0
abbrev rHi : Rect S1x256x128 := Rect.unit (s := S1x256x128) ![0, 0, 80] S1x256x48.size inb_S1x256x128_S1x256x48_0_0_80

def okw (x : Vec F S1x256x2048 .f32) (w : Vec F S3664x2048 .bf16) : Vec F S1x256x128 .f32 :=
  View.canon [⟨rHi, k0_pay4⟩, ⟨rLo, k0_pay3 (k0_pay5 x) (wki w)⟩]

/-! ## Whole-buffer loads and stores -/

theorem readAt_whole {s : Shape} {e : EltTy} {m : Memref sig .tc .vmem s e} (h : m.IsWhole) (X : s.Idx → Elt F e)
    {off : Fin s.rank → ℕ} (ho : off = fun _ => 0) (hb) :
    View.readAt (Elt F) m.view (Rect.unit (s := s) off s.size hb).toLoadRect (h.unread X) = X := by
  subst ho
  funext x
  rw [h.readAt_unread]
  congr 1
  funext a; apply Fin.ext; show 0 + 1 * (x a).val = (x a).val; omega

theorem congr2' {α₁ α₂ β : Type} (f : α₁ → α₂ → β) {a₁ b₁ a₂ b₂} (h₁ : a₁ = b₁) (h₂ : a₂ = b₂) : f a₁ a₂ = f b₁ b₂ := by
  subst h₁ h₂; rfl

theorem z3 : (![0, 0, 0] : Fin 3 → ℕ) = fun _ => 0 := funext fun a => by fin_cases a <;> rfl
theorem z4 : (![0, 0, 0, 0] : Fin 4 → ℕ) = fun _ => 0 := funext fun a => by fin_cases a <;> rfl

/-! ## The strided stores -/

abbrev ru0 (i : grid0.Coords) : Rect S8x2048x128 := ⟨(⟨k0_off1 i, S1x256x128.size, ![1, 8, 1], k0_off1_inb i⟩ : LoadRect S8x2048x128), spos_1_8_1⟩
abbrev ru1 (i : grid0.Coords) : Rect S8x2048x128 := ⟨(⟨k0_off2 i, S1x256x128.size, ![1, 8, 1], k0_off2_inb i⟩ : LoadRect S8x2048x128), spos_1_8_1⟩
abbrev ru2 (i : grid0.Coords) : Rect S8x2048x128 := ⟨(⟨k0_off3 i, S1x256x128.size, ![1, 8, 1], k0_off3_inb i⟩ : LoadRect S8x2048x128), spos_1_8_1⟩
abbrev ru3 (i : grid0.Coords) : Rect S8x2048x128 := ⟨(⟨k0_off4 i, S1x256x128.size, ![1, 8, 1], k0_off4_inb i⟩ : LoadRect S8x2048x128), spos_1_8_1⟩
abbrev ru4 (i : grid0.Coords) : Rect S8x2048x128 := ⟨(⟨k0_off5 i, S1x256x128.size, ![1, 8, 1], k0_off5_inb i⟩ : LoadRect S8x2048x128), spos_1_8_1⟩
abbrev ru5 (i : grid0.Coords) : Rect S8x2048x128 := ⟨(⟨k0_off6 i, S1x256x128.size, ![1, 8, 1], k0_off6_inb i⟩ : LoadRect S8x2048x128), spos_1_8_1⟩
abbrev ru6 (i : grid0.Coords) : Rect S8x2048x128 := ⟨(⟨k0_off7 i, S1x256x128.size, ![1, 8, 1], k0_off7_inb i⟩ : LoadRect S8x2048x128), spos_1_8_1⟩
abbrev ru7 (i : grid0.Coords) : Rect S8x2048x128 := ⟨(⟨k0_off8 i, S1x256x128.size, ![1, 8, 1], k0_off8_inb i⟩ : LoadRect S8x2048x128), spos_1_8_1⟩

/-- The eight stores, the last first. -/
def pieces (i : grid0.Coords) (x : Vec F S1x256x2048 .f32) (w : Vec F S1024x2048 .bf16) : List (View.Piece (Elt F) S8x2048x128 .f32) :=
  [⟨ru7 i, k0_pay15 (k0_pay6 x w)⟩, ⟨ru6 i, k0_pay14 (k0_pay6 x w)⟩, ⟨ru5 i, k0_pay13 (k0_pay12 x w)⟩, ⟨ru4 i, k0_pay11 x w⟩, ⟨ru3 i, k0_pay10 x w⟩, ⟨ru2 i, k0_pay9 x w⟩, ⟨ru1 i, k0_pay8 x w⟩, ⟨ru0 i, k0_pay7 x w⟩]

theorem emb0 (i : grid0.Coords) (z : S1x256x128.Idx) : ((ru0 i).emb z 0).val = 0 ∧ ((ru0 i).emb z 1).val = (i 1).val + 8 * (z 1).val ∧ ((ru0 i).emb z 2).val = (z 2).val := by
  have h0 : (z 0).val < 1 := (z 0).isLt
  have e := k0_off1_eq i
  have e0 : k0_off1 i 0 = 0 := by rw [e]; rfl
  have e1 : k0_off1 i 1 = (i 1).val := by rw [e]; rfl
  have e2 : k0_off1 i 2 = 0 := by rw [e]; rfl
  refine ⟨?_, ?_, ?_⟩
  · show k0_off1 i 0 + 1 * (z 0).val = 0; omega
  · show k0_off1 i 1 + 8 * (z 1).val = _; omega
  · show k0_off1 i 2 + 1 * (z 2).val = _; omega

theorem agree0 (i : grid0.Coords) (x : Vec F S1x256x2048 .f32) (w : Vec F S1024x2048 .bf16) (z : S1x256x128.Idx) : (k0_pay7 x w) z = uG x w ((ru0 i).emb z) := by
  obtain ⟨e0, e1, e2⟩ := emb0 i z
  have hb : (i 1).val < 8 := (i 1).isLt
  have h0 : (z 0).val < 1 := (z 0).isLt
  unfold uG
  rw [show (ru0 i).emb z 0 = (⟨0, by omega⟩ : Fin 8) from Fin.ext e0]
  show (k0_pay7 x w) z = (k0_pay7 x w) _
  congr 1
  funext a; apply Fin.ext
  match a with
  | ⟨0, _⟩ => show (z 0).val = 0; omega
  | ⟨1, _⟩ => show (z 1).val = ((ru0 i).emb z 1).val / 8; omega
  | ⟨2, _⟩ => exact e2.symm

theorem mem0 (i : grid0.Coords) (y : S8x2048x128.Idx) (h : (y 1).val % 8 = (i 1).val) (h0 : (y 0).val = 0) : y ∈ (ru0 i).set := by
  have h1 : (y 1).val < 2048 := (y 1).isLt
  have e : (ru0 i).emb (ix3 0 ⟨(y 1).val / 8, by omega⟩ (y 2)) = y := by
    obtain ⟨e0, e1, e2⟩ := emb0 i (ix3 0 ⟨(y 1).val / 8, by omega⟩ (y 2))
    funext a; apply Fin.ext
    match a with
    | ⟨0, _⟩ => exact e0.trans h0.symm
    | ⟨1, _⟩ =>
      refine e1.trans ?_
      show (i 1).val + 8 * ((y 1).val / 8) = (y 1).val
      omega
    | ⟨2, _⟩ => exact e2
  rw [← e]
  exact (ru0 i).idx_mem _

theorem not_mem0 (i : grid0.Coords) (y : S8x2048x128.Idx) (h : ¬(y 1).val % 8 = (i 1).val) : y ∉ (ru0 i).set := by
  intro hy
  have hb : (i 1).val < 8 := (i 1).isLt
  obtain ⟨z, rfl⟩ : ∃ z, (ru0 i).emb z = y := (ru0 i).exists_idx_of_mem hy
  have e1 := (emb0 i z).2.1
  omega

theorem emb1 (i : grid0.Coords) (z : S1x256x128.Idx) : ((ru1 i).emb z 0).val = 1 ∧ ((ru1 i).emb z 1).val = (i 1).val + 8 * (z 1).val ∧ ((ru1 i).emb z 2).val = (z 2).val := by
  have h0 : (z 0).val < 1 := (z 0).isLt
  have e := k0_off2_eq i
  have e0 : k0_off2 i 0 = 1 := by rw [e]; rfl
  have e1 : k0_off2 i 1 = (i 1).val := by rw [e]; rfl
  have e2 : k0_off2 i 2 = 0 := by rw [e]; rfl
  refine ⟨?_, ?_, ?_⟩
  · show k0_off2 i 0 + 1 * (z 0).val = 1; omega
  · show k0_off2 i 1 + 8 * (z 1).val = _; omega
  · show k0_off2 i 2 + 1 * (z 2).val = _; omega

theorem agree1 (i : grid0.Coords) (x : Vec F S1x256x2048 .f32) (w : Vec F S1024x2048 .bf16) (z : S1x256x128.Idx) : (k0_pay8 x w) z = uG x w ((ru1 i).emb z) := by
  obtain ⟨e0, e1, e2⟩ := emb1 i z
  have hb : (i 1).val < 8 := (i 1).isLt
  have h0 : (z 0).val < 1 := (z 0).isLt
  unfold uG
  rw [show (ru1 i).emb z 0 = (⟨1, by omega⟩ : Fin 8) from Fin.ext e0]
  show (k0_pay8 x w) z = (k0_pay8 x w) _
  congr 1
  funext a; apply Fin.ext
  match a with
  | ⟨0, _⟩ => show (z 0).val = 0; omega
  | ⟨1, _⟩ => show (z 1).val = ((ru1 i).emb z 1).val / 8; omega
  | ⟨2, _⟩ => exact e2.symm

theorem mem1 (i : grid0.Coords) (y : S8x2048x128.Idx) (h : (y 1).val % 8 = (i 1).val) (h0 : (y 0).val = 1) : y ∈ (ru1 i).set := by
  have h1 : (y 1).val < 2048 := (y 1).isLt
  have e : (ru1 i).emb (ix3 0 ⟨(y 1).val / 8, by omega⟩ (y 2)) = y := by
    obtain ⟨e0, e1, e2⟩ := emb1 i (ix3 0 ⟨(y 1).val / 8, by omega⟩ (y 2))
    funext a; apply Fin.ext
    match a with
    | ⟨0, _⟩ => exact e0.trans h0.symm
    | ⟨1, _⟩ =>
      refine e1.trans ?_
      show (i 1).val + 8 * ((y 1).val / 8) = (y 1).val
      omega
    | ⟨2, _⟩ => exact e2
  rw [← e]
  exact (ru1 i).idx_mem _

theorem not_mem1 (i : grid0.Coords) (y : S8x2048x128.Idx) (h : ¬(y 1).val % 8 = (i 1).val) : y ∉ (ru1 i).set := by
  intro hy
  have hb : (i 1).val < 8 := (i 1).isLt
  obtain ⟨z, rfl⟩ : ∃ z, (ru1 i).emb z = y := (ru1 i).exists_idx_of_mem hy
  have e1 := (emb1 i z).2.1
  omega

theorem emb2 (i : grid0.Coords) (z : S1x256x128.Idx) : ((ru2 i).emb z 0).val = 2 ∧ ((ru2 i).emb z 1).val = (i 1).val + 8 * (z 1).val ∧ ((ru2 i).emb z 2).val = (z 2).val := by
  have h0 : (z 0).val < 1 := (z 0).isLt
  have e := k0_off3_eq i
  have e0 : k0_off3 i 0 = 2 := by rw [e]; rfl
  have e1 : k0_off3 i 1 = (i 1).val := by rw [e]; rfl
  have e2 : k0_off3 i 2 = 0 := by rw [e]; rfl
  refine ⟨?_, ?_, ?_⟩
  · show k0_off3 i 0 + 1 * (z 0).val = 2; omega
  · show k0_off3 i 1 + 8 * (z 1).val = _; omega
  · show k0_off3 i 2 + 1 * (z 2).val = _; omega

theorem agree2 (i : grid0.Coords) (x : Vec F S1x256x2048 .f32) (w : Vec F S1024x2048 .bf16) (z : S1x256x128.Idx) : (k0_pay9 x w) z = uG x w ((ru2 i).emb z) := by
  obtain ⟨e0, e1, e2⟩ := emb2 i z
  have hb : (i 1).val < 8 := (i 1).isLt
  have h0 : (z 0).val < 1 := (z 0).isLt
  unfold uG
  rw [show (ru2 i).emb z 0 = (⟨2, by omega⟩ : Fin 8) from Fin.ext e0]
  show (k0_pay9 x w) z = (k0_pay9 x w) _
  congr 1
  funext a; apply Fin.ext
  match a with
  | ⟨0, _⟩ => show (z 0).val = 0; omega
  | ⟨1, _⟩ => show (z 1).val = ((ru2 i).emb z 1).val / 8; omega
  | ⟨2, _⟩ => exact e2.symm

theorem mem2 (i : grid0.Coords) (y : S8x2048x128.Idx) (h : (y 1).val % 8 = (i 1).val) (h0 : (y 0).val = 2) : y ∈ (ru2 i).set := by
  have h1 : (y 1).val < 2048 := (y 1).isLt
  have e : (ru2 i).emb (ix3 0 ⟨(y 1).val / 8, by omega⟩ (y 2)) = y := by
    obtain ⟨e0, e1, e2⟩ := emb2 i (ix3 0 ⟨(y 1).val / 8, by omega⟩ (y 2))
    funext a; apply Fin.ext
    match a with
    | ⟨0, _⟩ => exact e0.trans h0.symm
    | ⟨1, _⟩ =>
      refine e1.trans ?_
      show (i 1).val + 8 * ((y 1).val / 8) = (y 1).val
      omega
    | ⟨2, _⟩ => exact e2
  rw [← e]
  exact (ru2 i).idx_mem _

theorem not_mem2 (i : grid0.Coords) (y : S8x2048x128.Idx) (h : ¬(y 1).val % 8 = (i 1).val) : y ∉ (ru2 i).set := by
  intro hy
  have hb : (i 1).val < 8 := (i 1).isLt
  obtain ⟨z, rfl⟩ : ∃ z, (ru2 i).emb z = y := (ru2 i).exists_idx_of_mem hy
  have e1 := (emb2 i z).2.1
  omega

theorem emb3 (i : grid0.Coords) (z : S1x256x128.Idx) : ((ru3 i).emb z 0).val = 3 ∧ ((ru3 i).emb z 1).val = (i 1).val + 8 * (z 1).val ∧ ((ru3 i).emb z 2).val = (z 2).val := by
  have h0 : (z 0).val < 1 := (z 0).isLt
  have e := k0_off4_eq i
  have e0 : k0_off4 i 0 = 3 := by rw [e]; rfl
  have e1 : k0_off4 i 1 = (i 1).val := by rw [e]; rfl
  have e2 : k0_off4 i 2 = 0 := by rw [e]; rfl
  refine ⟨?_, ?_, ?_⟩
  · show k0_off4 i 0 + 1 * (z 0).val = 3; omega
  · show k0_off4 i 1 + 8 * (z 1).val = _; omega
  · show k0_off4 i 2 + 1 * (z 2).val = _; omega

theorem agree3 (i : grid0.Coords) (x : Vec F S1x256x2048 .f32) (w : Vec F S1024x2048 .bf16) (z : S1x256x128.Idx) : (k0_pay10 x w) z = uG x w ((ru3 i).emb z) := by
  obtain ⟨e0, e1, e2⟩ := emb3 i z
  have hb : (i 1).val < 8 := (i 1).isLt
  have h0 : (z 0).val < 1 := (z 0).isLt
  unfold uG
  rw [show (ru3 i).emb z 0 = (⟨3, by omega⟩ : Fin 8) from Fin.ext e0]
  show (k0_pay10 x w) z = (k0_pay10 x w) _
  congr 1
  funext a; apply Fin.ext
  match a with
  | ⟨0, _⟩ => show (z 0).val = 0; omega
  | ⟨1, _⟩ => show (z 1).val = ((ru3 i).emb z 1).val / 8; omega
  | ⟨2, _⟩ => exact e2.symm

theorem mem3 (i : grid0.Coords) (y : S8x2048x128.Idx) (h : (y 1).val % 8 = (i 1).val) (h0 : (y 0).val = 3) : y ∈ (ru3 i).set := by
  have h1 : (y 1).val < 2048 := (y 1).isLt
  have e : (ru3 i).emb (ix3 0 ⟨(y 1).val / 8, by omega⟩ (y 2)) = y := by
    obtain ⟨e0, e1, e2⟩ := emb3 i (ix3 0 ⟨(y 1).val / 8, by omega⟩ (y 2))
    funext a; apply Fin.ext
    match a with
    | ⟨0, _⟩ => exact e0.trans h0.symm
    | ⟨1, _⟩ =>
      refine e1.trans ?_
      show (i 1).val + 8 * ((y 1).val / 8) = (y 1).val
      omega
    | ⟨2, _⟩ => exact e2
  rw [← e]
  exact (ru3 i).idx_mem _

theorem not_mem3 (i : grid0.Coords) (y : S8x2048x128.Idx) (h : ¬(y 1).val % 8 = (i 1).val) : y ∉ (ru3 i).set := by
  intro hy
  have hb : (i 1).val < 8 := (i 1).isLt
  obtain ⟨z, rfl⟩ : ∃ z, (ru3 i).emb z = y := (ru3 i).exists_idx_of_mem hy
  have e1 := (emb3 i z).2.1
  omega

theorem emb4 (i : grid0.Coords) (z : S1x256x128.Idx) : ((ru4 i).emb z 0).val = 4 ∧ ((ru4 i).emb z 1).val = (i 1).val + 8 * (z 1).val ∧ ((ru4 i).emb z 2).val = (z 2).val := by
  have h0 : (z 0).val < 1 := (z 0).isLt
  have e := k0_off5_eq i
  have e0 : k0_off5 i 0 = 4 := by rw [e]; rfl
  have e1 : k0_off5 i 1 = (i 1).val := by rw [e]; rfl
  have e2 : k0_off5 i 2 = 0 := by rw [e]; rfl
  refine ⟨?_, ?_, ?_⟩
  · show k0_off5 i 0 + 1 * (z 0).val = 4; omega
  · show k0_off5 i 1 + 8 * (z 1).val = _; omega
  · show k0_off5 i 2 + 1 * (z 2).val = _; omega

theorem agree4 (i : grid0.Coords) (x : Vec F S1x256x2048 .f32) (w : Vec F S1024x2048 .bf16) (z : S1x256x128.Idx) : (k0_pay11 x w) z = uG x w ((ru4 i).emb z) := by
  obtain ⟨e0, e1, e2⟩ := emb4 i z
  have hb : (i 1).val < 8 := (i 1).isLt
  have h0 : (z 0).val < 1 := (z 0).isLt
  unfold uG
  rw [show (ru4 i).emb z 0 = (⟨4, by omega⟩ : Fin 8) from Fin.ext e0]
  show (k0_pay11 x w) z = (k0_pay11 x w) _
  congr 1
  funext a; apply Fin.ext
  match a with
  | ⟨0, _⟩ => show (z 0).val = 0; omega
  | ⟨1, _⟩ => show (z 1).val = ((ru4 i).emb z 1).val / 8; omega
  | ⟨2, _⟩ => exact e2.symm

theorem mem4 (i : grid0.Coords) (y : S8x2048x128.Idx) (h : (y 1).val % 8 = (i 1).val) (h0 : (y 0).val = 4) : y ∈ (ru4 i).set := by
  have h1 : (y 1).val < 2048 := (y 1).isLt
  have e : (ru4 i).emb (ix3 0 ⟨(y 1).val / 8, by omega⟩ (y 2)) = y := by
    obtain ⟨e0, e1, e2⟩ := emb4 i (ix3 0 ⟨(y 1).val / 8, by omega⟩ (y 2))
    funext a; apply Fin.ext
    match a with
    | ⟨0, _⟩ => exact e0.trans h0.symm
    | ⟨1, _⟩ =>
      refine e1.trans ?_
      show (i 1).val + 8 * ((y 1).val / 8) = (y 1).val
      omega
    | ⟨2, _⟩ => exact e2
  rw [← e]
  exact (ru4 i).idx_mem _

theorem not_mem4 (i : grid0.Coords) (y : S8x2048x128.Idx) (h : ¬(y 1).val % 8 = (i 1).val) : y ∉ (ru4 i).set := by
  intro hy
  have hb : (i 1).val < 8 := (i 1).isLt
  obtain ⟨z, rfl⟩ : ∃ z, (ru4 i).emb z = y := (ru4 i).exists_idx_of_mem hy
  have e1 := (emb4 i z).2.1
  omega

theorem emb5 (i : grid0.Coords) (z : S1x256x128.Idx) : ((ru5 i).emb z 0).val = 5 ∧ ((ru5 i).emb z 1).val = (i 1).val + 8 * (z 1).val ∧ ((ru5 i).emb z 2).val = (z 2).val := by
  have h0 : (z 0).val < 1 := (z 0).isLt
  have e := k0_off6_eq i
  have e0 : k0_off6 i 0 = 5 := by rw [e]; rfl
  have e1 : k0_off6 i 1 = (i 1).val := by rw [e]; rfl
  have e2 : k0_off6 i 2 = 0 := by rw [e]; rfl
  refine ⟨?_, ?_, ?_⟩
  · show k0_off6 i 0 + 1 * (z 0).val = 5; omega
  · show k0_off6 i 1 + 8 * (z 1).val = _; omega
  · show k0_off6 i 2 + 1 * (z 2).val = _; omega

theorem agree5 (i : grid0.Coords) (x : Vec F S1x256x2048 .f32) (w : Vec F S1024x2048 .bf16) (z : S1x256x128.Idx) : (k0_pay13 (k0_pay12 x w)) z = uG x w ((ru5 i).emb z) := by
  obtain ⟨e0, e1, e2⟩ := emb5 i z
  have hb : (i 1).val < 8 := (i 1).isLt
  have h0 : (z 0).val < 1 := (z 0).isLt
  unfold uG
  rw [show (ru5 i).emb z 0 = (⟨5, by omega⟩ : Fin 8) from Fin.ext e0]
  show (k0_pay13 (k0_pay12 x w)) z = (k0_pay13 (k0_pay12 x w)) _
  congr 1
  funext a; apply Fin.ext
  match a with
  | ⟨0, _⟩ => show (z 0).val = 0; omega
  | ⟨1, _⟩ => show (z 1).val = ((ru5 i).emb z 1).val / 8; omega
  | ⟨2, _⟩ => exact e2.symm

theorem mem5 (i : grid0.Coords) (y : S8x2048x128.Idx) (h : (y 1).val % 8 = (i 1).val) (h0 : (y 0).val = 5) : y ∈ (ru5 i).set := by
  have h1 : (y 1).val < 2048 := (y 1).isLt
  have e : (ru5 i).emb (ix3 0 ⟨(y 1).val / 8, by omega⟩ (y 2)) = y := by
    obtain ⟨e0, e1, e2⟩ := emb5 i (ix3 0 ⟨(y 1).val / 8, by omega⟩ (y 2))
    funext a; apply Fin.ext
    match a with
    | ⟨0, _⟩ => exact e0.trans h0.symm
    | ⟨1, _⟩ =>
      refine e1.trans ?_
      show (i 1).val + 8 * ((y 1).val / 8) = (y 1).val
      omega
    | ⟨2, _⟩ => exact e2
  rw [← e]
  exact (ru5 i).idx_mem _

theorem not_mem5 (i : grid0.Coords) (y : S8x2048x128.Idx) (h : ¬(y 1).val % 8 = (i 1).val) : y ∉ (ru5 i).set := by
  intro hy
  have hb : (i 1).val < 8 := (i 1).isLt
  obtain ⟨z, rfl⟩ : ∃ z, (ru5 i).emb z = y := (ru5 i).exists_idx_of_mem hy
  have e1 := (emb5 i z).2.1
  omega

theorem emb6 (i : grid0.Coords) (z : S1x256x128.Idx) : ((ru6 i).emb z 0).val = 6 ∧ ((ru6 i).emb z 1).val = (i 1).val + 8 * (z 1).val ∧ ((ru6 i).emb z 2).val = (z 2).val := by
  have h0 : (z 0).val < 1 := (z 0).isLt
  have e := k0_off7_eq i
  have e0 : k0_off7 i 0 = 6 := by rw [e]; rfl
  have e1 : k0_off7 i 1 = (i 1).val := by rw [e]; rfl
  have e2 : k0_off7 i 2 = 0 := by rw [e]; rfl
  refine ⟨?_, ?_, ?_⟩
  · show k0_off7 i 0 + 1 * (z 0).val = 6; omega
  · show k0_off7 i 1 + 8 * (z 1).val = _; omega
  · show k0_off7 i 2 + 1 * (z 2).val = _; omega

theorem agree6 (i : grid0.Coords) (x : Vec F S1x256x2048 .f32) (w : Vec F S1024x2048 .bf16) (z : S1x256x128.Idx) : (k0_pay14 (k0_pay6 x w)) z = uG x w ((ru6 i).emb z) := by
  obtain ⟨e0, e1, e2⟩ := emb6 i z
  have hb : (i 1).val < 8 := (i 1).isLt
  have h0 : (z 0).val < 1 := (z 0).isLt
  unfold uG
  rw [show (ru6 i).emb z 0 = (⟨6, by omega⟩ : Fin 8) from Fin.ext e0]
  show (k0_pay14 (k0_pay6 x w)) z = (k0_pay14 (k0_pay6 x w)) _
  congr 1
  funext a; apply Fin.ext
  match a with
  | ⟨0, _⟩ => show (z 0).val = 0; omega
  | ⟨1, _⟩ => show (z 1).val = ((ru6 i).emb z 1).val / 8; omega
  | ⟨2, _⟩ => exact e2.symm

theorem mem6 (i : grid0.Coords) (y : S8x2048x128.Idx) (h : (y 1).val % 8 = (i 1).val) (h0 : (y 0).val = 6) : y ∈ (ru6 i).set := by
  have h1 : (y 1).val < 2048 := (y 1).isLt
  have e : (ru6 i).emb (ix3 0 ⟨(y 1).val / 8, by omega⟩ (y 2)) = y := by
    obtain ⟨e0, e1, e2⟩ := emb6 i (ix3 0 ⟨(y 1).val / 8, by omega⟩ (y 2))
    funext a; apply Fin.ext
    match a with
    | ⟨0, _⟩ => exact e0.trans h0.symm
    | ⟨1, _⟩ =>
      refine e1.trans ?_
      show (i 1).val + 8 * ((y 1).val / 8) = (y 1).val
      omega
    | ⟨2, _⟩ => exact e2
  rw [← e]
  exact (ru6 i).idx_mem _

theorem not_mem6 (i : grid0.Coords) (y : S8x2048x128.Idx) (h : ¬(y 1).val % 8 = (i 1).val) : y ∉ (ru6 i).set := by
  intro hy
  have hb : (i 1).val < 8 := (i 1).isLt
  obtain ⟨z, rfl⟩ : ∃ z, (ru6 i).emb z = y := (ru6 i).exists_idx_of_mem hy
  have e1 := (emb6 i z).2.1
  omega

theorem emb7 (i : grid0.Coords) (z : S1x256x128.Idx) : ((ru7 i).emb z 0).val = 7 ∧ ((ru7 i).emb z 1).val = (i 1).val + 8 * (z 1).val ∧ ((ru7 i).emb z 2).val = (z 2).val := by
  have h0 : (z 0).val < 1 := (z 0).isLt
  have e := k0_off8_eq i
  have e0 : k0_off8 i 0 = 7 := by rw [e]; rfl
  have e1 : k0_off8 i 1 = (i 1).val := by rw [e]; rfl
  have e2 : k0_off8 i 2 = 0 := by rw [e]; rfl
  refine ⟨?_, ?_, ?_⟩
  · show k0_off8 i 0 + 1 * (z 0).val = 7; omega
  · show k0_off8 i 1 + 8 * (z 1).val = _; omega
  · show k0_off8 i 2 + 1 * (z 2).val = _; omega

theorem agree7 (i : grid0.Coords) (x : Vec F S1x256x2048 .f32) (w : Vec F S1024x2048 .bf16) (z : S1x256x128.Idx) : (k0_pay15 (k0_pay6 x w)) z = uG x w ((ru7 i).emb z) := by
  obtain ⟨e0, e1, e2⟩ := emb7 i z
  have hb : (i 1).val < 8 := (i 1).isLt
  have h0 : (z 0).val < 1 := (z 0).isLt
  unfold uG
  rw [show (ru7 i).emb z 0 = (⟨7, by omega⟩ : Fin 8) from Fin.ext e0]
  show (k0_pay15 (k0_pay6 x w)) z = (k0_pay15 (k0_pay6 x w)) _
  congr 1
  funext a; apply Fin.ext
  match a with
  | ⟨0, _⟩ => show (z 0).val = 0; omega
  | ⟨1, _⟩ => show (z 1).val = ((ru7 i).emb z 1).val / 8; omega
  | ⟨2, _⟩ => exact e2.symm

theorem mem7 (i : grid0.Coords) (y : S8x2048x128.Idx) (h : (y 1).val % 8 = (i 1).val) (h0 : (y 0).val = 7) : y ∈ (ru7 i).set := by
  have h1 : (y 1).val < 2048 := (y 1).isLt
  have e : (ru7 i).emb (ix3 0 ⟨(y 1).val / 8, by omega⟩ (y 2)) = y := by
    obtain ⟨e0, e1, e2⟩ := emb7 i (ix3 0 ⟨(y 1).val / 8, by omega⟩ (y 2))
    funext a; apply Fin.ext
    match a with
    | ⟨0, _⟩ => exact e0.trans h0.symm
    | ⟨1, _⟩ =>
      refine e1.trans ?_
      show (i 1).val + 8 * ((y 1).val / 8) = (y 1).val
      omega
    | ⟨2, _⟩ => exact e2
  rw [← e]
  exact (ru7 i).idx_mem _

theorem not_mem7 (i : grid0.Coords) (y : S8x2048x128.Idx) (h : ¬(y 1).val % 8 = (i 1).val) : y ∉ (ru7 i).set := by
  intro hy
  have hb : (i 1).val < 8 := (i 1).isLt
  obtain ⟨z, rfl⟩ : ∃ z, (ru7 i).emb z = y := (ru7 i).exists_idx_of_mem hy
  have e1 := (emb7 i z).2.1
  omega

theorem pieces_agree (i : grid0.Coords) (x : Vec F S1x256x2048 .f32) (w : Vec F S1024x2048 .bf16) :
    ∀ p ∈ pieces i x w, ∀ z : p.1.shape.Idx, p.2 z = uG x w (p.1.emb z) := by
  unfold pieces
  simp only [List.mem_cons, List.not_mem_nil, or_false, forall_eq_or_imp, forall_eq]
  exact ⟨agree7 i x w, agree6 i x w, agree5 i x w, agree4 i x w, agree3 i x w, agree2 i x w, agree1 i x w, agree0 i x w⟩

theorem mem_piece (i : grid0.Coords) (x : Vec F S1x256x2048 .f32) (w : Vec F S1024x2048 .bf16) (y : S8x2048x128.Idx)
    (h : (y 1).val % 8 = (i 1).val) : ∃ p ∈ pieces i x w, y ∈ p.1.set := by
  have h0 : (y 0).val < 8 := (y 0).isLt
  have h1 : (y 1).val < 2048 := (y 1).isLt
  have h2 : (y 2).val < 128 := (y 2).isLt
  unfold pieces
  simp only [List.mem_cons, List.not_mem_nil, or_false, exists_eq_or_imp, exists_eq_left]
  rcases (show (y 0).val = 0 ∨ (y 0).val = 1 ∨ (y 0).val = 2 ∨ (y 0).val = 3 ∨ (y 0).val = 4 ∨ (y 0).val = 5 ∨ (y 0).val = 6 ∨ (y 0).val = 7 by omega) with e | e | e | e | e | e | e | e
  · exact Or.inr (Or.inr (Or.inr (Or.inr (Or.inr (Or.inr (Or.inr (mem0 i y h e)))))))
  · exact Or.inr (Or.inr (Or.inr (Or.inr (Or.inr (Or.inr (Or.inl (mem1 i y h e)))))))
  · exact Or.inr (Or.inr (Or.inr (Or.inr (Or.inr (Or.inl (mem2 i y h e))))))
  · exact Or.inr (Or.inr (Or.inr (Or.inr (Or.inl (mem3 i y h e)))))
  · exact Or.inr (Or.inr (Or.inr (Or.inl (mem4 i y h e))))
  · exact Or.inr (Or.inr (Or.inl (mem5 i y h e)))
  · exact Or.inr (Or.inl (mem6 i y h e))
  · exact Or.inl (mem7 i y h e)

theorem not_mem_piece (i : grid0.Coords) (x : Vec F S1x256x2048 .f32) (w : Vec F S1024x2048 .bf16) (y : S8x2048x128.Idx)
    (h : ¬(y 1).val % 8 = (i 1).val) : ∀ p ∈ pieces i x w, y ∉ p.1.set := by
  have hb : (i 1).val < 8 := (i 1).isLt
  unfold pieces
  simp only [List.mem_cons, List.not_mem_nil, or_false, forall_eq_or_imp, forall_eq]
  exact ⟨not_mem7 i y h, not_mem6 i y h, not_mem5 i y h, not_mem4 i y h, not_mem3 i y h, not_mem2 i y h, not_mem1 i y h, not_mem0 i y h⟩

theorem read_u {v : View sig .tc .vmem S8x2048x128 .f32} (f : v.ty.Contents (Elt F)) (i : grid0.Coords) (x : Vec F S1x256x2048 .f32)
    (w : Vec F S1024x2048 .bf16) : v.read (Elt F) (v.writes (Elt F) f (pieces i x w)) = uNew i x w (v.read (Elt F) f) := by
  funext y
  unfold uNew
  by_cases h : (y 1).val % 8 = (i 1).val
  · rw [if_pos h]
    exact View.read_writes_apply_of_pieces v f (uG x w) _ (pieces_agree i x w) y (mem_piece i x w y h)
  · rw [if_neg h]
    exact View.read_writes_apply_of_forall_not_mem v f y _ (not_mem_piece i x w y h)

end Cert.InProj

end
-- ==== Proof.InProj.Body.lean ====
/- The input projection's body at one grid point, as one triple over whole staging memrefs. -/
module

public import proofs.«01_k».proof.Proof.InProj.Strided

@[expose] public section

set_option maxRecDepth 16384

noncomputable section

namespace Cert.InProj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The triple -/

theorem kw_cover (w1 : Vec F S1x256x80 .f32) (w2 : Vec F S1x256x48 .f32) :
    ∀ y : S1x256x128.Idx, ∃ p ∈ ([⟨rHi, w2⟩, ⟨rLo, w1⟩] : List (View.Piece (Elt F) S1x256x128 .f32)), y ∈ p.1.set :=
  fun y => View.cover_of_tiledBy ([⟨rHi, w2⟩, ⟨rLo, w1⟩] : List (View.Piece (Elt F) S1x256x128 .f32)) ![1, 256, 16] (by sl_kernel_rfl) y

variable (c : Dev nD) (i : grid0.Coords)
  (arg2 : Memref sig .tc .vmem S1x256x2048 .f32) (harg2 : arg2.IsWhole) (arg3 : Memref sig .tc .vmem S3664x2048 .bf16) (harg3 : arg3.IsWhole)
  (arg4 : Memref sig .tc .vmem S8x2048x128 .f32) (harg4 : arg4.IsWhole) (arg5 : Memref sig .tc .vmem S1x256x1024 .bf16) (harg5 : arg5.IsWhole)
  (arg6 : Memref sig .tc .vmem S1x256x256 .bf16) (harg6 : arg6.IsWhole) (arg7 : Memref sig .tc .vmem S1x1x256x256 .bf16) (harg7 : arg7.IsWhole)
  (arg8 : Memref sig .tc .vmem S1x256x1024 .bf16) (harg8 : arg8.IsWhole) (arg9 : Memref sig .tc .vmem S1x256x128 .f32) (harg9 : arg9.IsWhole)
  (x : Vec F S1x256x2048 .f32) (w : Vec F S3664x2048 .bf16) (Y : Vec F S8x2048x128 .f32)

/-- A whole memref owned at contents `X` holds, raw, the contents that read `X`; and back. -/
theorem owns_unread {s : Shape} {e : EltTy} {m : Memref sig .tc .vmem s e} (h : m.IsWhole) (X : s.Idx → Elt F e) :
    (m.view.loc (c : Thread nD τ) ↦[m.view.set]{fullShare} h.unread X : sProp 𝕄) ⊢ iprop(∃ f, ⌜View.read (Elt F) m.view f = X⌝ ∗ m.view.loc (c : Thread nD τ) ↦[m.view.set]{fullShare} f) := by
  iintro H
  iexists _; isplitr
  · ipureintro; exact h.read_unread _
  iexact H

set_option maxHeartbeats 3200000 in
theorem run (E : Set ℕ) (K : PUnit → sProp 𝕄) :
    iprop(owns (c : Thread nD τ) arg2 fullShare x ∗ owns (c : Thread nD τ) arg3 fullShare w ∗ owns (c : Thread nD τ) arg4 fullShare Y
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg2 fullShare x ∗ owns (c : Thread nD τ) arg3 fullShare w ∗ owns (c : Thread nD τ) arg4 fullShare (uNew i x (wu w) Y)
            ∗ owns (c : Thread nD τ) arg5 fullShare (oq x w) ∗ owns (c : Thread nD τ) arg6 fullShare (ok x w) ∗ owns (c : Thread nD τ) arg7 fullShare (ov x w)
            ∗ owns (c : Thread nD τ) arg8 fullShare (oqi x w) ∗ owns (c : Thread nD τ) arg9 fullShare (okw x w)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9) K := by
  simp only [cc0_in_proj_eq_skeleton]; unfold cc0_in_proj_skel
  simp only [k0_part1_eq_skeleton, k0_part2_eq_skeleton]
  unfold owns
  iintro ⟨⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, Hk⟩
  obtain rfl := harg2.eq_unread hf2; obtain rfl := harg3.eq_unread hf3; obtain rfl := harg4.eq_unread hf4
  have ex := readAt_whole harg2 x z3 inb_S1x256x2048_S1x256x2048_0_0_0
  have eu : View.readAt (Elt F) arg3.view (Rect.unit (s := S3664x2048) ![0, 0] S1024x2048.size inb_S3664x2048_S1024x2048_0_0).toLoadRect (harg3.unread w) = wu w :=
    funext fun z => harg3.readAt_unread w _ z
  have eki : View.readAt (Elt F) arg3.view (Rect.unit (s := S3664x2048) ![3584, 0] S80x2048.size inb_S3664x2048_S80x2048_3584_0).toLoadRect (harg3.unread w) = wki w :=
    funext fun z => harg3.readAt_unread w _ z
  sl_exec
  sl_step
  iapply Hk
  isplitl [H2]
  · iapply owns_unread; iexact H2
  isplitl [H3]
  · iapply owns_unread; iexact H3
  isplitl [H4]
  · iexists _; isplitr; swap
    · iexact H4
    ipureintro
    refine Eq.trans ?_ ((read_u (v := arg4.view) (harg4.unread Y) i x (wu w)).trans (congrArg (uNew i x (wu w)) (harg4.read_unread Y)))
    rfl
  isplitl [H5]
  · iexists _; isplitr; swap
    · iexact H5
    ipureintro
    refine (View.read_writes_full _ _ _ _ _).trans ?_
    exact congr2' k0_pay16 rfl (funext fun z => harg3.readAt_unread w _ z)
  isplitl [H6]
  · iexists _; isplitr; swap
    · iexact H6
    ipureintro
    refine (View.read_writes_full _ _ _ _ _).trans ?_
    exact congr2' k0_pay17 rfl (funext fun z => harg3.readAt_unread w _ z)
  isplitl [H7]
  · iexists _; isplitr; swap
    · iexact H7
    ipureintro
    refine (View.read_writes_full _ _ _ _ _).trans ?_
    exact congrArg k0_pay1 (congr2' k0_pay18 rfl (funext fun z => harg3.readAt_unread w _ z))
  isplitl [H8]
  · iexists _; isplitr; swap
    · iexact H8
    ipureintro
    refine (View.read_writes_full _ _ _ _ _).trans ?_
    exact congr2' k0_pay2 rfl (funext fun z => harg3.readAt_unread w _ z)
  iexists _; isplitr; swap
  · iexact H9
  ipureintro
  refine (View.read_writes_eq_canon _ _ _ (kw_cover _ _)).trans ?_
  rfl

end Cert.InProj

end
-- ==== Proof.InProj.Run.lean ====
/- The input projection's run: what each output block may hold after each grid point, the body's obligation at every
   point, and the launch. The recurrent part's block is filled over eight points, one residue of its rows at each, so it
   is held to a relation: after a point, the residues written so far hold their rows' values. -/
module

public import proofs.«01_k».proof.Proof.InProj.Body
public import proofs.«01_k».proof.Proof.Gen.Kernel5Ideal.Launch
public import Idealize.ShloMosaic.Lib.Claim
public import Idealize.ShloMosaic.Lib.Pipeline.DatRel
public import Idealize.ShloMosaic.Lib.Pipeline.ArrRel

@[expose] public section

set_option maxRecDepth 16384

noncomputable section

namespace Cert.InProj

open Cert.Kernel5Ideal Cert.Kernel5Ideal.Gen
open Idealize.ShloMosaic Idealize.ShloMosaic.TcCoe Idealize.ShloMosaic.Tactic
open Idealize.ShloMosaic.Rounds
open Idealize.ShloMosaic.Pipeline (Dat RDat Cfg Window cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks at point `t`. -/
abbrev b0 (c : Dev nD) (t : Fin cfg0.N) : Vec F S1x256x2048 .f32 := iblk m c 0 t
abbrev b1 (c : Dev nD) (t : Fin cfg0.N) : Vec F S3664x2048 .bf16 := iblk m c 1 t

/-- Of the recurrent part's block after point `t`: the rows each point of this block has written so far hold that point's values. -/
def URel (c : Dev nD) (t : Fin cfg0.N) (X : Vec F S8x2048x128 .f32) : Prop :=
  ∀ t' : Fin cfg0.N, t'.val / 8 = t.val / 8 → t'.val ≤ t.val → ∀ y : S8x2048x128.Idx, (y 1).val % 8 = t'.val % 8 →
    X y = uG (b0 m c t') (wu (b1 m c t')) y

def dats (_ : Fin 1) (c : Dev nD) : Dat τ (Elt F) Unit ℕ (UR sig nD τ) ℕ cfg0 c where
  A w := V m c (Pipeline.arrRef spec0 w)
  after w t := match w with
    | ⟨0, _⟩ => b0 m c t
    | ⟨1, _⟩ => b1 m c t
    | ⟨2, _⟩ => uG (b0 m c t) (wu (b1 m c t))
    | ⟨3, _⟩ => oq (b0 m c t) (b1 m c t)
    | ⟨4, _⟩ => ok (b0 m c t) (b1 m c t)
    | ⟨5, _⟩ => ov (b0 m c t) (b1 m c t)
    | ⟨6, _⟩ => oqi (b0 m c t) (b1 m c t)
    | ⟨7, _⟩ => okw (b0 m c t) (b1 m c t)
  Φ _ := Pipeline.ΦA spec0 c
  q w := fullShare
  owed _ := 0

/-- The window held to a relation: the recurrent part's. -/
def fgt (w : Fin cfg0.W) : Bool := w.val == 2

def Rl (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun X => URel m c t X
  | ⟨3, _⟩ => fun _ => True
  | ⟨4, _⟩ => fun _ => True
  | ⟨5, _⟩ => fun _ => True
  | ⟨6, _⟩ => fun _ => True
  | ⟨7, _⟩ => fun _ => True

theorem A_eq (c : Dev nD) (w : Fin cfg0.W) : (dats m 0 c).A w = V m c (Pipeline.arrRef spec0 w) := by dsimp only [dats]

/-- The run's data: exact, but for the recurrent part's block. -/
def rdat (c : Dev nD) : RDat τ (Elt F) Unit ℕ (UR sig nD τ) ℕ cfg0 c := (dats m 0 c).toRRel fgt (Rl m c)

section
variable (c : Dev nD) (t : Fin cfg0.N)
theorem after_0 : (dats m 0 c).after 0 t = b0 m c t := by dsimp only [dats]
theorem after_1 : (dats m 0 c).after 1 t = b1 m c t := by dsimp only [dats]
theorem after_3 : (dats m 0 c).after 3 t = oq (b0 m c t) (b1 m c t) := by dsimp only [dats]
theorem after_4 : (dats m 0 c).after 4 t = ok (b0 m c t) (b1 m c t) := by dsimp only [dats]
theorem after_5 : (dats m 0 c).after 5 t = ov (b0 m c t) (b1 m c t) := by dsimp only [dats]
theorem after_6 : (dats m 0 c).after 6 t = oqi (b0 m c t) (b1 m c t) := by dsimp only [dats]
theorem after_7 : (dats m 0 c).after 7 t = okw (b0 m c t) (b1 m c t) := by dsimp only [dats]
theorem Rl_2 : Rl m c 2 t = URel m c t := rfl
theorem before_0 (d) : (dats m 0 c).before 0 t d = b0 m c t := before0_0_of m (dats m 0 c) (A_eq m c 0) (after_0 m c) t d
theorem before_1 (d) : (dats m 0 c).before 1 t d = b1 m c t := before0_1_of m (dats m 0 c) (A_eq m c 1) (after_1 m c) t d

/-- The inner grid coordinate is the point's place among the eight. -/
theorem coords1 : (grid0.coords t 1).val = t.val % 8 := by
  have e : (grid0.coords t 1).val = t.val / 1 % 8 := Pipeline.Grid.coords_val t 1 (by decide) rfl
  rw [e, Nat.div_one]

/-- One point more: the residue it writes holds its values, the earlier ones keep theirs. -/
theorem urel_step (Y : Vec F S8x2048x128 .f32) (hY : (rdat m c).Finds 2 t Y) :
    URel m c t (uNew (grid0.coords t) (b0 m c t) (wu (b1 m c t)) Y) := by
  intro t' hd hle y hy
  unfold uNew
  rw [coords1]
  by_cases e : t' = t
  · subst e
    rw [if_pos hy]
  · have hlt : t'.val < t.val := lt_of_le_of_ne hle fun h => e (Fin.ext h)
    rw [if_neg (by omega)]
    have ht : t.val ≠ 0 := by omega
    rcases ((rdat m c).finds_of_pos (w := 2) (t := t) rfl ht Y).mp hY with hf | hl
    · have := (flush0_2 _).mp hf
      have h7 : (t.val - 1) % 8 = 7 := this
      omega
    · have hu : URel m c ⟨t.val - 1, Nat.lt_of_le_of_lt (Nat.sub_le _ _) t.isLt⟩ Y := (dats m 0 c).toRRel_leaves (fgt := fgt) (Rl := Rl m c) (w := 2) rfl hl
      exact hu t' (by show t'.val / 8 = (t.val - 1) / 8; omega) (by show t'.val ≤ t.val - 1; omega) y hy
end

/-- What the body is called with at point `t`, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜(rdat m c).Finds 2 t Y⌝ ∗ owns (c : Thread nD τ) (st0_2 t) fullShare Y)
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, ⌜Rl m c 2 t X⌝ ∗ owns (c : Thread nD τ) (st0_2 t) fullShare X)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, after_0, after_1, after_3, after_4, after_5, after_6, after_7]
  rw [show (dats m 0 c).owesAt () t.succ = (dats m 0 c).owesAt () t.castSucc from rfl,
    show (dats m 0 c).Φ t.succ = (dats m 0 c).Φ t.castSucc from rfl]
  iintro ⟨HΦ, Ho, ⟨%d0, H0⟩, ⟨%d1, H1⟩, ⟨%Y, %hY, H2⟩, ⟨%d3, H3⟩, ⟨%d4, H4⟩, ⟨%d5, H5⟩, ⟨%d6, H6⟩, ⟨%d7, H7⟩⟩
  iapply (run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (b0 m c t) (b1 m c t) Y Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]
  · iexists _; isplitr; swap
    · iexact H2
    ipureintro
    rw [Rl_2]; exact urel_step m c t Y hY
  isplitl [H3]; · iexact H3
  isplitl [H4]; · iexact H4
  isplitl [H5]; · iexact H5
  isplitl [H6]; · iexact H6
  iexact H7

theorem row (t : Fin cfg0.N) : defs₀ (F := F) .tc cfg0.body (cfg0.bodyArgs t (cfg0.slots t)) = bodyAt0 t := by
  unfold defs₀; rw [Defs.onTc_tc]

theorem obligation (c : Dev nD) : Pipeline.BodyObligationRel (dats (F := F) m 0 c) (defs₀ (F := F)) Variants.none () Set.univ fgt (Rl m c) := fun t => by
  rw [bigSep_W0, bigSep_W0, row]
  simp only [show fgt (0 : Fin 8) = false from rfl, show fgt (1 : Fin 8) = false from rfl, show fgt (2 : Fin 8) = true from rfl, show fgt (3 : Fin 8) = false from rfl,
    show fgt (4 : Fin 8) = false from rfl, show fgt (5 : Fin 8) = false from rfl, show fgt (6 : Fin 8) = false from rfl, show fgt (7 : Fin 8) = false from rfl]
  exact triple_restated (sound m c t) rfl .rfl fun _ => .rfl

set_option backward.isDefEq.respectTransparency.types false in
/-- The launch: every execution ends, each array at what the run's data allows, every counter at zero. -/
theorem launch : θ_run defs (onTc (τ := τ) (main (F := F))) (s₀ m ρ) (fun r => (Pipeline.RDat.FramePost cfg0 (rdat m) (V m)) r ∧ r.2.sem = fun _ => 0) :=
  Pipeline.RDat.θ_run_frame_track (Q' := _) cfgs (0 : Fin 1) launch0 defs₀ Variants.none (rdat m) m ρ main
    (hbody := fun c => (obligation m c).toRRel) (hshare := fun c w => RDat.share_full _ (fun _ => rfl) w)
    (howed := fun _ _ => rfl) (V := V m) (hmain := hmain m Variants.none) (hA := A_eq m)
    (hin := fun _ => Idealize.SL.BI.Entails.refl _) (hout := fun _ => Idealize.SL.BI.Entails.refl _) (hQ' := fun _ h => h)

end Cert.InProj

end
-- ==== Proof.InProj.Frames.lean ====
/- The input projection's frame: its argument arrays end unchanged and every counter at zero, over any format instance. -/
module

public import proofs.«01_k».proof.Proof.InProj.Run

@[expose] public section

noncomputable section

namespace Cert.InProj

open Cert.Kernel5Ideal Cert.Kernel5Ideal.Gen
open Idealize.ShloMosaic Idealize.ShloMosaic.TcCoe Idealize.SL.Sem
open Idealize.ShloMosaic.Pipeline (RDat)

variable {F : FTy → Type} [FloatOps F]
variable (m : (ℓ : Loc nD τ sig) → Buf (Elt F) ℓ) (ρ : Dev nD → PrngReg)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(RDat.FramePost.arr_in h.1 c 0 rfl).trans ((A_eq m c 0).trans (V_main_arg0 m c)),
     ((h.1 c).2 main_arg1 (Pipeline.mem_restRefs_of main_arg1 (by decide) (by decide))).trans (V_main_arg1 m c)⟩) (launch m ρ)

/-- The argument arrays end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (launch m ρ))

end Cert.InProj

end
-- ==== Proof.InProj.Spec.lean ====
/- The input projection over the extended reals: a row of the input times a column of the weights. -/
module

public import Idealize.ShloMosaic.Lib.Pointwise
public import Idealize.ShloMosaic.Lib.ValueIdx

@[expose] public section

noncomputable section

namespace Cert.InProj

open Idealize.ShloMosaic
open scoped BigOperators

/-- Position `s` of batch row `n` times column `j` of the weights. -/
def proj (x : (⟨3, ![8, 2048, 2048]⟩ : Shape).Idx → EReal) (w : (⟨2, ![2048, 3664]⟩ : Shape).Idx → EReal) (n : Fin 8) (s : Fin 2048) (j : Fin 3664) : EReal :=
  ∑ k : Fin 2048, x (ix3 n s k) * w (ix2 k j)

section
variable (x : (⟨3, ![8, 2048, 2048]⟩ : Shape).Idx → EReal) (w : (⟨2, ![2048, 3664]⟩ : Shape).Idx → EReal)

/-- The recurrent part: slabs of 128 channels, positions outer and batch rows inner. -/
def uOut (s : Fin 8) (q : Fin 16384) (l : Fin 128) : EReal := proj x w ⟨q.val % 8, by omega⟩ ⟨q.val / 8, by omega⟩ ⟨s.val * 128 + l.val, by omega⟩
/-- The queries, -/
def qOut (n : Fin 8) (s : Fin 2048) (d : Fin 1024) : EReal := proj x w n s ⟨1024 + d.val, by omega⟩
/-- the keys, -/
def kOut (n : Fin 8) (s : Fin 2048) (d : Fin 256) : EReal := proj x w n s ⟨2048 + d.val, by omega⟩
/-- the values, transposed within blocks of 256 positions, -/
def vOut (n p : Fin 8) (d r : Fin 256) : EReal := proj x w n ⟨p.val * 256 + r.val, by omega⟩ ⟨2304 + d.val, by omega⟩
/-- the indexer's queries, -/
def qiOut (n : Fin 8) (s : Fin 2048) (d : Fin 1024) : EReal := proj x w n s ⟨2560 + d.val, by omega⟩
/-- and its keys and weights, padded with zeros. -/
def kwOut (n : Fin 8) (s : Fin 2048) (l : Fin 128) : EReal := if h : l.val < 80 then proj x w n s ⟨3584 + l.val, by omega⟩ else 0
end

end Cert.InProj

end
-- ==== Proof.InProj.Pay.lean ====
/- The input projection's stored values read at an index, over the extended reals. -/
module

public import proofs.«01_k».proof.Proof.InProj.Strided

@[expose] public section

set_option maxRecDepth 16384

noncomputable section

namespace Cert.InProj

open Cert.Kernel5Ideal Cert.Kernel5Ideal.Gen
open Idealize.ShloMosaic
open scoped BigOperators

/-- Row `r` of a block of the input times row `j` of the weight block. -/
def dotRow (x : Vec Ideal S1x256x2048 .f32) (w : Vec Ideal S3664x2048 .bf16) (r : Fin 256) (j : Fin 3664) : EReal :=
  ∑ k : Fin 2048, x (ix3 0 r k) * w (ix2 j k)

variable (x : Vec Ideal S1x256x2048 .f32) (r : Fin 256)

/-! ## Over the rows a product reads -/

section
variable (v : Vec Ideal S1024x2048 .bf16) (l : Fin 128)

theorem slab0 : k0_pay7 x v (ix3 0 r l) = ∑ k : Fin 2048, x (ix3 0 r k) * v (ix2 ⟨0 + l.val, by omega⟩ k) := by
  pointwise [k0_pay7, k0_pay6, k0_pay5]
theorem slab1 : k0_pay8 x v (ix3 0 r l) = ∑ k : Fin 2048, x (ix3 0 r k) * v (ix2 ⟨128 + l.val, by omega⟩ k) := by
  pointwise [k0_pay8, k0_pay6, k0_pay5]
theorem slab2 : k0_pay9 x v (ix3 0 r l) = ∑ k : Fin 2048, x (ix3 0 r k) * v (ix2 ⟨256 + l.val, by omega⟩ k) := by
  pointwise [k0_pay9, k0_pay6, k0_pay5]
theorem slab3 : k0_pay10 x v (ix3 0 r l) = ∑ k : Fin 2048, x (ix3 0 r k) * v (ix2 ⟨384 + l.val, by omega⟩ k) := by
  pointwise [k0_pay10, k0_pay6, k0_pay5]
theorem slab4 : k0_pay11 x v (ix3 0 r l) = ∑ k : Fin 2048, x (ix3 0 r k) * v (ix2 ⟨512 + l.val, by omega⟩ k) := by
  pointwise [k0_pay11, k0_pay6, k0_pay5]
theorem slab5 : k0_pay13 (k0_pay12 x v) (ix3 0 r l) = ∑ k : Fin 2048, x (ix3 0 r k) * v (ix2 ⟨640 + l.val, by omega⟩ k) := by
  pointwise [k0_pay13, k0_pay12, k0_pay6, k0_pay5]
theorem slab6 : k0_pay14 (k0_pay6 x v) (ix3 0 r l) = ∑ k : Fin 2048, x (ix3 0 r k) * v (ix2 ⟨768 + l.val, by omega⟩ k) := by
  pointwise [k0_pay14, k0_pay6, k0_pay5]
theorem slab7 : k0_pay15 (k0_pay6 x v) (ix3 0 r l) = ∑ k : Fin 2048, x (ix3 0 r k) * v (ix2 ⟨896 + l.val, by omega⟩ k) := by
  pointwise [k0_pay15, k0_pay6, k0_pay5]
end

theorem pq (v : Vec Ideal S1024x2048 .bf16) (d : Fin 1024) : k0_pay16 (k0_pay5 x) v (ix3 0 r d) = ∑ k : Fin 2048, x (ix3 0 r k) * v (ix2 d k) := by
  pointwise [k0_pay16, k0_pay5]
theorem pk (v : Vec Ideal S256x2048 .bf16) (d : Fin 256) : k0_pay17 (k0_pay5 x) v (ix3 0 r d) = ∑ k : Fin 2048, x (ix3 0 r k) * v (ix2 d k) := by
  pointwise [k0_pay17, k0_pay5]
theorem pv (v : Vec Ideal S256x2048 .bf16) (d : Fin 256) : k0_pay1 (k0_pay18 (k0_pay5 x) v) (ix4 0 0 d r) = ∑ k : Fin 2048, x (ix3 0 r k) * v (ix2 d k) := by
  pointwise [k0_pay1, k0_pay18, k0_pay5]
theorem pqi (v : Vec Ideal S1024x2048 .bf16) (d : Fin 1024) : k0_pay2 (k0_pay5 x) v (ix3 0 r d) = ∑ k : Fin 2048, x (ix3 0 r k) * v (ix2 d k) := by
  pointwise [k0_pay2, k0_pay5]
theorem pkw (v : Vec Ideal S80x2048 .bf16) (d : Fin 80) : k0_pay3 (k0_pay5 x) v (ix3 0 r d) = ∑ k : Fin 2048, x (ix3 0 r k) * v (ix2 d k) := by
  pointwise [k0_pay3, k0_pay5]
theorem pz (l : Fin 48) : k0_pay4 (F := Ideal) (ix3 0 r l) = 0 := by
  pointwise [k0_pay4]

/-! ## Over the whole weight block -/

variable (w : Vec Ideal S3664x2048 .bf16)

/-- A load of rows of the weight block, at an index. -/
theorem ld_w (n o : ℕ) (hb) (d : Fin n) (j : Fin 3664) (hj : j.val = o + d.val) (k : Fin 2048) :
    View.ld w (Rect.unit (s := S3664x2048) ![o, 0] (⟨2, ![n, 2048]⟩ : Shape).size hb) (ix2 d k : (⟨2, ![n, 2048]⟩ : Shape).Idx) = w (ix2 j k) := by
  show w _ = w _
  congr 1
  funext a; apply Fin.ext
  match a with
  | ⟨0, _⟩ => show o + 1 * d.val = j.val; omega
  | ⟨1, _⟩ => show 0 + 1 * k.val = k.val; omega

/-- A sum over a load's row is the sum over the block's row. -/
theorem sum_ld (n o : ℕ) (hb) (d : Fin n) (j : Fin 3664) (hj : j.val = o + d.val) :
    (∑ k : Fin 2048, x (ix3 0 r k) * View.ld w (Rect.unit (s := S3664x2048) ![o, 0] (⟨2, ![n, 2048]⟩ : Shape).size hb) (ix2 d k : (⟨2, ![n, 2048]⟩ : Shape).Idx))
      = dotRow x w r j :=
  Finset.sum_congr rfl fun k _ => congrArg₂ (· * ·) rfl (ld_w w n o hb d j hj k)

theorem slab_apply (s : Fin 8) (l : Fin 128) (j : Fin 3664) (hj : j.val = 128 * s.val + l.val) :
    slab x (wu w) s (ix3 0 r l) = dotRow x w r j := by
  match s, hj with
  | ⟨0, _⟩, hj => exact (slab0 x r (wu w) l).trans (sum_ld x r w 1024 0 _ _ j (by rw [hj]; show 128 * 0 + l.val = 0 + (0 + l.val); omega))
  | ⟨1, _⟩, hj => exact (slab1 x r (wu w) l).trans (sum_ld x r w 1024 0 _ _ j (by rw [hj]; show 128 * 1 + l.val = 0 + (128 + l.val); omega))
  | ⟨2, _⟩, hj => exact (slab2 x r (wu w) l).trans (sum_ld x r w 1024 0 _ _ j (by rw [hj]; show 128 * 2 + l.val = 0 + (256 + l.val); omega))
  | ⟨3, _⟩, hj => exact (slab3 x r (wu w) l).trans (sum_ld x r w 1024 0 _ _ j (by rw [hj]; show 128 * 3 + l.val = 0 + (384 + l.val); omega))
  | ⟨4, _⟩, hj => exact (slab4 x r (wu w) l).trans (sum_ld x r w 1024 0 _ _ j (by rw [hj]; show 128 * 4 + l.val = 0 + (512 + l.val); omega))
  | ⟨5, _⟩, hj => exact (slab5 x r (wu w) l).trans (sum_ld x r w 1024 0 _ _ j (by rw [hj]; show 128 * 5 + l.val = 0 + (640 + l.val); omega))
  | ⟨6, _⟩, hj => exact (slab6 x r (wu w) l).trans (sum_ld x r w 1024 0 _ _ j (by rw [hj]; show 128 * 6 + l.val = 0 + (768 + l.val); omega))
  | ⟨7, _⟩, hj => exact (slab7 x r (wu w) l).trans (sum_ld x r w 1024 0 _ _ j (by rw [hj]; show 128 * 7 + l.val = 0 + (896 + l.val); omega))

theorem uG_apply (s : Fin 8) (q : Fin 2048) (l : Fin 128) (hr : r.val = q.val / 8) (j : Fin 3664) (hj : j.val = 128 * s.val + l.val) :
    uG x (wu w) (ix3 s q l) = dotRow x w r j := by
  refine Eq.trans ?_ (slab_apply x r w s l j hj)
  show slab x (wu w) s (ix3 0 ⟨q.val / 8, _⟩ l) = _
  congr 2
  exact Fin.ext hr.symm

theorem oq_apply (d : Fin 1024) : oq x w (ix3 0 r d) = dotRow x w r ⟨1024 + d.val, by omega⟩ :=
  (pq x r (wq w) d).trans (sum_ld x r w 1024 1024 _ d _ rfl)
theorem ok_apply (d : Fin 256) : ok x w (ix3 0 r d) = dotRow x w r ⟨2048 + d.val, by omega⟩ :=
  (pk x r (wk w) d).trans (sum_ld x r w 256 2048 _ d _ rfl)
theorem ov_apply (d : Fin 256) : ov x w (ix4 0 0 d r) = dotRow x w r ⟨2304 + d.val, by omega⟩ :=
  (pv x r (wv w) d).trans (sum_ld x r w 256 2304 _ d _ rfl)
theorem oqi_apply (d : Fin 1024) : oqi x w (ix3 0 r d) = dotRow x w r ⟨2560 + d.val, by omega⟩ :=
  (pqi x r (wqi w) d).trans (sum_ld x r w 1024 2560 _ d _ rfl)

/-- Two pieces side by side on the lanes, at an index. -/
theorem two_lo (A : rHi.shape.Idx → Elt Ideal .f32) (B : rLo.shape.Idx → Elt Ideal .f32) (l : Fin 128) (h : l.val < 80) :
    View.canon (Val := Elt Ideal) (e := .f32) [⟨rHi, A⟩, ⟨rLo, B⟩] (ix3 0 r l : S1x256x128.Idx) = B (ix3 0 r ⟨l.val, h⟩ : S1x256x80.Idx) := by
  have hn : (ix3 0 r l : S1x256x128.Idx) ∉ rHi.set := by
    rw [Rect.mem_set_unit]
    intro hm
    have : 80 ≤ l.val := (hm 2).1
    omega
  have e : (ix3 0 r l : S1x256x128.Idx) = rLo.emb (ix3 0 r ⟨l.val, h⟩ : S1x256x80.Idx) := by
    funext a; apply Fin.ext
    match a with
    | ⟨0, _⟩ => rfl
    | ⟨1, _⟩ => show r.val = 0 + 1 * r.val; omega
    | ⟨2, _⟩ => show l.val = 0 + 1 * l.val; omega
  have p1 := View.canon_cons_of_not_mem (Val := Elt Ideal) (e := .f32) ⟨rHi, A⟩ [⟨rLo, B⟩] hn
  have p2 := View.canon_cons_emb (Val := Elt Ideal) (e := .f32) rLo B [] (ix3 0 r ⟨l.val, h⟩ : S1x256x80.Idx)
  rw [← e] at p2
  exact p1.trans p2

theorem two_hi (A : rHi.shape.Idx → Elt Ideal .f32) (B : rLo.shape.Idx → Elt Ideal .f32) (l : Fin 128) (k : Fin 48) (h : l.val = 80 + k.val) :
    View.canon (Val := Elt Ideal) (e := .f32) [⟨rHi, A⟩, ⟨rLo, B⟩] (ix3 0 r l : S1x256x128.Idx) = A (ix3 0 r k : S1x256x48.Idx) := by
  have e : (ix3 0 r l : S1x256x128.Idx) = rHi.emb (ix3 0 r k : S1x256x48.Idx) := by
    funext a; apply Fin.ext
    match a with
    | ⟨0, _⟩ => rfl
    | ⟨1, _⟩ => show r.val = 0 + 1 * r.val; omega
    | ⟨2, _⟩ => show l.val = 80 + 1 * k.val; omega
  have p2 := View.canon_cons_emb (Val := Elt Ideal) (e := .f32) rHi A [⟨rLo, B⟩] (ix3 0 r k : S1x256x48.Idx)
  rw [← e] at p2
  exact p2

/-- The last block: eighty lanes of products, then zeros. -/
theorem okw_apply (l : Fin 128) : okw x w (ix3 0 r l) = if h : l.val < 80 then dotRow x w r ⟨3584 + l.val, by omega⟩ else 0 := by
  unfold okw
  by_cases h : l.val < 80
  · rw [dif_pos h]
    exact (two_lo r _ _ l h).trans ((pkw x r (wki w) ⟨l.val, h⟩).trans (sum_ld x r w 80 3584 _ _ _ rfl))
  · rw [dif_neg h]
    exact (two_hi r _ _ l ⟨l.val - 80, by omega⟩ (by show l.val = 80 + (l.val - 80); omega)).trans (pz r _)

end Cert.InProj

end
-- ==== Proof.InProj.RefVal.lean ====
/- The reference's results of the input projection, read at an index over the extended reals. -/
module

public import proofs.«01_k».proof.Proof.InProj.Spec
public import proofs.«01_k».proof.Proof.Gen.Reference5Ideal.Read

@[expose] public section

set_option maxRecDepth 16384

noncomputable section

namespace Cert.InProj.Ref

open Cert.Reference5Ideal Cert.Reference5Ideal.Read
open Idealize.ShloMosaic

variable (x0 : Vec Ideal S8x2048x2048 .f32) (x1 : Vec Ideal S2048x3664 .f32)

theorem u_ix (s : Fin 8) (q : Fin 16384) (l : Fin 128) : val_main_v10 x0 x1 (ix3 s q l)
    = proj x0 x1 ⟨q.val % 8, by omega⟩ ⟨q.val / 8, by omega⟩ ⟨s.val * 128 + l.val, by omega⟩ := by
  pointwise [val_main_v10, val_main_v9, val_main_v8, val_main_v1, val_main_v0, proj]
theorem q_ix (n : Fin 8) (s : Fin 2048) (d : Fin 1024) : val_main_v15 x0 x1 (ix3 n s d) = proj x0 x1 n s ⟨1024 + d.val, by omega⟩ := by
  pointwise [val_main_v15, val_main_v2, val_main_v0, proj]
theorem k_ix (n : Fin 8) (s : Fin 2048) (d : Fin 256) : val_main_v16 x0 x1 (ix3 n s d) = proj x0 x1 n s ⟨2048 + d.val, by omega⟩ := by
  pointwise [val_main_v16, val_main_v3, val_main_v0, proj]
theorem v_ix (n p : Fin 8) (d r : Fin 256) : val_main_v17 x0 x1 (ix4 n p d r) = proj x0 x1 n ⟨p.val * 256 + r.val, by omega⟩ ⟨2304 + d.val, by omega⟩ := by
  pointwise [val_main_v17, val_main_v12, val_main_v11, val_main_v4, val_main_v0, proj]
theorem qi_ix (n : Fin 8) (s : Fin 2048) (d : Fin 1024) : val_main_v18 x0 x1 (ix3 n s d) = proj x0 x1 n s ⟨2560 + d.val, by omega⟩ := by
  pointwise [val_main_v18, val_main_v5, val_main_v0, proj]
/-- The padding's value. -/
theorem pad_zero : FloatOps.sitofp (F := Ideal) FTy.f32 (0#32) = (0 : EReal) := by
  show (((0#32 : BitVec 32).toInt : ℝ) : EReal) = 0
  norm_num

theorem kw_ix (n : Fin 8) (s : Fin 2048) (l : Fin 128) : val_main_v14 x0 x1 (ix3 n s l)
    = if h : l.val < 80 then proj x0 x1 n s ⟨3584 + l.val, by omega⟩ else 0 := by
  have key : val_main_v14 x0 x1 (ix3 n s l) = if h : l.val < 80 then
      if h' : l.val < 64 then proj x0 x1 n s ⟨3584 + l.val, by omega⟩ else proj x0 x1 n s ⟨3648 + (l.val - 64), by omega⟩
      else FloatOps.sitofp (F := Ideal) FTy.f32 (0#32) := by
    pointwise [val_main_v14, val_main_v13, val_main_v7, val_main_v6, val_main_v0, val_main_call0_v0, val_main_c, proj]
  rw [key, pad_zero]
  by_cases h : l.val < 80
  · rw [dif_pos h, dif_pos h]
    by_cases h' : l.val < 64
    · rw [dif_pos h']
    · rw [dif_neg h']
      congr 1
      apply Fin.ext
      show 3648 + (l.val - 64) = 3584 + l.val
      omega
  · rw [dif_neg h, dif_neg h]

end Cert.InProj.Ref

end
-- ==== Proof.InProj.Value.lean ====
/- The arrays the input projection leaves, over the extended reals, and their agreement with the reference. -/
module

public import proofs.«01_k».proof.Proof.InProj.Spec
public import proofs.«01_k».proof.Proof.InProj.Pay
public import proofs.«01_k».proof.Proof.InProj.RefVal
public import proofs.«01_k».proof.Proof.InProj.Frames
public import proofs.«01_k».proof.Proof.Gen.Kernel5Ideal
public import proofs.«01_k».proof.Proof.Gen.Reference5Ideal
public import proofs.«01_k».proof.Proof.Gen.Reference5Ideal.Run
public import proofs.«01_k».proof.Defs
public import Idealize.ShloMosaic.Lib.StableHlo.ReadAt

@[expose] public section

set_option maxRecDepth 16384

noncomputable section

namespace Cert.InProj

open Cert.Kernel5Ideal Cert.Kernel5Ideal.Gen
open Idealize.ShloMosaic Idealize.ShloMosaic.TcCoe Idealize.SL.Sem
open Idealize.ShloMosaic.Pipeline (Dat RDat)
open scoped BigOperators

variable (m : (ℓ : Loc nD τ sig) → Buf (Elt Ideal) ℓ) (ρ : Dev nD → PrngReg) (c : Dev nD)

/-! ## The arrays the region finds -/

theorem V_w (j : Fin 3664) (k : Fin 2048) : V m c main_v1 (ix2 j k : S3664x2048.Idx) = m ((c : Thread nD τ).loc main_arg1) (ix2 k j : S2048x3664.Idx) := by
  after_reads_at

/-! ## The blocks -/

theorem lt_N (t : Fin cfg0.N) : t.val < 64 := lt_of_lt_of_eq t.isLt N_0
theorem coords0 (t : Fin cfg0.N) : (grid0.coords t 0).val = t.val / 8 := by
  have e : (grid0.coords t 0).val = t.val / 8 % 8 := Pipeline.Grid.coords_val t 0 (by decide) rfl
  have := lt_N t; rw [e]; omega

theorem toNat8 (k : Fin 8) : (BitVec.ofNat 32 k.val).toNat = k.val := by revert k; decide

theorem tr0 (i : grid0.Coords) : cc0_transform_0 i = ![(i 1).val, (i 0).val, 0] := by
  funext a; fin_cases a
  · exact toNat8 (i 1)
  · exact toNat8 (i 0)
  · rfl
theorem tr3 (i : grid0.Coords) : cc0_transform_3 i = ![(i 1).val, (i 0).val, 0] := by
  funext a; fin_cases a
  · exact toNat8 (i 1)
  · exact toNat8 (i 0)
  · rfl
theorem tr4 (i : grid0.Coords) : cc0_transform_4 i = ![(i 1).val, (i 0).val, 0] := by
  funext a; fin_cases a
  · exact toNat8 (i 1)
  · exact toNat8 (i 0)
  · rfl
theorem tr6 (i : grid0.Coords) : cc0_transform_6 i = ![(i 1).val, (i 0).val, 0] := by
  funext a; fin_cases a
  · exact toNat8 (i 1)
  · exact toNat8 (i 0)
  · rfl
theorem tr7 (i : grid0.Coords) : cc0_transform_7 i = ![(i 1).val, (i 0).val, 0] := by
  funext a; fin_cases a
  · exact toNat8 (i 1)
  · exact toNat8 (i 0)
  · rfl
theorem tr2 (i : grid0.Coords) : cc0_transform_2 i = ![0, (i 0).val, 0] := by
  funext a; fin_cases a
  · rfl
  · exact toNat8 (i 0)
  · rfl
theorem tr5 (i : grid0.Coords) : cc0_transform_5 i = ![(i 1).val, (i 0).val, 0, 0] := by
  funext a; fin_cases a
  · exact toNat8 (i 1)
  · exact toNat8 (i 0)
  · rfl
  · rfl

section
variable (t : Fin cfg0.N)

/-- The batch row and the position of a point's rows. -/
abbrev bat : Fin 8 := ⟨t.val % 8, by omega⟩
abbrev pos (r : Fin 256) : Fin 2048 := ⟨t.val / 8 * 256 + r.val, by have := lt_N t; omega⟩

theorem i0 (r : Fin 256) (k : Fin 2048) :
    b0 m c t (ix3 0 r k : S1x256x2048.Idx) = m ((c : Thread nD τ).loc main_arg0) (ix3 (bat t) (pos t r) k : S8x2048x2048.Idx) := by
  refine Eq.trans ?_ (congrFun (V_main_arg0 m c) _)
  show V m c main_arg0 (((cfg0.win 0).blk t).view.emb (ix3 0 r k)) = _
  congr 1
  funext a; apply Fin.ext
  match a with
  | ⟨0, _⟩ => show cc0_transform_0 (grid0.coords t) 0 * 1 + 1 * 0 = t.val % 8; rw [tr0]; show (grid0.coords t 1).val * 1 + 1 * 0 = _; rw [coords1]; omega
  | ⟨1, _⟩ => show cc0_transform_0 (grid0.coords t) 1 * 256 + 1 * r.val = t.val / 8 * 256 + r.val; rw [tr0]; show (grid0.coords t 0).val * 256 + 1 * r.val = _; rw [coords0]; omega
  | ⟨2, _⟩ => show cc0_transform_0 (grid0.coords t) 2 * 2048 + 1 * k.val = k.val; rw [tr0]; show 0 * 2048 + 1 * k.val = _; omega

theorem i1 (j : Fin 3664) (k : Fin 2048) : b1 m c t (ix2 j k : S3664x2048.Idx) = m ((c : Thread nD τ).loc main_arg1) (ix2 k j : S2048x3664.Idx) := by
  refine Eq.trans ?_ (V_w m c j k)
  show V m c main_v1 (((cfg0.win 1).blk t).view.emb (ix2 j k)) = _
  congr 1
  funext a; apply Fin.ext
  match a with
  | ⟨0, _⟩ => show 0 * 3664 + 1 * j.val = j.val; omega
  | ⟨1, _⟩ => show 0 * 2048 + 1 * k.val = k.val; omega

/-- A row of a point's block times a row of the weight block is the projection at the row's place. -/
theorem dot_val (r : Fin 256) (j : Fin 3664) :
    dotRow (b0 m c t) (b1 m c t) r j = proj (m ((c : Thread nD τ).loc main_arg0)) (m ((c : Thread nD τ).loc main_arg1)) (bat t) (pos t r) j :=
  Finset.sum_congr rfl fun k _ => congrArg₂ (· * ·) (i0 m c t r k) (i1 m c t j k)
end

/-! ## The results, as arrays -/

def res0 : S8x16384x128.Idx → EReal := fun i => uOut (m ((c : Thread nD τ).loc main_arg0)) (m ((c : Thread nD τ).loc main_arg1)) (i 0) (i 1) (i 2)
def res1 : S8x2048x1024.Idx → EReal := fun i => qOut (m ((c : Thread nD τ).loc main_arg0)) (m ((c : Thread nD τ).loc main_arg1)) (i 0) (i 1) (i 2)
def res2 : S8x2048x256.Idx → EReal := fun i => kOut (m ((c : Thread nD τ).loc main_arg0)) (m ((c : Thread nD τ).loc main_arg1)) (i 0) (i 1) (i 2)
def res3 : S8x8x256x256.Idx → EReal := fun i => vOut (m ((c : Thread nD τ).loc main_arg0)) (m ((c : Thread nD τ).loc main_arg1)) (i 0) (i 1) (i 2) (i 3)
def res4 : S8x2048x1024.Idx → EReal := fun i => qiOut (m ((c : Thread nD τ).loc main_arg0)) (m ((c : Thread nD τ).loc main_arg1)) (i 0) (i 1) (i 2)
def res5 : S8x2048x128.Idx → EReal := fun i => kwOut (m ((c : Thread nD τ).loc main_arg0)) (m ((c : Thread nD τ).loc main_arg1)) (i 0) (i 1) (i 2)

/-! ## What a block holds when it is written back -/

section
variable (t : Fin cfg0.N)

theorem val3 (r : Fin 256) (d : Fin 1024) : oq (b0 m c t) (b1 m c t) (ix3 0 r d : S1x256x1024.Idx) = qOut (m ((c : Thread nD τ).loc main_arg0)) (m ((c : Thread nD τ).loc main_arg1)) (bat t) (pos t r) d := by
  exact (oq_apply _ r _ d).trans (dot_val m c t r _)

theorem val4 (r : Fin 256) (d : Fin 256) : ok (b0 m c t) (b1 m c t) (ix3 0 r d : S1x256x256.Idx) = kOut (m ((c : Thread nD τ).loc main_arg0)) (m ((c : Thread nD τ).loc main_arg1)) (bat t) (pos t r) d := by
  exact (ok_apply _ r _ d).trans (dot_val m c t r _)

theorem val6 (r : Fin 256) (d : Fin 1024) : oqi (b0 m c t) (b1 m c t) (ix3 0 r d : S1x256x1024.Idx) = qiOut (m ((c : Thread nD τ).loc main_arg0)) (m ((c : Thread nD τ).loc main_arg1)) (bat t) (pos t r) d := by
  exact (oqi_apply _ r _ d).trans (dot_val m c t r _)

theorem val7 (r : Fin 256) (d : Fin 128) : okw (b0 m c t) (b1 m c t) (ix3 0 r d : S1x256x128.Idx) = kwOut (m ((c : Thread nD τ).loc main_arg0)) (m ((c : Thread nD τ).loc main_arg1)) (bat t) (pos t r) d := by
  refine (okw_apply _ r _ d).trans ?_
  unfold kwOut
  split
  · exact dot_val m c t r _
  · rfl

theorem val5 (d r : Fin 256) : ov (b0 m c t) (b1 m c t) (ix4 0 0 d r : S1x1x256x256.Idx) = vOut (m ((c : Thread nD τ).loc main_arg0)) (m ((c : Thread nD τ).loc main_arg1)) (bat t) ⟨t.val / 8, by have := lt_N t; omega⟩ d r := by
  exact (ov_apply _ r _ d).trans (dot_val m c t r _)

/-- The recurrent part's block after its eighth point. -/
theorem val2 (X : Vec Ideal S8x2048x128 .f32) (hX : URel m c t X) (h7 : t.val % 8 = 7) (s : Fin 8) (q : Fin 2048) (l : Fin 128) :
    X (ix3 s q l : S8x2048x128.Idx) = uOut (m ((c : Thread nD τ).loc main_arg0)) (m ((c : Thread nD τ).loc main_arg1)) s ⟨t.val / 8 * 2048 + q.val, by have := lt_N t; omega⟩ l := by
  have ht := lt_N t
  have hlt : t.val / 8 * 8 + q.val % 8 < cfg0.N := lt_of_lt_of_eq (by omega : _ < 64) N_0.symm
  refine (hX ⟨t.val / 8 * 8 + q.val % 8, hlt⟩ (by show (t.val / 8 * 8 + q.val % 8) / 8 = t.val / 8; omega) (by show t.val / 8 * 8 + q.val % 8 ≤ t.val; omega)
    (ix3 s q l) (by show q.val % 8 = (t.val / 8 * 8 + q.val % 8) % 8; omega)).trans ?_
  refine (uG_apply _ ⟨q.val / 8, by omega⟩ _ s q l rfl ⟨s.val * 128 + l.val, by omega⟩ (by show s.val * 128 + l.val = 128 * s.val + l.val; omega)).trans ?_
  refine (dot_val m c _ _ _).trans ?_
  unfold uOut
  congr 1
  · apply Fin.ext; show (t.val / 8 * 8 + q.val % 8) % 8 = (t.val / 8 * 2048 + q.val) % 8; omega
  · apply Fin.ext; show (t.val / 8 * 8 + q.val % 8) / 8 * 256 + q.val / 8 = (t.val / 8 * 2048 + q.val) / 8; omega

/-! ## The blocks in their arrays -/

variable (after : (w : Fin cfg0.W) → Fin cfg0.N → (cfg0.win w).block.Idx → Elt Ideal (cfg0.win w).elt)

theorem exact_of (w : Fin cfg0.W) (hw : fgt w = false) (hl : cfg0.loose w = false) (hf : (cfg0.win w).flush t = true) (X : (cfg0.win w).block.Idx → Elt Ideal (cfg0.win w).elt)
    (h : (rdat m c).Leaves w t X) : X = (dats m 0 c).after w t := by
  obtain ⟨Y, -, ha⟩ := h
  have e : (rdat m c).after w = (dats m 0 c).toR.after w := (dats m 0 c).toRRel_after_of_eq_false hw
  rw [e] at ha
  have hx := (Dat.Leaves.live_iff (dats m 0 c) (.inr hf)).mp ha
  rw [hl] at hx
  exact hx

theorem flushed3 (h : after 3 t = oq (b0 m c t) (b1 m c t)) :
    ((rdat m c).withAfter after).flushed 3 t = ((cfg0.win 3).blk t).view.read (Elt Ideal) (res1 m c) := by
  funext y
  show after 3 t ((cfg0.win 3).xinj (grid0.coords t) y) = res1 m c (((cfg0.win 3).blk t).view.emb y)
  have h0 : (y 0).val < 1 := (y 0).isLt
  have h1 : (y 1).val < 256 := (y 1).isLt
  have h2 : (y 2).val < 1024 := (y 2).isLt
  have ey : (cfg0.win 3).xinj (grid0.coords t) y = (ix3 0 (⟨(y 1).val, h1⟩ : Fin 256) (⟨(y 2).val, h2⟩ : Fin 1024) : S1x256x1024.Idx) := by
    funext a; apply Fin.ext
    match a with
    | ⟨0, _⟩ => show (y 0).val = 0; omega
    | ⟨1, _⟩ => rfl
    | ⟨2, _⟩ => rfl
  have ee : ((cfg0.win 3).blk t).view.emb y = (ix3 (bat t) (pos t ⟨(y 1).val, h1⟩) (⟨(y 2).val, h2⟩ : Fin 1024) : S8x2048x1024.Idx) := by
    funext a; apply Fin.ext
    match a with
    | ⟨0, _⟩ => show cc0_transform_3 (grid0.coords t) 0 * 1 + 1 * (y 0).val = t.val % 8; rw [tr3]; show (grid0.coords t 1).val * 1 + 1 * (y 0).val = _; rw [coords1]; omega
    | ⟨1, _⟩ => show cc0_transform_3 (grid0.coords t) 1 * 256 + 1 * (y 1).val = t.val / 8 * 256 + (y 1).val; rw [tr3]; show (grid0.coords t 0).val * 256 + 1 * (y 1).val = _; rw [coords0]; omega
    | ⟨2, _⟩ => show cc0_transform_3 (grid0.coords t) 2 * 1024 + 1 * (y 2).val = (y 2).val; rw [tr3]; show 0 * 1024 + 1 * (y 2).val = _; omega
  rw [h]
  exact ((congrArg _ ey).trans (val3 m c t _ _)).trans (congrArg (res1 m c) ee).symm

theorem flushed4 (h : after 4 t = ok (b0 m c t) (b1 m c t)) :
    ((rdat m c).withAfter after).flushed 4 t = ((cfg0.win 4).blk t).view.read (Elt Ideal) (res2 m c) := by
  funext y
  show after 4 t ((cfg0.win 4).xinj (grid0.coords t) y) = res2 m c (((cfg0.win 4).blk t).view.emb y)
  have h0 : (y 0).val < 1 := (y 0).isLt
  have h1 : (y 1).val < 256 := (y 1).isLt
  have h2 : (y 2).val < 256 := (y 2).isLt
  have ey : (cfg0.win 4).xinj (grid0.coords t) y = (ix3 0 (⟨(y 1).val, h1⟩ : Fin 256) (⟨(y 2).val, h2⟩ : Fin 256) : S1x256x256.Idx) := by
    funext a; apply Fin.ext
    match a with
    | ⟨0, _⟩ => show (y 0).val = 0; omega
    | ⟨1, _⟩ => rfl
    | ⟨2, _⟩ => rfl
  have ee : ((cfg0.win 4).blk t).view.emb y = (ix3 (bat t) (pos t ⟨(y 1).val, h1⟩) (⟨(y 2).val, h2⟩ : Fin 256) : S8x2048x256.Idx) := by
    funext a; apply Fin.ext
    match a with
    | ⟨0, _⟩ => show cc0_transform_4 (grid0.coords t) 0 * 1 + 1 * (y 0).val = t.val % 8; rw [tr4]; show (grid0.coords t 1).val * 1 + 1 * (y 0).val = _; rw [coords1]; omega
    | ⟨1, _⟩ => show cc0_transform_4 (grid0.coords t) 1 * 256 + 1 * (y 1).val = t.val / 8 * 256 + (y 1).val; rw [tr4]; show (grid0.coords t 0).val * 256 + 1 * (y 1).val = _; rw [coords0]; omega
    | ⟨2, _⟩ => show cc0_transform_4 (grid0.coords t) 2 * 256 + 1 * (y 2).val = (y 2).val; rw [tr4]; show 0 * 256 + 1 * (y 2).val = _; omega
  rw [h]
  exact ((congrArg _ ey).trans (val4 m c t _ _)).trans (congrArg (res2 m c) ee).symm

theorem flushed6 (h : after 6 t = oqi (b0 m c t) (b1 m c t)) :
    ((rdat m c).withAfter after).flushed 6 t = ((cfg0.win 6).blk t).view.read (Elt Ideal) (res4 m c) := by
  funext y
  show after 6 t ((cfg0.win 6).xinj (grid0.coords t) y) = res4 m c (((cfg0.win 6).blk t).view.emb y)
  have h0 : (y 0).val < 1 := (y 0).isLt
  have h1 : (y 1).val < 256 := (y 1).isLt
  have h2 : (y 2).val < 1024 := (y 2).isLt
  have ey : (cfg0.win 6).xinj (grid0.coords t) y = (ix3 0 (⟨(y 1).val, h1⟩ : Fin 256) (⟨(y 2).val, h2⟩ : Fin 1024) : S1x256x1024.Idx) := by
    funext a; apply Fin.ext
    match a with
    | ⟨0, _⟩ => show (y 0).val = 0; omega
    | ⟨1, _⟩ => rfl
    | ⟨2, _⟩ => rfl
  have ee : ((cfg0.win 6).blk t).view.emb y = (ix3 (bat t) (pos t ⟨(y 1).val, h1⟩) (⟨(y 2).val, h2⟩ : Fin 1024) : S8x2048x1024.Idx) := by
    funext a; apply Fin.ext
    match a with
    | ⟨0, _⟩ => show cc0_transform_6 (grid0.coords t) 0 * 1 + 1 * (y 0).val = t.val % 8; rw [tr6]; show (grid0.coords t 1).val * 1 + 1 * (y 0).val = _; rw [coords1]; omega
    | ⟨1, _⟩ => show cc0_transform_6 (grid0.coords t) 1 * 256 + 1 * (y 1).val = t.val / 8 * 256 + (y 1).val; rw [tr6]; show (grid0.coords t 0).val * 256 + 1 * (y 1).val = _; rw [coords0]; omega
    | ⟨2, _⟩ => show cc0_transform_6 (grid0.coords t) 2 * 1024 + 1 * (y 2).val = (y 2).val; rw [tr6]; show 0 * 1024 + 1 * (y 2).val = _; omega
  rw [h]
  exact ((congrArg _ ey).trans (val6 m c t _ _)).trans (congrArg (res4 m c) ee).symm

theorem flushed7 (h : after 7 t = okw (b0 m c t) (b1 m c t)) :
    ((rdat m c).withAfter after).flushed 7 t = ((cfg0.win 7).blk t).view.read (Elt Ideal) (res5 m c) := by
  funext y
  show after 7 t ((cfg0.win 7).xinj (grid0.coords t) y) = res5 m c (((cfg0.win 7).blk t).view.emb y)
  have h0 : (y 0).val < 1 := (y 0).isLt
  have h1 : (y 1).val < 256 := (y 1).isLt
  have h2 : (y 2).val < 128 := (y 2).isLt
  have ey : (cfg0.win 7).xinj (grid0.coords t) y = (ix3 0 (⟨(y 1).val, h1⟩ : Fin 256) (⟨(y 2).val, h2⟩ : Fin 128) : S1x256x128.Idx) := by
    funext a; apply Fin.ext
    match a with
    | ⟨0, _⟩ => show (y 0).val = 0; omega
    | ⟨1, _⟩ => rfl
    | ⟨2, _⟩ => rfl
  have ee : ((cfg0.win 7).blk t).view.emb y = (ix3 (bat t) (pos t ⟨(y 1).val, h1⟩) (⟨(y 2).val, h2⟩ : Fin 128) : S8x2048x128.Idx) := by
    funext a; apply Fin.ext
    match a with
    | ⟨0, _⟩ => show cc0_transform_7 (grid0.coords t) 0 * 1 + 1 * (y 0).val = t.val % 8; rw [tr7]; show (grid0.coords t 1).val * 1 + 1 * (y 0).val = _; rw [coords1]; omega
    | ⟨1, _⟩ => show cc0_transform_7 (grid0.coords t) 1 * 256 + 1 * (y 1).val = t.val / 8 * 256 + (y 1).val; rw [tr7]; show (grid0.coords t 0).val * 256 + 1 * (y 1).val = _; rw [coords0]; omega
    | ⟨2, _⟩ => show cc0_transform_7 (grid0.coords t) 2 * 128 + 1 * (y 2).val = (y 2).val; rw [tr7]; show 0 * 128 + 1 * (y 2).val = _; omega
  rw [h]
  exact ((congrArg _ ey).trans (val7 m c t _ _)).trans (congrArg (res5 m c) ee).symm

theorem flushed5 (h : after 5 t = ov (b0 m c t) (b1 m c t)) :
    ((rdat m c).withAfter after).flushed 5 t = ((cfg0.win 5).blk t).view.read (Elt Ideal) (res3 m c) := by
  funext y
  show after 5 t ((cfg0.win 5).xinj (grid0.coords t) y) = res3 m c (((cfg0.win 5).blk t).view.emb y)
  have h0 : (y 0).val < 1 := (y 0).isLt
  have h1 : (y 1).val < 1 := (y 1).isLt
  have h2 : (y 2).val < 256 := (y 2).isLt
  have h3 : (y 3).val < 256 := (y 3).isLt
  have hd : t.val / 8 < 8 := by have := lt_N t; omega
  have ey : (cfg0.win 5).xinj (grid0.coords t) y = (ix4 0 0 (⟨(y 2).val, h2⟩ : Fin 256) (⟨(y 3).val, h3⟩ : Fin 256) : S1x1x256x256.Idx) := by
    funext a; apply Fin.ext
    match a with
    | ⟨0, _⟩ => show (y 0).val = 0; omega
    | ⟨1, _⟩ => show (y 1).val = 0; omega
    | ⟨2, _⟩ => rfl
    | ⟨3, _⟩ => rfl
  have ee : ((cfg0.win 5).blk t).view.emb y = (ix4 (bat t) (⟨t.val / 8, hd⟩ : Fin 8) (⟨(y 2).val, h2⟩ : Fin 256) (⟨(y 3).val, h3⟩ : Fin 256) : S8x8x256x256.Idx) := by
    funext a; apply Fin.ext
    match a with
    | ⟨0, _⟩ => show cc0_transform_5 (grid0.coords t) 0 * 1 + 1 * (y 0).val = t.val % 8; rw [tr5]; show (grid0.coords t 1).val * 1 + 1 * (y 0).val = _; rw [coords1]; omega
    | ⟨1, _⟩ => show cc0_transform_5 (grid0.coords t) 1 * 1 + 1 * (y 1).val = t.val / 8; rw [tr5]; show (grid0.coords t 0).val * 1 + 1 * (y 1).val = _; rw [coords0]; omega
    | ⟨2, _⟩ => show cc0_transform_5 (grid0.coords t) 2 * 256 + 1 * (y 2).val = (y 2).val; rw [tr5]; show 0 * 256 + 1 * (y 2).val = _; omega
    | ⟨3, _⟩ => show cc0_transform_5 (grid0.coords t) 3 * 256 + 1 * (y 3).val = (y 3).val; rw [tr5]; show 0 * 256 + 1 * (y 3).val = _; omega
  rw [h]
  exact ((congrArg _ ey).trans (val5 m c t _ _)).trans (congrArg (res3 m c) ee).symm

theorem flushed2 (h7 : t.val % 8 = 7) (h : URel m c t (after 2 t)) :
    ((rdat m c).withAfter after).flushed 2 t = ((cfg0.win 2).blk t).view.read (Elt Ideal) (res0 m c) := by
  funext y
  show after 2 t ((cfg0.win 2).xinj (grid0.coords t) y) = res0 m c (((cfg0.win 2).blk t).view.emb y)
  have h0 : (y 0).val < 8 := (y 0).isLt
  have h1 : (y 1).val < 2048 := (y 1).isLt
  have h2 : (y 2).val < 128 := (y 2).isLt
  have hq : t.val / 8 * 2048 + (y 1).val < 16384 := by have := lt_N t; omega
  have ey : (cfg0.win 2).xinj (grid0.coords t) y = (ix3 (⟨(y 0).val, h0⟩ : Fin 8) (⟨(y 1).val, h1⟩ : Fin 2048) (⟨(y 2).val, h2⟩ : Fin 128) : S8x2048x128.Idx) := by
    funext a; apply Fin.ext
    match a with
    | ⟨0, _⟩ => rfl
    | ⟨1, _⟩ => rfl
    | ⟨2, _⟩ => rfl
  have ee : ((cfg0.win 2).blk t).view.emb y = (ix3 (⟨(y 0).val, h0⟩ : Fin 8) (⟨t.val / 8 * 2048 + (y 1).val, hq⟩ : Fin 16384) (⟨(y 2).val, h2⟩ : Fin 128) : S8x16384x128.Idx) := by
    funext a; apply Fin.ext
    match a with
    | ⟨0, _⟩ => show cc0_transform_2 (grid0.coords t) 0 * 8 + 1 * (y 0).val = (y 0).val; rw [tr2]; show 0 * 8 + 1 * (y 0).val = _; omega
    | ⟨1, _⟩ => show cc0_transform_2 (grid0.coords t) 1 * 2048 + 1 * (y 1).val = t.val / 8 * 2048 + (y 1).val; rw [tr2]; show (grid0.coords t 0).val * 2048 + 1 * (y 1).val = _; rw [coords0]; omega
    | ⟨2, _⟩ => show cc0_transform_2 (grid0.coords t) 2 * 128 + 1 * (y 2).val = (y 2).val; rw [tr2]; show 0 * 128 + 1 * (y 2).val = _; omega
  exact ((congrArg _ ey).trans (val2 m c t _ h h7 _ _ _)).trans (congrArg (res0 m c) ee).symm
end

/-! ## The blocks cover their arrays -/

theorem mem_blk3 (t : Fin cfg0.N) (i : S8x2048x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v2_1).slice (win0_3.rect t)).set ↔ _
  rw [View.set_slice_whole, Rect.mem_set_unit]
  exact Iff.rfl

theorem cover3 (i : S8x2048x1024.Idx) : ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 1024 := (i 2).isLt
  have ht : (i 1).val / 256 * 8 + (i 0).val < cfg0.N := lt_of_lt_of_eq (by omega : _ < 64) N_0.symm
  refine ⟨⟨_, ht⟩, flush0_3 _, ?_⟩
  rw [mem_blk3]
  have e : win0_3.index ⟨(i 1).val / 256 * 8 + (i 0).val, ht⟩ = ![((i 1).val / 256 * 8 + (i 0).val) % 8, ((i 1).val / 256 * 8 + (i 0).val) / 8, 0] := by
    show cc0_transform_3 (grid0.coords ⟨_, ht⟩) = _
    rw [tr3, coords0, coords1]
  rw [e]
  intro a
  match a with
  | ⟨0, _⟩ => show ((i 1).val / 256 * 8 + (i 0).val) % 8 * 1 ≤ (i 0).val ∧ (i 0).val < ((i 1).val / 256 * 8 + (i 0).val) % 8 * 1 + 1; omega
  | ⟨1, _⟩ => show ((i 1).val / 256 * 8 + (i 0).val) / 8 * 256 ≤ (i 1).val ∧ (i 1).val < ((i 1).val / 256 * 8 + (i 0).val) / 8 * 256 + 256; omega
  | ⟨2, _⟩ => show 0 * 1024 ≤ (i 2).val ∧ (i 2).val < 0 * 1024 + 1024; omega

theorem mem_blk4 (t : Fin cfg0.N) (i : S8x2048x256.Idx) :
    i ∈ ((cfg0.win 4).blk t).view.set ↔ ∀ a : Fin 3, win0_4.index t a * S1x256x256.size a ≤ (i a).val ∧ (i a).val < win0_4.index t a * S1x256x256.size a + S1x256x256.size a := by
  show i ∈ ((View.whole main_v2_2).slice (win0_4.rect t)).set ↔ _
  rw [View.set_slice_whole, Rect.mem_set_unit]
  exact Iff.rfl

theorem cover4 (i : S8x2048x256.Idx) : ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 256 := (i 2).isLt
  have ht : (i 1).val / 256 * 8 + (i 0).val < cfg0.N := lt_of_lt_of_eq (by omega : _ < 64) N_0.symm
  refine ⟨⟨_, ht⟩, flush0_4 _, ?_⟩
  rw [mem_blk4]
  have e : win0_4.index ⟨(i 1).val / 256 * 8 + (i 0).val, ht⟩ = ![((i 1).val / 256 * 8 + (i 0).val) % 8, ((i 1).val / 256 * 8 + (i 0).val) / 8, 0] := by
    show cc0_transform_4 (grid0.coords ⟨_, ht⟩) = _
    rw [tr4, coords0, coords1]
  rw [e]
  intro a
  match a with
  | ⟨0, _⟩ => show ((i 1).val / 256 * 8 + (i 0).val) % 8 * 1 ≤ (i 0).val ∧ (i 0).val < ((i 1).val / 256 * 8 + (i 0).val) % 8 * 1 + 1; omega
  | ⟨1, _⟩ => show ((i 1).val / 256 * 8 + (i 0).val) / 8 * 256 ≤ (i 1).val ∧ (i 1).val < ((i 1).val / 256 * 8 + (i 0).val) / 8 * 256 + 256; omega
  | ⟨2, _⟩ => show 0 * 256 ≤ (i 2).val ∧ (i 2).val < 0 * 256 + 256; omega

theorem mem_blk6 (t : Fin cfg0.N) (i : S8x2048x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v2_4).slice (win0_6.rect t)).set ↔ _
  rw [View.set_slice_whole, Rect.mem_set_unit]
  exact Iff.rfl

theorem cover6 (i : S8x2048x1024.Idx) : ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 1024 := (i 2).isLt
  have ht : (i 1).val / 256 * 8 + (i 0).val < cfg0.N := lt_of_lt_of_eq (by omega : _ < 64) N_0.symm
  refine ⟨⟨_, ht⟩, flush0_6 _, ?_⟩
  rw [mem_blk6]
  have e : win0_6.index ⟨(i 1).val / 256 * 8 + (i 0).val, ht⟩ = ![((i 1).val / 256 * 8 + (i 0).val) % 8, ((i 1).val / 256 * 8 + (i 0).val) / 8, 0] := by
    show cc0_transform_6 (grid0.coords ⟨_, ht⟩) = _
    rw [tr6, coords0, coords1]
  rw [e]
  intro a
  match a with
  | ⟨0, _⟩ => show ((i 1).val / 256 * 8 + (i 0).val) % 8 * 1 ≤ (i 0).val ∧ (i 0).val < ((i 1).val / 256 * 8 + (i 0).val) % 8 * 1 + 1; omega
  | ⟨1, _⟩ => show ((i 1).val / 256 * 8 + (i 0).val) / 8 * 256 ≤ (i 1).val ∧ (i 1).val < ((i 1).val / 256 * 8 + (i 0).val) / 8 * 256 + 256; omega
  | ⟨2, _⟩ => show 0 * 1024 ≤ (i 2).val ∧ (i 2).val < 0 * 1024 + 1024; omega

theorem mem_blk7 (t : Fin cfg0.N) (i : S8x2048x128.Idx) :
    i ∈ ((cfg0.win 7).blk t).view.set ↔ ∀ a : Fin 3, win0_7.index t a * S1x256x128.size a ≤ (i a).val ∧ (i a).val < win0_7.index t a * S1x256x128.size a + S1x256x128.size a := by
  show i ∈ ((View.whole main_v2_5).slice (win0_7.rect t)).set ↔ _
  rw [View.set_slice_whole, Rect.mem_set_unit]
  exact Iff.rfl

theorem cover7 (i : S8x2048x128.Idx) : ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 128 := (i 2).isLt
  have ht : (i 1).val / 256 * 8 + (i 0).val < cfg0.N := lt_of_lt_of_eq (by omega : _ < 64) N_0.symm
  refine ⟨⟨_, ht⟩, flush0_7 _, ?_⟩
  rw [mem_blk7]
  have e : win0_7.index ⟨(i 1).val / 256 * 8 + (i 0).val, ht⟩ = ![((i 1).val / 256 * 8 + (i 0).val) % 8, ((i 1).val / 256 * 8 + (i 0).val) / 8, 0] := by
    show cc0_transform_7 (grid0.coords ⟨_, ht⟩) = _
    rw [tr7, coords0, coords1]
  rw [e]
  intro a
  match a with
  | ⟨0, _⟩ => show ((i 1).val / 256 * 8 + (i 0).val) % 8 * 1 ≤ (i 0).val ∧ (i 0).val < ((i 1).val / 256 * 8 + (i 0).val) % 8 * 1 + 1; omega
  | ⟨1, _⟩ => show ((i 1).val / 256 * 8 + (i 0).val) / 8 * 256 ≤ (i 1).val ∧ (i 1).val < ((i 1).val / 256 * 8 + (i 0).val) / 8 * 256 + 256; omega
  | ⟨2, _⟩ => show 0 * 128 ≤ (i 2).val ∧ (i 2).val < 0 * 128 + 128; omega

theorem mem_blk5 (t : Fin cfg0.N) (i : S8x8x256x256.Idx) :
    i ∈ ((cfg0.win 5).blk t).view.set ↔ ∀ a : Fin 4, win0_5.index t a * S1x1x256x256.size a ≤ (i a).val ∧ (i a).val < win0_5.index t a * S1x1x256x256.size a + S1x1x256x256.size a := by
  show i ∈ ((View.whole main_v2_3).slice (win0_5.rect t)).set ↔ _
  rw [View.set_slice_whole, Rect.mem_set_unit]
  exact Iff.rfl

theorem cover5 (i : S8x8x256x256.Idx) : ∃ t : Fin cfg0.N, (cfg0.win 5).flush t = true ∧ i ∈ ((cfg0.win 5).blk t).view.set := by
  have h0 : (i 0).val < 8 := (i 0).isLt
  have h1 : (i 1).val < 8 := (i 1).isLt
  have h2 : (i 2).val < 256 := (i 2).isLt
  have h3 : (i 3).val < 256 := (i 3).isLt
  have ht : (i 1).val * 8 + (i 0).val < cfg0.N := lt_of_lt_of_eq (by omega : _ < 64) N_0.symm
  refine ⟨⟨_, ht⟩, flush0_5 _, ?_⟩
  rw [mem_blk5]
  have e : win0_5.index ⟨(i 1).val * 8 + (i 0).val, ht⟩ = ![((i 1).val * 8 + (i 0).val) % 8, ((i 1).val * 8 + (i 0).val) / 8, 0, 0] := by
    show cc0_transform_5 (grid0.coords ⟨_, ht⟩) = _
    rw [tr5, coords0, coords1]
  rw [e]
  intro a
  match a with
  | ⟨0, _⟩ => show ((i 1).val * 8 + (i 0).val) % 8 * 1 ≤ (i 0).val ∧ (i 0).val < ((i 1).val * 8 + (i 0).val) % 8 * 1 + 1; omega
  | ⟨1, _⟩ => show ((i 1).val * 8 + (i 0).val) / 8 * 1 ≤ (i 1).val ∧ (i 1).val < ((i 1).val * 8 + (i 0).val) / 8 * 1 + 1; omega
  | ⟨2, _⟩ => show 0 * 256 ≤ (i 2).val ∧ (i 2).val < 0 * 256 + 256; omega
  | ⟨3, _⟩ => show 0 * 256 ≤ (i 3).val ∧ (i 3).val < 0 * 256 + 256; omega

theorem mem_blk2 (t : Fin cfg0.N) (i : S8x16384x128.Idx) :
    i ∈ ((cfg0.win 2).blk t).view.set ↔ ∀ a : Fin 3, win0_2.index t a * S8x2048x128.size a ≤ (i a).val ∧ (i a).val < win0_2.index t a * S8x2048x128.size a + S8x2048x128.size a := by
  show i ∈ ((View.whole main_v2_0).slice (win0_2.rect t)).set ↔ _
  rw [View.set_slice_whole, Rect.mem_set_unit]
  exact Iff.rfl

theorem cover2 (i : S8x16384x128.Idx) : ∃ t : Fin cfg0.N, (cfg0.win 2).flush t = true ∧ i ∈ ((cfg0.win 2).blk t).view.set := by
  have h0 : (i 0).val < 8 := (i 0).isLt
  have h1 : (i 1).val < 16384 := (i 1).isLt
  have h2 : (i 2).val < 128 := (i 2).isLt
  have ht : (i 1).val / 2048 * 8 + 7 < cfg0.N := lt_of_lt_of_eq (by omega : _ < 64) N_0.symm
  refine ⟨⟨_, ht⟩, (flush0_2 _).mpr (by show ((i 1).val / 2048 * 8 + 7) % 8 = 7; omega), ?_⟩
  rw [mem_blk2]
  have e : win0_2.index ⟨(i 1).val / 2048 * 8 + 7, ht⟩ = ![0, ((i 1).val / 2048 * 8 + 7) / 8, 0] := by
    show cc0_transform_2 (grid0.coords ⟨_, ht⟩) = _
    rw [tr2, coords0]
  rw [e]
  intro a
  match a with
  | ⟨0, _⟩ => show 0 * 8 ≤ (i 0).val ∧ (i 0).val < 0 * 8 + 8; omega
  | ⟨1, _⟩ => show ((i 1).val / 2048 * 8 + 7) / 8 * 2048 ≤ (i 1).val ∧ (i 1).val < ((i 1).val / 2048 * 8 + 7) / 8 * 2048 + 2048; omega
  | ⟨2, _⟩ => show 0 * 128 ≤ (i 2).val ∧ (i 2).val < 0 * 128 + 128; omega

/-! ## The final arrays -/

/-- The kernel's results. -/
theorem result : θ_run defs (onTc (τ := τ) (main (F := Ideal))) ⟨m, fun _ => 0, ρ⟩ (fun r => ∀ c : Dev nD,
      r.2.mem ((c.tc : Thread nD τ).loc main_v2_0) = res0 m c ∧ r.2.mem ((c.tc : Thread nD τ).loc main_v2_1) = res1 m c ∧ r.2.mem ((c.tc : Thread nD τ).loc main_v2_2) = res2 m c ∧ r.2.mem ((c.tc : Thread nD τ).loc main_v2_3) = res3 m c ∧ r.2.mem ((c.tc : Thread nD τ).loc main_v2_4) = res4 m c ∧ r.2.mem ((c.tc : Thread nD τ).loc main_v2_5) = res5 m c) := by
  refine (θ_run defs _ _).mono (fun r h c => ?_) (launch m ρ)
  obtain ⟨after, hL, hA⟩ := RDat.FramePost.exists_exact h.1 c
  have f (w : Fin cfg0.W) (hw : fgt w = false) (hl : cfg0.loose w = false) (t : Fin cfg0.N) (hf : (cfg0.win w).flush t = true) : after w t = (dats m 0 c).after w t :=
    exact_of m c t w hw hl hf _ (hL w t hf)
  refine ⟨(hA 2).trans ?_, (hA 3).trans ?_, (hA 4).trans ?_, (hA 5).trans ?_, (hA 6).trans ?_, (hA 7).trans ?_⟩
  · exact ((rdat m c).withAfter after).arrAt_eq_of_cover 2 (res0 m c) (fun t hf => flushed2 m c t after ((flush0_2 t).mp hf) ((dats m 0 c).toRRel_leaves (fgt := fgt) (Rl := Rl m c) (w := 2) rfl (hL 2 t hf))) cover2
  · exact ((rdat m c).withAfter after).arrAt_eq_of_cover 3 (res1 m c) (fun t hf => flushed3 m c t after ((f 3 rfl rfl t hf).trans (after_3 m c t))) cover3
  · exact ((rdat m c).withAfter after).arrAt_eq_of_cover 4 (res2 m c) (fun t hf => flushed4 m c t after ((f 4 rfl rfl t hf).trans (after_4 m c t))) cover4
  · exact ((rdat m c).withAfter after).arrAt_eq_of_cover 5 (res3 m c) (fun t hf => flushed5 m c t after ((f 5 rfl rfl t hf).trans (after_5 m c t))) cover5
  · exact ((rdat m c).withAfter after).arrAt_eq_of_cover 6 (res4 m c) (fun t hf => flushed6 m c t after ((f 6 rfl rfl t hf).trans (after_6 m c t))) cover6
  · exact ((rdat m c).withAfter after).arrAt_eq_of_cover 7 (res5 m c) (fun t hf => flushed7 m c t after ((f 7 rfl rfl t hf).trans (after_7 m c t))) cover7

/-! ## The reference's results -/

section
variable (x0 : Vec Ideal S8x2048x2048 .f32) (x1 : Vec Ideal S2048x3664 .f32)

theorem eta3 {a b d : ℕ} (i : (⟨3, ![a, b, d]⟩ : Shape).Idx) : i = ix3 (i 0) (i 1) (i 2) := by
  funext k; apply Fin.ext
  match k with
  | ⟨0, _⟩ => rfl
  | ⟨1, _⟩ => rfl
  | ⟨2, _⟩ => rfl
theorem eta4 {a b d e : ℕ} (i : (⟨4, ![a, b, d, e]⟩ : Shape).Idx) : i = ix4 (i 0) (i 1) (i 2) (i 3) := by
  funext k; apply Fin.ext
  match k with
  | ⟨0, _⟩ => rfl
  | ⟨1, _⟩ => rfl
  | ⟨2, _⟩ => rfl
  | ⟨3, _⟩ => rfl

open Cert.Reference5Ideal.Read in
theorem ref0 (i : S8x16384x128.Idx) : val_main_v10 (F := Ideal) x0 x1 i = uOut x0 x1 (i 0) (i 1) (i 2) := (congrArg _ (eta3 i)).trans (Ref.u_ix x0 x1 _ _ _)
open Cert.Reference5Ideal.Read in
theorem ref1 (i : S8x2048x1024.Idx) : val_main_v15 (F := Ideal) x0 x1 i = qOut x0 x1 (i 0) (i 1) (i 2) := (congrArg _ (eta3 i)).trans (Ref.q_ix x0 x1 _ _ _)
open Cert.Reference5Ideal.Read in
theorem ref2 (i : S8x2048x256.Idx) : val_main_v16 (F := Ideal) x0 x1 i = kOut x0 x1 (i 0) (i 1) (i 2) := (congrArg _ (eta3 i)).trans (Ref.k_ix x0 x1 _ _ _)
open Cert.Reference5Ideal.Read in
theorem ref3 (i : S8x8x256x256.Idx) : val_main_v17 (F := Ideal) x0 x1 i = vOut x0 x1 (i 0) (i 1) (i 2) (i 3) := (congrArg _ (eta4 i)).trans (Ref.v_ix x0 x1 _ _ _ _)
open Cert.Reference5Ideal.Read in
theorem ref4 (i : S8x2048x1024.Idx) : val_main_v18 (F := Ideal) x0 x1 i = qiOut x0 x1 (i 0) (i 1) (i 2) := (congrArg _ (eta3 i)).trans (Ref.qi_ix x0 x1 _ _ _)
open Cert.Reference5Ideal.Read in
theorem ref5 (i : S8x2048x128.Idx) : val_main_v14 (F := Ideal) x0 x1 i = kwOut x0 x1 (i 0) (i 1) (i 2) := (congrArg _ (eta3 i)).trans (Ref.kw_ix x0 x1 _ _ _)
end

/-- Kernel and reference end with equal results. -/
theorem algebraic : Cert.algebraic_Kernel5Ideal_Reference5Ideal (hKernel5Ideal := Cert.Kernel5Ideal.Gen.facts) (hReference5Ideal := Cert.Reference5Ideal.Gen.facts) := by
  intro m g m' g' _ hm
  refine ⟨fun c => res0 m c, fun c => res1 m c, fun c => res2 m c, fun c => res3 m c, fun c => res4 m c, fun c => res5 m c,
    (θ_run defs _ _).mono (fun _ h c => ⟨(h.1 c).1, (h.1 c).2.1, (h.1 c).2.2.1, (h.1 c).2.2.2.1, (h.1 c).2.2.2.2.1, (h.1 c).2.2.2.2.2, h.2 c⟩) (θ_run_and (result m g) (unchanged m g)), ?_⟩
  refine (θ_run Cert.Reference5Ideal.defs _ _).mono (fun _ h c => ?_) (Cert.Reference5Ideal.Value.run m' g')
  obtain ⟨e0, e1⟩ := hm c
  obtain ⟨h0, h1, h2, h3, h4, h5, hr⟩ := h c
  refine ⟨h0.trans ?_, h1.trans ?_, h2.trans ?_, h3.trans ?_, h4.trans ?_, h5.trans ?_, hr⟩
  · refine (Cert.Reference5Ideal.Read.val_main_v10_eq _ _).trans ?_
    funext i
    refine (ref0 _ _ i).trans ?_
    rw [e0, e1]; rfl
  · refine (Cert.Reference5Ideal.Read.val_main_v15_eq _ _).trans ?_
    funext i
    refine (ref1 _ _ i).trans ?_
    rw [e0, e1]; rfl
  · refine (Cert.Reference5Ideal.Read.val_main_v16_eq _ _).trans ?_
    funext i
    refine (ref2 _ _ i).trans ?_
    rw [e0, e1]; rfl
  · refine (Cert.Reference5Ideal.Read.val_main_v17_eq _ _).trans ?_
    funext i
    refine (ref3 _ _ i).trans ?_
    rw [e0, e1]; rfl
  · refine (Cert.Reference5Ideal.Read.val_main_v18_eq _ _).trans ?_
    funext i
    refine (ref4 _ _ i).trans ?_
    rw [e0, e1]; rfl
  · refine (Cert.Reference5Ideal.Read.val_main_v14_eq _ _).trans ?_
    funext i
    refine (ref5 _ _ i).trans ?_
    rw [e0, e1]; rfl

end Cert.InProj

end
-- ==== Proof.lean ====
/- The claims of the feed-forward block, the output projection, the discretisation, the gated linear unit and the input projection, assembled from the modules under `Proof/Ffn/`, `Proof/Out/`, `Proof/Disc/`, `Proof/Glu/` and `Proof/InProj/`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Ffn.Frames
public import proofs.«01_k».proof.Proof.Ffn.Value
public import proofs.«01_k».proof.Proof.Out.Value
public import proofs.«01_k».proof.Proof.Disc.Value
public import proofs.«01_k».proof.Proof.Glu.Value
public import proofs.«01_k».proof.Proof.InProj.Frames
public import proofs.«01_k».proof.Proof.InProj.Value

@[expose] public section

set_option maxRecDepth 16384

noncomputable section

namespace Cert.Proof

open Idealize.ShloMosaic Idealize.SL.Sem

/-! The two kernel programs have one text, so their body tables are equal. -/

theorem bodies_eq : Cert.Kernel.defs₀ (F := Bits) = Cert.KernelIdeal.defs₀ (F := Bits) :=
  congrArg Defs.onTc (funext fun ℓ => funext fun a => match ℓ, a with
    | ⟨0, _⟩, (_, _) => rfl
    | ⟨_ + 1, h⟩, _ => absurd h (Nat.not_lt.2 (Nat.le_add_left _ _)))

theorem defs_eq : Cert.Kernel.defs (F := Bits) = Cert.KernelIdeal.defs (F := Bits) :=
  congrArg (Pipeline.defs Cert.Kernel.pcfgs) bodies_eq

/-- The kernel's frame at the machine's words is the ideal program's run at `Bits`. -/
theorem frame_kernel : Cert.quiescent_Kernel (hKernel := Cert.Kernel.Gen.facts) := fun m ρ _ => by
  rw [defs_eq]
  exact Cert.Ffn.quiet (F := Bits) m ρ

theorem frame_kernelIdeal : Cert.quiescent_KernelIdeal (hKernelIdeal := Cert.KernelIdeal.Gen.facts) := fun m ρ _ =>
  Cert.Ffn.quiet m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

theorem frame_kernel2 : Cert.quiescent_Kernel2 (hKernel2 := Cert.Kernel2.Gen.facts) := fun m ρ _ => Cert.Kernel2.Gen.frame m ρ

theorem frame_kernel2Ideal : Cert.quiescent_Kernel2Ideal (hKernel2Ideal := Cert.Kernel2Ideal.Gen.facts) := fun m ρ _ => Cert.Kernel2Ideal.Gen.frame m ρ

theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

theorem frame_kernel3 : Cert.quiescent_Kernel3 (hKernel3 := Cert.Kernel3.Gen.facts) := fun m ρ _ => Cert.Kernel3.Gen.frame m ρ

theorem frame_kernel3Ideal : Cert.quiescent_Kernel3Ideal (hKernel3Ideal := Cert.Kernel3Ideal.Gen.facts) := fun m ρ _ => Cert.Kernel3Ideal.Gen.frame m ρ

theorem frame_reference3 : Cert.quiescent_Reference3Ideal (hReference3Ideal := Cert.Reference3Ideal.Gen.facts) := fun m ρ _ =>
  (θ_run Cert.Reference3Ideal.defs _ _).mono (fun r h => ⟨fun c => (h c).2.2.2.2, sem_eq_zero_of_no_sems (by decide) r.2⟩)
    (Cert.Reference3Ideal.Value.run m ρ)

theorem frame_kernel4 : Cert.quiescent_Kernel4 (hKernel4 := Cert.Kernel4.Gen.facts) := fun m ρ _ => Cert.Kernel4.Gen.frame m ρ

theorem frame_kernel4Ideal : Cert.quiescent_Kernel4Ideal (hKernel4Ideal := Cert.Kernel4Ideal.Gen.facts) := fun m ρ _ => Cert.Kernel4Ideal.Gen.frame m ρ

theorem frame_reference4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-! The input projection's two programs have one text, too. -/

theorem bodies5_eq : Cert.Kernel5.defs₀ (F := Bits) = Cert.Kernel5Ideal.defs₀ (F := Bits) :=
  congrArg Defs.onTc (funext fun ℓ => funext fun a => match ℓ, a with
    | ⟨0, _⟩, (_, _) => rfl
    | ⟨_ + 1, h⟩, _ => absurd h (Nat.not_lt.2 (Nat.le_add_left _ _)))

theorem defs5_eq : Cert.Kernel5.defs (F := Bits) = Cert.Kernel5Ideal.defs (F := Bits) :=
  congrArg (Pipeline.defs Cert.Kernel5.pcfgs) bodies5_eq

theorem frame_kernel5 : Cert.quiescent_Kernel5 (hKernel5 := Cert.Kernel5.Gen.facts) := fun m ρ _ => by
  rw [defs5_eq]
  exact Cert.InProj.quiet (F := Bits) m ρ

theorem frame_kernel5Ideal : Cert.quiescent_Kernel5Ideal (hKernel5Ideal := Cert.Kernel5Ideal.Gen.facts) := fun m ρ _ =>
  Cert.InProj.quiet m ρ

theorem frame_reference5 : Cert.quiescent_Reference5Ideal (hReference5Ideal := Cert.Reference5Ideal.Gen.facts) := fun m ρ _ =>
  (θ_run Cert.Reference5Ideal.defs _ _).mono (fun r h => ⟨fun c => (h c).2.2.2.2.2.2, sem_eq_zero_of_no_sems (by decide) r.2⟩)
    (Cert.Reference5Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  frame_kernel, frame_kernelIdeal, frame_reference, frame_kernel2, frame_kernel2Ideal, frame_reference2,
  frame_kernel3, frame_kernel3Ideal, frame_reference3,
  frame_kernel4, frame_kernel4Ideal, frame_reference4,
  frame_kernel5, frame_kernel5Ideal, frame_reference5,
  trivial, Cert.Ffn.algebraic, trivial, Cert.OutProj.algebraic, trivial, Cert.Disc.algebraic,
  trivial, Cert.Glu.algebraic, trivial, Cert.InProj.algebraic⟩

end Cert.Proof

end
